-- ==== Defs.lean ====
def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_finite [hPre_finite : Cert.Pre_finite.Facts] (m : (ℓ : Loc Cert.SelectIdeal.nD Cert.SelectIdeal.τ Cert.SelectIdeal.sig) → Buf (Elt Ideal) ℓ) : Prop :=
  ∀ c : Dev Cert.SelectIdeal.nD,
    (Cert.Pre_finite.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_finite [hPre_finite : Cert.Pre_finite.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_finite.fn (F := Ideal) (m ((c.tc : Thread Cert.SelectRefIdeal.nD Cert.SelectRefIdeal.τ).loc Cert.SelectRefIdeal.main_arg0)) (m ((c.tc : Thread Cert.SelectRefIdeal.nD Cert.SelectRefIdeal.τ).loc Cert.SelectRefIdeal.main_arg1))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Up [hPre_tiles_named : Cert.Pre_tiles_named.Facts] (m : (ℓ : Loc Cert.Up.nD Cert.Up.τ Cert.Up.sig) → Buf (Elt Bits) ℓ) : Prop :=
  ∀ c : Dev Cert.Up.nD,
    (Cert.Pre_tiles_named.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5))) = (fun _ => 1#1)

def Pre_UpIdeal [hPre_tiles_named : Cert.Pre_tiles_named.Facts] (m : (ℓ : Loc Cert.UpIdeal.nD Cert.UpIdeal.τ Cert.UpIdeal.sig) → Buf (Elt Ideal) ℓ) : Prop :=
  ∀ c : Dev Cert.UpIdeal.nD,
    (Cert.Pre_tiles_named.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_tiles_named [hPre_tiles_named : Cert.Pre_tiles_named.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_tiles_named.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))) = (fun _ => 1#1)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_finite [hSelectIdeal : Cert.SelectIdeal.Facts] [hPre_finite : Cert.Pre_finite.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_finite m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_SelectRefIdeal_pre_finite [hSelectRefIdeal : Cert.SelectRefIdeal.Facts] [hPre_finite : Cert.Pre_finite.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_finite m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Up [hUp : Cert.Up.Facts] [hPre_tiles_named : Cert.Pre_tiles_named.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] [hPre_tiles_named : Cert.Pre_tiles_named.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_UpRefIdeal_pre_tiles_named [hUpRefIdeal : Cert.UpRefIdeal.Facts] [hPre_tiles_named : Cert.Pre_tiles_named.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_tiles_named m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def preserves_Select_SelectIdeal : Prop :=
  True

def algebraic_SelectIdeal_SelectRefIdeal_pre_finite [hSelectIdeal : Cert.SelectIdeal.Facts] [hSelectRefIdeal : Cert.SelectRefIdeal.Facts] [hPre_finite : Cert.Pre_finite.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_finite m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v109) = v0 c
          ∧ r.2.mem ((c.tc : Thread Cert.SelectRefIdeal.nD Cert.SelectRefIdeal.τ).loc Cert.SelectRefIdeal.main_v110) = v1 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1))

def preserves_Out_OutIdeal : Prop :=
  IdealRules.named_const.Statement Cert.OutIdeal.κ "alpha" .f32 0x3FB504F3#32 ((Real.sqrt 2 : ℝ) : EReal)

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Ffn_FfnIdeal : Prop :=
  IdealRules.named_const.Statement Cert.FfnIdeal.κ "alpha" .f32 0x3FB504F3#32 ((Real.sqrt 2 : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Up_UpIdeal : Prop :=
  True

def algebraic_UpIdeal_UpRefIdeal [hUpIdeal : Cert.UpIdeal.Facts] [hUpRefIdeal : Cert.UpRefIdeal.Facts] [hPre_tiles_named : Cert.Pre_tiles_named.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v25) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def Claim : Prop :=
  ∃ (hSelect : Cert.Select.Facts) (hSelectIdeal : Cert.SelectIdeal.Facts) (hSelectRefIdeal : Cert.SelectRefIdeal.Facts) (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hUp : Cert.Up.Facts) (hUpIdeal : Cert.UpIdeal.Facts) (hUpRefIdeal : Cert.UpRefIdeal.Facts) (hPre_finite : Cert.Pre_finite.Facts) (hPre_tiles_named : Cert.Pre_tiles_named.Facts),
    quiescent_Select (hSelect := hSelect)
    ∧ quiescent_SelectIdeal (hSelectIdeal := hSelectIdeal)
    ∧ quiescent_SelectIdeal_pre_finite (hSelectIdeal := hSelectIdeal) (hPre_finite := hPre_finite)
    ∧ quiescent_SelectRefIdeal (hSelectRefIdeal := hSelectRefIdeal)
    ∧ quiescent_SelectRefIdeal_pre_finite (hSelectRefIdeal := hSelectRefIdeal) (hPre_finite := hPre_finite)
    ∧ quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Up (hUp := hUp) (hPre_tiles_named := hPre_tiles_named)
    ∧ quiescent_UpIdeal (hUpIdeal := hUpIdeal) (hPre_tiles_named := hPre_tiles_named)
    ∧ quiescent_UpRefIdeal (hUpRefIdeal := hUpRefIdeal)
    ∧ quiescent_UpRefIdeal_pre_tiles_named (hUpRefIdeal := hUpRefIdeal) (hPre_tiles_named := hPre_tiles_named)
    ∧ preserves_Select_SelectIdeal
    ∧ algebraic_SelectIdeal_SelectRefIdeal_pre_finite (hSelectIdeal := hSelectIdeal) (hSelectRefIdeal := hSelectRefIdeal) (hPre_finite := hPre_finite)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Up_UpIdeal
    ∧ algebraic_UpIdeal_UpRefIdeal (hUpIdeal := hUpIdeal) (hUpRefIdeal := hUpRefIdeal) (hPre_tiles_named := hPre_tiles_named)
-- ==== Pre_finite.lean ====
abbrev S2x8x4096x128 : Shape := ⟨4, ![2, 8, 4096, 128]⟩
abbrev S2x2x2x256x128 : Shape := ⟨5, ![2, 2, 2, 256, 128]⟩
abbrev S_ : Shape := ⟨0, ![]⟩
abbrev S2x1x2x255x128 : Shape := ⟨5, ![2, 1, 2, 255, 128]⟩
abbrev S2x2x255x128 : Shape := ⟨4, ![2, 2, 255, 128]⟩

class Facts : Prop where
  bitsLt_bf16_f32 : FTy.bits .bf16 < FTy.bits .f32
  bcast_S_S2x8x4096x128 : S_.BroadcastsInDim S2x8x4096x128 (![] : Fin 0 → Fin S2x8x4096x128.rank)
  reducesTo_S2x8x4096x128_S_d0_1_2_3 : S2x8x4096x128.ReducesTo [0, 1, 2, 3] S_
  h_S_ : 0 < S_.numel
  slices_S2x2x2x256x128_S2x1x2x255x128_0_0_0_0_0 : S2x2x2x256x128.Slices ![0, 0, 0, 0, 0] S2x1x2x255x128
  shapeCasts_S2x1x2x255x128_S2x2x255x128 : S2x1x2x255x128.ShapeCasts S2x2x255x128
  bcast_S_S2x2x255x128 : S_.BroadcastsInDim S2x2x255x128 (![] : Fin 0 → Fin S2x2x255x128.rank)
  reducesTo_S2x2x255x128_S_d0_1_2_3 : S2x2x255x128.ReducesTo [0, 1, 2, 3] S_

variable [Facts]

def fn {F : FTy → Type} [FloatOps F] (main_arg0 : FVec F S2x8x4096x128 .bf16) (main_arg1 : FVec F S2x2x2x256x128 .bf16) : IVec S_ 1 :=
  let main_v0 : FVec F S2x8x4096x128 .f32 := (extf .f32 · bitsLt_bf16_f32) main_arg0
  let main_v1 : FVec F S2x8x4096x128 .f32 := Host.absf main_v0
  let main_cst : FVec F S_ .f32 := constant S_ .f32 0x7F800000#32
  let main_v2 : FVec F S2x8x4096x128 .f32 := broadcastInDim S2x8x4096x128 ![] bcast_S_S2x8x4096x128 main_cst
  let main_v3 : IVec S2x8x4096x128 1 := cmpf .olt main_v1 main_v2
  let main_c : IVec S_ 1 := constantI S_ 1 1#1
  let main_v4 : IVec S_ 1 := (fun x v => Host.reduce IntOp.andi x v reducesTo_S2x8x4096x128_S_d0_1_2_3 h_S_) main_v3 main_c
  let main_v5 : FVec F S2x1x2x255x128 .bf16 := (extractStridedSlice S2x1x2x255x128 ![0, 0, 0, 0, 0] · slices_S2x2x2x256x128_S2x1x2x255x128_0_0_0_0_0) main_arg1
  let main_v6 : FVec F S2x2x255x128 .bf16 := shapeCast S2x2x255x128 main_v5 shapeCasts_S2x1x2x255x128_S2x2x255x128
  let main_v7 : FVec F S2x2x255x128 .f32 := (extf .f32 · bitsLt_bf16_f32) main_v6
  let main_v8 : FVec F S2x2x255x128 .f32 := Host.absf main_v7
  let main_cst_0 : FVec F S_ .f32 := constant S_ .f32 0x7F800000#32
  let main_v9 : FVec F S2x2x255x128 .f32 := broadcastInDim S2x2x255x128 ![] bcast_S_S2x2x255x128 main_cst_0
  let main_v10 : IVec S2x2x255x128 1 := cmpf .olt main_v8 main_v9
  let main_c_1 : IVec S_ 1 := constantI S_ 1 1#1
  let main_v11 : IVec S_ 1 := (fun x v => Host.reduce IntOp.andi x v reducesTo_S2x2x255x128_S_d0_1_2_3 h_S_) main_v10 main_c_1
  let main_v12 : IVec S_ 1 := andi main_v4 main_v11
  main_v12
-- ==== Pre_tiles_named.lean ====
abbrev S42 : Shape := ⟨1, ![42]⟩
abbrev S21504x2048 : Shape := ⟨2, ![21504, 2048]⟩
abbrev S8x2048x7168 : Shape := ⟨3, ![8, 2048, 7168]⟩
abbrev S_ : Shape := ⟨0, ![]⟩
abbrev S1 : Shape := ⟨1, ![1]⟩
abbrev S41 : Shape := ⟨1, ![41]⟩

class Facts : Prop where
  bcast_S_S42 : S_.BroadcastsInDim S42 (![] : Fin 0 → Fin S42.rank)
  slices_S42_S1_0 : S42.Slices ![0] S1
  slices_S42_S41_0 : S42.Slices ![0] S41
  concatenates_S1_S41_S42_d0 : Shape.Concatenates [S1, S41] S42 0

variable [Facts]

def fn {F : FTy → Type} [FloatOps F] (main_arg0 : IVec S42 32) (main_arg1 : IVec S42 32) (main_arg2 : IVec S42 32) (main_arg3 : FVec F S21504x2048 .bf16) (main_arg4 : FVec F S8x2048x7168 .f32) (main_arg5 : FVec F S8x2048x7168 .f32) : IVec S42 1 :=
  let main_c : IVec S_ 32 := constantI S_ 32 0#32
  let main_v0 : IVec S42 32 := broadcastInDim S42 ![] bcast_S_S42 main_c
  let main_v1 : IVec S42 1 := cmpi .sge main_arg0 main_v0
  let main_c_0 : IVec S_ 32 := constantI S_ 32 8#32
  let main_v2 : IVec S42 32 := broadcastInDim S42 ![] bcast_S_S42 main_c_0
  let main_v3 : IVec S42 1 := cmpi .slt main_arg0 main_v2
  let main_v4 : IVec S42 1 := andi main_v1 main_v3
  let main_c_1 : IVec S_ 32 := constantI S_ 32 0#32
  let main_v5 : IVec S42 32 := broadcastInDim S42 ![] bcast_S_S42 main_c_1
  let main_v6 : IVec S42 1 := cmpi .sge main_arg2 main_v5
  let main_v7 : IVec S42 1 := andi main_v4 main_v6
  let main_c_2 : IVec S_ 32 := constantI S_ 32 2#32
  let main_v8 : IVec S42 32 := broadcastInDim S42 ![] bcast_S_S42 main_c_2
  let main_v9 : IVec S42 1 := cmpi .slt main_arg2 main_v8
  let main_v10 : IVec S42 1 := andi main_v7 main_v9
  let main_v11 : IVec S1 32 := (extractStridedSlice S1 ![0] · slices_S42_S1_0) main_arg0
  let main_v12 : IVec S41 32 := (extractStridedSlice S41 ![0] · slices_S42_S41_0) main_arg0
  let main_v13 : IVec S42 32 := (fun a b => concatenate S42 0 [⟨S1, a⟩, ⟨S41, b⟩] concatenates_S1_S41_S42_d0) main_v11 main_v12
  let main_v14 : IVec S42 1 := cmpi .eq main_arg0 main_v13
  let main_c_3 : IVec S_ 32 := constantI S_ 32 1#32
  let main_v15 : IVec S42 32 := broadcastInDim S42 ![] bcast_S_S42 main_c_3
  let main_v16 : IVec S42 1 := cmpi .eq main_arg1 main_v15
  let main_v17 : IVec S42 1 := ori main_v14 main_v16
  let main_v18 : IVec S42 1 := andi main_v10 main_v17
  main_v18
-- ==== Select.lean ====
abbrev S2x8x4096x128 : Shape := ⟨4, ![2, 8, 4096, 128]⟩
abbrev S2x2x2x256x128 : Shape := ⟨5, ![2, 2, 2, 256, 128]⟩
abbrev S64x256 : Shape := ⟨2, ![64, 256]⟩
abbrev S2x2x4096x128 : Shape := ⟨4, ![2, 2, 4096, 128]⟩
abbrev S1x4x512x128 : Shape := ⟨4, ![1, 4, 512, 128]⟩
abbrev S1x1x1x256x128 : Shape := ⟨5, ![1, 1, 1, 256, 128]⟩
abbrev S1x1x512x128 : Shape := ⟨4, ![1, 1, 512, 128]⟩
abbrev S4x512x128 : Shape := ⟨3, ![4, 512, 128]⟩
abbrev S2048x128 : Shape := ⟨2, ![2048, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩
abbrev S512x256 : Shape := ⟨2, ![512, 256]⟩
abbrev S64x512 : Shape := ⟨2, ![64, 512]⟩
abbrev S1x512 : Shape := ⟨2, ![1, 512]⟩
abbrev S128x512 : Shape := ⟨2, ![128, 512]⟩
abbrev S512x128 : Shape := ⟨2, ![512, 128]⟩

abbrev nBuf : Space → Nat
  | .hbm => 5
  | .vmem => 11
  | .smem => 0
  | _ => 0

abbrev bufTy : (tb : Table) → Fin (tcTables nBuf tb) → BufTy
  | .hbm, ⟨0, _⟩ => ⟨S2x8x4096x128, .bf16⟩
  | .hbm, ⟨1, _⟩ => ⟨S2x2x2x256x128, .bf16⟩
  | .hbm, ⟨2, _⟩ => ⟨S64x256, .f32⟩
  | .hbm, ⟨3, _⟩ => ⟨S2x8x4096x128, .bf16⟩
  | .hbm, ⟨4, _⟩ => ⟨S2x2x4096x128, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x1x1x256x128, .bf16⟩
  | .local _ .vmem, ⟨3, _⟩ => ⟨S1x1x1x256x128, .bf16⟩
  | .local _ .vmem, ⟨4, _⟩ => ⟨S1x1x1x256x128, .bf16⟩
  | .local _ .vmem, ⟨5, _⟩ => ⟨S1x1x1x256x128, .bf16⟩
  | .local _ .vmem, ⟨6, _⟩ => ⟨S64x256, .f32⟩
  | .local _ .vmem, ⟨7, _⟩ => ⟨S1x4x512x128, .bf16⟩
  | .local _ .vmem, ⟨8, _⟩ => ⟨S1x4x512x128, .bf16⟩
  | .local _ .vmem, ⟨9, _⟩ => ⟨S1x1x512x128, .bf16⟩
  | .local _ .vmem, ⟨10, _⟩ => ⟨S1x1x512x128, .bf16⟩
  | _, _ => ⟨S2x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SelectRefIdeal.lean ====
abbrev S2x8x4096x128 : Shape := ⟨4, ![2, 8, 4096, 128]⟩
abbrev S2x2x2x256x128 : Shape := ⟨5, ![2, 2, 2, 256, 128]⟩
abbrev S2x2x4x4096x128 : Shape := ⟨5, ![2, 2, 4, 4096, 128]⟩
abbrev S2x1x2x255x128 : Shape := ⟨5, ![2, 1, 2, 255, 128]⟩
abbrev S2x2x255x128 : Shape := ⟨4, ![2, 2, 255, 128]⟩
abbrev S4096 : Shape := ⟨1, ![4096]⟩
abbrev S255 : Shape := ⟨1, ![255]⟩
abbrev S_ : Shape := ⟨0, ![]⟩
abbrev S2x2x4x4096x255 : Shape := ⟨5, ![2, 2, 4, 4096, 255]⟩
abbrev S1x255 : Shape := ⟨2, ![1, 255]⟩
abbrev S4096x1 : Shape := ⟨2, ![4096, 1]⟩
abbrev S4096x255 : Shape := ⟨2, ![4096, 255]⟩
abbrev S2x2x4x4096 : Shape := ⟨4, ![2, 2, 4, 4096]⟩
abbrev S2x2x4x4096x1 : Shape := ⟨5, ![2, 2, 4, 4096, 1]⟩
abbrev S255x1 : Shape := ⟨2, ![255, 1]⟩
abbrev S64 : Shape := ⟨1, ![64]⟩
abbrev S1x64 : Shape := ⟨2, ![1, 64]⟩
abbrev S255x64 : Shape := ⟨2, ![255, 64]⟩
abbrev S2x2x4096x255 : Shape := ⟨4, ![2, 2, 4096, 255]⟩
abbrev S2x2x4096x64 : Shape := ⟨4, ![2, 2, 4096, 64]⟩
abbrev S4096x64 : Shape := ⟨2, ![4096, 64]⟩
abbrev S2x2x4096x16 : Shape := ⟨4, ![2, 2, 4096, 16]⟩
abbrev S2x2x4096x16x1 : Shape := ⟨5, ![2, 2, 4096, 16, 1]⟩
abbrev S1x1x1x1x64 : Shape := ⟨5, ![1, 1, 1, 1, 64]⟩
abbrev S2x2x4096x16x64 : Shape := ⟨5, ![2, 2, 4096, 16, 64]⟩
abbrev S2x2x4096x128 : Shape := ⟨4, ![2, 2, 4096, 128]⟩

abbrev nBuf : Space → Nat
  | .hbm => 176
  | .vmem => 0
  | .smem => 0
  | _ => 0

abbrev hbmTy0_0 (i : Nat) : BufTy := match i % 128 with
  | 0 => ⟨S2x8x4096x128, .bf16⟩
  | 1 => ⟨S2x2x2x256x128, .bf16⟩
  | 2 => ⟨S2x8x4096x128, .f32⟩
  | 3 => ⟨S2x2x4x4096x128, .f32⟩
  | 4 => ⟨S2x1x2x255x128, .bf16⟩
  | 5 => ⟨S2x2x255x128, .bf16⟩
  | 6 => ⟨S2x2x255x128, .f32⟩
  | 7 => ⟨S2x1x2x255x128, .bf16⟩
  | 8 => ⟨S2x2x255x128, .bf16⟩
  | 9 => ⟨S2x2x255x128, .f32⟩
  | 10 => ⟨S4096, .i32⟩
  | 11 => ⟨S255, .i32⟩
  | 12 => ⟨S_, .i32⟩
  | 13 => ⟨S255, .i32⟩
  | 14 => ⟨S255, .i32⟩
  | 15 => ⟨S_, .i32⟩
  | 16 => ⟨S255, .i32⟩
  | 17 => ⟨S255, .i32⟩
  | 18 => ⟨S_, .i32⟩
  | 19 => ⟨S255, .i32⟩
  | 20 => ⟨S255, .i32⟩
  | 21 => ⟨S2x2x4x4096x255, .f32⟩
  | 22 => ⟨S1x255, .i32⟩
  | 23 => ⟨S4096x1, .i32⟩
  | 24 => ⟨S4096x255, .i32⟩
  | 25 => ⟨S4096x255, .i32⟩
  | 26 => ⟨S4096x255, .i1⟩
  | 27 => ⟨S_, .f32⟩
  | 28 => ⟨S_, .f32⟩
  | 29 => ⟨S2x2x4x4096x255, .i1⟩
  | 30 => ⟨S2x2x4x4096x255, .f32⟩
  | 31 => ⟨S2x2x4x4096x255, .f32⟩
  | 32 => ⟨S_, .f32⟩
  | 33 => ⟨S2x2x4x4096, .f32⟩
  | 34 => ⟨S2x2x4x4096x1, .f32⟩
  | 35 => ⟨S2x2x4x4096x1, .f32⟩
  | 36 => ⟨S_, .f32⟩
  | 37 => ⟨S2x2x4x4096x1, .f32⟩
  | 38 => ⟨S2x2x4x4096x1, .i1⟩
  | 39 => ⟨S_, .f32⟩
  | 40 => ⟨S_, .f32⟩
  | 41 => ⟨S2x2x4x4096x1, .f32⟩
  | 42 => ⟨S2x2x4x4096x1, .f32⟩
  | 43 => ⟨S2x2x4x4096x255, .f32⟩
  | 44 => ⟨S2x2x4x4096x255, .f32⟩
  | 45 => ⟨S2x2x4x4096x255, .f32⟩
  | 46 => ⟨S_, .f32⟩
  | 47 => ⟨S_, .f32⟩
  | 48 => ⟨S2x2x4x4096x255, .i1⟩
  | 49 => ⟨S2x2x4x4096x255, .f32⟩
  | 50 => ⟨S2x2x4x4096x255, .f32⟩
  | 51 => ⟨S_, .f32⟩
  | 52 => ⟨S2x2x4x4096, .f32⟩
  | 53 => ⟨S2x2x4x4096x1, .f32⟩
  | 54 => ⟨S_, .f32⟩
  | 55 => ⟨S2x2x4x4096x1, .f32⟩
  | 56 => ⟨S2x2x4x4096x1, .f32⟩
  | 57 => ⟨S2x2x4x4096x255, .f32⟩
  | 58 => ⟨S2x2x4x4096x255, .f32⟩
  | 59 => ⟨S2x2x4x4096x128, .f32⟩
  | 60 => ⟨S255, .i32⟩
  | 61 => ⟨S255x1, .i32⟩
  | 62 => ⟨S64, .i32⟩
  | 63 => ⟨S1x64, .i32⟩
  | 64 => ⟨S_, .i32⟩
  | 65 => ⟨S255x1, .i32⟩
  | 66 => ⟨S255x1, .i32⟩
  | 67 => ⟨S_, .i32⟩
  | 68 => ⟨S1x64, .i32⟩
  | 69 => ⟨S1x64, .i32⟩
  | 70 => ⟨S_, .i32⟩
  | 71 => ⟨S1x64, .i32⟩
  | 72 => ⟨S1x64, .i32⟩
  | 73 => ⟨S_, .i32⟩
  | 74 => ⟨S1x64, .i32⟩
  | 75 => ⟨S1x64, .i32⟩
  | 76 => ⟨S255x64, .i32⟩
  | 77 => ⟨S255x64, .i32⟩
  | 78 => ⟨S255x64, .i1⟩
  | 79 => ⟨S_, .i32⟩
  | 80 => ⟨S255x1, .i32⟩
  | 81 => ⟨S255x1, .i32⟩
  | 82 => ⟨S_, .i32⟩
  | 83 => ⟨S255x1, .i32⟩
  | 84 => ⟨S255x1, .i32⟩
  | 85 => ⟨S_, .i32⟩
  | 86 => ⟨S255x1, .i32⟩
  | 87 => ⟨S255x1, .i32⟩
  | 88 => ⟨S_, .i32⟩
  | 89 => ⟨S1x64, .i32⟩
  | 90 => ⟨S1x64, .i32⟩
  | 91 => ⟨S255x64, .i32⟩
  | 92 => ⟨S255x64, .i32⟩
  | 93 => ⟨S255x64, .i1⟩
  | 94 => ⟨S255x64, .i1⟩
  | 95 => ⟨S255x64, .f32⟩
  | 96 => ⟨S_, .f32⟩
  | 97 => ⟨S2x2x4096x255, .f32⟩
  | 98 => ⟨S2x2x4096x64, .f32⟩
  | 99 => ⟨S64, .i32⟩
  | 100 => ⟨S4096x1, .i32⟩
  | 101 => ⟨S_, .i32⟩
  | 102 => ⟨S_, .i32⟩
  | 103 => ⟨S4096x1, .i32⟩
  | 104 => ⟨S4096x1, .i32⟩
  | 105 => ⟨S4096x1, .i32⟩
  | 106 => ⟨S_, .i32⟩
  | 107 => ⟨S4096x1, .i32⟩
  | 108 => ⟨S4096x1, .i1⟩
  | 109 => ⟨S4096x1, .i32⟩
  | 110 => ⟨S4096x1, .i32⟩
  | 111 => ⟨S_, .i32⟩
  | 112 => ⟨S4096x1, .i32⟩
  | 113 => ⟨S4096x1, .i1⟩
  | 114 => ⟨S4096x1, .i1⟩
  | 115 => ⟨S_, .i32⟩
  | 116 => ⟨S4096x1, .i32⟩
  | 117 => ⟨S4096x1, .i32⟩
  | 118 => ⟨S4096x1, .i32⟩
  | 119 => ⟨S1x64, .i32⟩
  | 120 => ⟨S4096x64, .i32⟩
  | 121 => ⟨S4096x64, .i32⟩
  | 122 => ⟨S4096x64, .i1⟩
  | 123 => ⟨S1x64, .i32⟩
  | 124 => ⟨S_, .i32⟩
  | 125 => ⟨S1x64, .i32⟩
  | 126 => ⟨S1x64, .i1⟩
  | 127 => ⟨S1x64, .i32⟩
  | _ => ⟨S2x8x4096x128, .bf16⟩

abbrev hbmTy0_1 (i : Nat) : BufTy := match i % 128 with
  | 0 => ⟨S4096x64, .i32⟩
  | 1 => ⟨S4096x64, .i32⟩
  | 2 => ⟨S4096x64, .i1⟩
  | 3 => ⟨S4096x64, .i1⟩
  | 4 => ⟨S4096x64, .i1⟩
  | 5 => ⟨S1x64, .i32⟩
  | 6 => ⟨S_, .i32⟩
  | 7 => ⟨S4096x1, .i32⟩
  | 8 => ⟨S4096x1, .i32⟩
  | 9 => ⟨S4096x64, .i32⟩
  | 10 => ⟨S4096x64, .i32⟩
  | 11 => ⟨S4096x64, .i1⟩
  | 12 => ⟨S4096x64, .i1⟩
  | 13 => ⟨S_, .f32⟩
  | 14 => ⟨S_, .f32⟩
  | 15 => ⟨S2x2x4096x64, .i1⟩
  | 16 => ⟨S2x2x4096x64, .f32⟩
  | 17 => ⟨S2x2x4096x64, .f32⟩
  | 18 => ⟨S_, .f32⟩
  | 19 => ⟨S_, .f32⟩
  | 20 => ⟨S2x2x4096x64, .i1⟩
  | 21 => ⟨S2x2x4096x64, .f32⟩
  | 22 => ⟨S2x2x4096x64, .f32⟩
  | 23 => ⟨S2x2x4096x16, .f32⟩
  | 24 => ⟨S2x2x4096x16, .i32⟩
  | 25 => ⟨S2x2x4096x16x1, .i32⟩
  | 26 => ⟨S1x1x1x1x64, .i32⟩
  | 27 => ⟨S2x2x4096x16x64, .i32⟩
  | 28 => ⟨S2x2x4096x16x64, .i32⟩
  | 29 => ⟨S2x2x4096x16x64, .i1⟩
  | 30 => ⟨S_, .f32⟩
  | 31 => ⟨S2x2x4096x16, .f32⟩
  | 32 => ⟨S2x2x4096x16, .i1⟩
  | 33 => ⟨S2x2x4096x16x1, .i1⟩
  | 34 => ⟨S2x2x4096x16x64, .i1⟩
  | 35 => ⟨S2x2x4096x16x64, .i1⟩
  | 36 => ⟨S_, .i1⟩
  | 37 => ⟨S2x2x4096x64, .i1⟩
  | 38 => ⟨S_, .f32⟩
  | 39 => ⟨S_, .f32⟩
  | 40 => ⟨S2x2x4096x64, .f32⟩
  | 41 => ⟨S2x2x4096x64, .f32⟩
  | 42 => ⟨S2x2x4096x64, .f32⟩
  | 43 => ⟨S_, .f32⟩
  | 44 => ⟨S2x2x4096x128, .f32⟩
  | 45 => ⟨S2x8x4096x128, .f32⟩
  | 46 => ⟨S2x8x4096x128, .bf16⟩
  | 47 => ⟨S2x2x4096x128, .bf16⟩
  | _ => ⟨S2x8x4096x128, .bf16⟩

abbrev hbmTy (i : Nat) : BufTy := match i / 128 with
  | 0 => hbmTy0_0 i
  | 1 => hbmTy0_1 i
  | _ => ⟨S2x8x4096x128, .bf16⟩

abbrev bufTy : (tb : Table) → Fin (tcTables nBuf tb) → BufTy
  | .hbm, ⟨i, _⟩ => hbmTy i
  | _, _ => ⟨S2x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_c : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_0 : Ref sig .tc := ⟨.hbm, 115, rfl⟩
abbrev main_call3_v12 : Ref sig .tc := ⟨.hbm, 116, rfl⟩
abbrev main_call3_v13 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_18 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_19 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_20 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_v93 : Ref sig .tc := ⟨.hbm, 145, rfl⟩
abbrev main_cst_21 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v94 : Ref sig .tc := ⟨.hbm, 150, rfl⟩
abbrev main_values : Ref sig .tc := ⟨.hbm, 151, rfl⟩
abbrev main_indices : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_22 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_c_23 : Ref sig .tc := ⟨.hbm, 164, rfl⟩
abbrev main_v105 : Ref sig .tc := ⟨.hbm, 165, rfl⟩
abbrev main_cst_24 : Ref sig .tc := ⟨.hbm, 166, rfl⟩
abbrev main_cst_25 : Ref sig .tc := ⟨.hbm, 167, rfl⟩
abbrev main_call6_v0 : Ref sig .tc := ⟨.hbm, 168, rfl⟩
abbrev main_call6_v1 : Ref sig .tc := ⟨.hbm, 169, rfl⟩
abbrev main_v106 : Ref sig .tc := ⟨.hbm, 170, rfl⟩
abbrev main_cst_26 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩

abbrev nD : Nat := 1
abbrev τ : Topo := Topo.v7x

variable {F : FTy → Type} [FloatOps F]
-- ==== Out.lean ====
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S2048x2048, .bf16⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutIdeal.lean ====
variable {F : FTy → Type} [FloatOps F] [Named F]
def κ : String → Option EReal := fun
  | "alpha" => some ((Real.sqrt 2 : ℝ) : EReal)
  | _ => none
-- ==== OutRefIdeal.lean ====
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S2048x2048, .bf16⟩
  | .hbm, ⟨5, _⟩ => ⟨S2048, .f32⟩
  | .hbm, ⟨6, _⟩ => ⟨S2048, .f32⟩
  | .hbm, ⟨7, _⟩ => ⟨S8192x2048, .bf16⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Ffn.lean ====
abbrev S8192x2048 : Shape := ⟨2, ![8192, 2048]⟩
abbrev S2048x5504 : Shape := ⟨2, ![2048, 5504]⟩
abbrev S5504x2048 : Shape := ⟨2, ![5504, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩
abbrev S512x1 : Shape := ⟨2, ![512, 1]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x5504, .bf16⟩
  | .hbm, ⟨2, _⟩ => ⟨S2048x5504, .bf16⟩
  | .hbm, ⟨3, _⟩ => ⟨S5504x2048, .bf16⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
variable {F : FTy → Type} [FloatOps F] [Named F]
def κ : String → Option EReal := fun
  | "alpha" => some ((Real.sqrt 2 : ℝ) : EReal)
  | _ => none
-- ==== FfnRefIdeal.lean ====
abbrev S8192x2048 : Shape := ⟨2, ![8192, 2048]⟩
abbrev S2048x5504 : Shape := ⟨2, ![2048, 5504]⟩
abbrev S5504x2048 : Shape := ⟨2, ![5504, 2048]⟩
abbrev S2048 : Shape := ⟨1, ![2048]⟩
abbrev S8192x5504 : Shape := ⟨2, ![8192, 5504]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5504, .bf16⟩
  | .hbm, ⟨2, _⟩ => ⟨S2048x5504, .bf16⟩
  | .hbm, ⟨3, _⟩ => ⟨S5504x2048, .bf16⟩
  | .hbm, ⟨4, _⟩ => ⟨S2048, .f32⟩
  | .hbm, ⟨5, _⟩ => ⟨S2048, .f32⟩
  | .hbm, ⟨6, _⟩ => ⟨S2048x5504, .f32⟩
  | .hbm, ⟨7, _⟩ => ⟨S2048x5504, .f32⟩
  | .hbm, ⟨8, _⟩ => ⟨S5504x2048, .f32⟩
  | .hbm, ⟨9, _⟩ => ⟨S8192x5504, .f32⟩
  | .hbm, ⟨10, _⟩ => ⟨S8192x5504, .f32⟩
  | .hbm, ⟨11, _⟩ => ⟨S8192x5504, .f32⟩
  | .hbm, ⟨12, _⟩ => ⟨S_, .f32⟩
  | .hbm, ⟨13, _⟩ => ⟨S8192x5504, .f32⟩
  | .hbm, ⟨14, _⟩ => ⟨S8192x5504, .f32⟩
  | .hbm, ⟨15, _⟩ => ⟨S_, .f32⟩
  | .hbm, ⟨16, _⟩ => ⟨S8192x5504, .f32⟩
  | .hbm, ⟨17, _⟩ => ⟨S8192x5504, .f32⟩
  | .hbm, ⟨18, _⟩ => ⟨S8192x5504, .f32⟩
  | .hbm, ⟨19, _⟩ => ⟨S8192x5504, .f32⟩
  | .hbm, ⟨20, _⟩ => ⟨S8192x5504, .f32⟩
  | .hbm, ⟨21, _⟩ => ⟨S8192x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proj.lean ====
abbrev S8192x2048 : Shape := ⟨2, ![8192, 2048]⟩
abbrev S2048x4736 : Shape := ⟨2, ![2048, 4736]⟩
abbrev S8192x4736 : Shape := ⟨2, ![8192, 4736]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4736, .bf16⟩
  | .hbm, ⟨2, _⟩ => ⟨S8192x4736, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x2048 : Shape := ⟨2, ![8192, 2048]⟩
abbrev S2048x4736 : Shape := ⟨2, ![2048, 4736]⟩
abbrev S8192x4736 : Shape := ⟨2, ![8192, 4736]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4736, .bf16⟩
  | .hbm, ⟨2, _⟩ => ⟨S2048x4736, .f32⟩
  | .hbm, ⟨3, _⟩ => ⟨S8192x4736, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Up.lean ====
abbrev S42 : Shape := ⟨1, ![42]⟩
abbrev S21504x2048 : Shape := ⟨2, ![21504, 2048]⟩
abbrev S8x2048x7168 : Shape := ⟨3, ![8, 2048, 7168]⟩
abbrev S21504x7168 : Shape := ⟨2, ![21504, 7168]⟩
abbrev S512x2048 : Shape := ⟨2, ![512, 2048]⟩
abbrev S1x2048x1024 : Shape := ⟨3, ![1, 2048, 1024]⟩
abbrev S1 : Shape := ⟨1, ![1]⟩
abbrev S512x1024 : Shape := ⟨2, ![512, 1024]⟩
abbrev S2048x1024 : Shape := ⟨2, ![2048, 1024]⟩

abbrev nBuf : Space → Nat
  | .hbm => 4
  | .vmem => 10
  | .smem => 3
  | _ => 0

abbrev bufTy : (tb : Table) → Fin (tcTables nBuf tb) → BufTy
  | .hbm, ⟨0, _⟩ => ⟨S21504x2048, .bf16⟩
  | .hbm, ⟨1, _⟩ => ⟨S8x2048x7168, .f32⟩
  | .hbm, ⟨2, _⟩ => ⟨S8x2048x7168, .f32⟩
  | .hbm, ⟨3, _⟩ => ⟨S21504x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S42, .i32⟩
  | .local _ .smem, ⟨1, _⟩ => ⟨S42, .i32⟩
  | .local _ .smem, ⟨2, _⟩ => ⟨S42, .i32⟩
  | _, _ => ⟨S21504x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 42], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v7 : Index := Scalar.indexCast arg1
  ![v7.toNat]
def k0_off3 (i : grid0.Coords) : Fin 1 → Nat :=
  let arg1 : BitVec 32 := BitVec.ofNat 32 (i 1).val
  let v12 : Index := Scalar.indexCast arg1
  ![v12.toNat]
def k0_cond2 (v8 : BitVec 32) : BitVec 1 :=
  let c1_i32_1 : BitVec 32 := 1#32
  let v9 : BitVec 1 := Scalar.cmpi .eq v8 c1_i32_1
  let v10 : BitVec 32 := Scalar.extui v9
  let c0_i32_2 : BitVec 32 := 0#32
  let v11 : BitVec 1 := Scalar.cmpi .ne v10 c0_i32_2
  v11

def k0_cond3 (v13 : BitVec 32) : BitVec 1 :=
  let c0_i32_3 : BitVec 32 := 0#32
  let v14 : BitVec 1 := Scalar.cmpi .eq v13 c0_i32_3
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S42) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S42) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S42 : Shape := ⟨1, ![42]⟩
abbrev S21504x2048 : Shape := ⟨2, ![21504, 2048]⟩
abbrev S8x2048x7168 : Shape := ⟨3, ![8, 2048, 7168]⟩
abbrev S42x512x2048 : Shape := ⟨3, ![42, 512, 2048]⟩
abbrev S_ : Shape := ⟨0, ![]⟩
abbrev S42x1 : Shape := ⟨2, ![42, 1]⟩
abbrev S42x2048x7168 : Shape := ⟨3, ![42, 2048, 7168]⟩
abbrev S42x512x7168 : Shape := ⟨3, ![42, 512, 7168]⟩
abbrev S42x1x1 : Shape := ⟨3, ![42, 1, 1]⟩
abbrev S21504x7168 : Shape := ⟨2, ![21504, 7168]⟩

abbrev nBuf : Space → Nat
  | .hbm => 49
  | .vmem => 0
  | .smem => 0
  | _ => 0

abbrev bufTy : (tb : Table) → Fin (tcTables nBuf tb) → BufTy
  | .hbm, ⟨0, _⟩ => ⟨S42, .i32⟩
  | .hbm, ⟨1, _⟩ => ⟨S42, .i32⟩
  | .hbm, ⟨2, _⟩ => ⟨S42, .i32⟩
  | .hbm, ⟨3, _⟩ => ⟨S21504x2048, .bf16⟩
  | .hbm, ⟨4, _⟩ => ⟨S8x2048x7168, .f32⟩
  | .hbm, ⟨5, _⟩ => ⟨S8x2048x7168, .f32⟩
  | .hbm, ⟨6, _⟩ => ⟨S21504x2048, .f32⟩
  | .hbm, ⟨7, _⟩ => ⟨S42x512x2048, .f32⟩
  | .hbm, ⟨8, _⟩ => ⟨S_, .i32⟩
  | .hbm, ⟨9, _⟩ => ⟨S42, .i32⟩
  | .hbm, ⟨10, _⟩ => ⟨S42, .i1⟩
  | .hbm, ⟨11, _⟩ => ⟨S_, .i32⟩
  | .hbm, ⟨12, _⟩ => ⟨S42, .i32⟩
  | .hbm, ⟨13, _⟩ => ⟨S42, .i32⟩
  | .hbm, ⟨14, _⟩ => ⟨S42, .i32⟩
  | .hbm, ⟨15, _⟩ => ⟨S42x1, .i32⟩
  | .hbm, ⟨16, _⟩ => ⟨S42x2048x7168, .f32⟩
  | .hbm, ⟨17, _⟩ => ⟨S42x512x7168, .f32⟩
  | .hbm, ⟨18, _⟩ => ⟨S_, .i32⟩
  | .hbm, ⟨19, _⟩ => ⟨S42, .i32⟩
  | .hbm, ⟨20, _⟩ => ⟨S42, .i1⟩
  | .hbm, ⟨21, _⟩ => ⟨S_, .i32⟩
  | .hbm, ⟨22, _⟩ => ⟨S42, .i32⟩
  | .hbm, ⟨23, _⟩ => ⟨S42, .i32⟩
  | .hbm, ⟨24, _⟩ => ⟨S42, .i32⟩
  | .hbm, ⟨25, _⟩ => ⟨S42x1, .i32⟩
  | .hbm, ⟨26, _⟩ => ⟨S42x2048x7168, .f32⟩
  | .hbm, ⟨27, _⟩ => ⟨S42x512x7168, .f32⟩
  | .hbm, ⟨28, _⟩ => ⟨S_, .i32⟩
  | .hbm, ⟨29, _⟩ => ⟨S42, .i32⟩
  | .hbm, ⟨30, _⟩ => ⟨S42, .i1⟩
  | .hbm, ⟨31, _⟩ => ⟨S42x1x1, .i1⟩
  | .hbm, ⟨32, _⟩ => ⟨S42x512x7168, .f32⟩
  | .hbm, ⟨33, _⟩ => ⟨S42x512x7168, .f32⟩
  | .hbm, ⟨34, _⟩ => ⟨S_, .f32⟩
  | .hbm, ⟨35, _⟩ => ⟨S42x512x7168, .f32⟩
  | .hbm, ⟨36, _⟩ => ⟨S42x512x7168, .f32⟩
  | .hbm, ⟨37, _⟩ => ⟨S_, .f32⟩
  | .hbm, ⟨38, _⟩ => ⟨S42x512x7168, .f32⟩
  | .hbm, ⟨39, _⟩ => ⟨S42x512x7168, .f32⟩
  | .hbm, ⟨40, _⟩ => ⟨S42x512x7168, .f32⟩
  | .hbm, ⟨41, _⟩ => ⟨S42x512x7168, .f32⟩
  | .hbm, ⟨42, _⟩ => ⟨S_, .f32⟩
  | .hbm, ⟨43, _⟩ => ⟨S_, .f32⟩
  | .hbm, ⟨44, _⟩ => ⟨S42x512x7168, .i1⟩
  | .hbm, ⟨45, _⟩ => ⟨S42x512x7168, .f32⟩
  | .hbm, ⟨46, _⟩ => ⟨S42x512x7168, .f32⟩
  | .hbm, ⟨47, _⟩ => ⟨S21504x7168, .f32⟩
  | .hbm, ⟨48, _⟩ => ⟨S21504x7168, .bf16⟩
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Proof.SelectRank.lean ====
module

public import proofs.«01_k».proof.Proof.Gen.SelectIdeal.Frame
public import Idealize.ShloMosaic.Lib.Pointwise
public import Idealize.ShloMosaic.Lib.ValueIdx

@[expose] public section

set_option maxRecDepth 16384

noncomputable section

namespace Cert.SelectIdeal.Hand

open Cert.SelectIdeal Cert.SelectIdeal.Gen Idealize.ShloMosaic

/-- The word that a block with value `x` and position word `w` gathers over the first `n` rows of the column `v`:
    one for each row that stands ahead of it, by a greater value or by an equal value and an earlier position. -/
def rank (v : ℕ → EReal) (w : BitVec 32) (x : EReal) : ℕ → BitVec 32
  | 0 => 0#32
  | n + 1 => IntOp.addi (rank v w x n) (BitVec.setWidth 32 (IntOp.ori (BitVec.ofBool (decide (x < v n)))
      (IntOp.andi (BitVec.ofBool (decide (v n = x))) (IntOp.cmpi .sgt w (BitVec.ofNat 32 n)))))

/-- Column `t` of a block of masked importances, as a function of the row's number. -/
def column (v : FVec Ideal S64x512 .f32) (t : Fin 512) (n : ℕ) : EReal := v (ix2 (Fin.ofNat 64 n) t)

variable (p : IVec S64x512 32) (v : FVec Ideal S64x512 .f32) (a : IVec S64x512 32) (j : Fin 64) (t : Fin 512)

/-- Rows 0 and 1. -/
theorem rank_2 (imp : FVec Ideal S64x512 .f32) (q : IVec S64x512 32) (c : BitVec 32) (d s : IVec S64x512 32) (x : BitVec 32) :
    k0_pay11 imp p q c d s x (ix2 j t)
      = rank (column (k0_pay10 imp p q c d s x) t) (p (ix2 j t)) (k0_pay10 imp p q c d s x (ix2 j t)) 2 := by
  pointwise [k0_pay11]
  rfl

/-- Rows 2 to 6. -/
theorem rank_7 (imp : FVec Ideal S64x512 .f32) (q : IVec S64x512 32) (c : BitVec 32) (d s : IVec S64x512 32) (x : BitVec 32)
    (hv : v = k0_pay10 imp p q c d s x) (ha : a (ix2 j t) = rank (column v t) (p (ix2 j t)) (v (ix2 j t)) 2) :
    k0_pay15 p v a (k0_pay13 imp p q c d s x) (k0_pay14 imp p q c d s x) (ix2 j t)
      = rank (column v t) (p (ix2 j t)) (v (ix2 j t)) 7 := by
  pointwise [k0_pay15, k0_pay13, k0_pay14, k0_pay12]
  rw [← hv, ha]
  rfl

/-- Rows 7 to 11. -/
theorem rank_12 (ha : a (ix2 j t) = rank (column v t) (p (ix2 j t)) (v (ix2 j t)) 7) :
    k0_pay19 p v a (k0_pay17 v) (k0_pay18 v) (ix2 j t) = rank (column v t) (p (ix2 j t)) (v (ix2 j t)) 12 := by
  pointwise [k0_pay19, k0_pay18, k0_pay17, k0_pay16]
  rw [ha]
  rfl

/-- Rows 12 to 16. -/
theorem rank_17 (ha : a (ix2 j t) = rank (column v t) (p (ix2 j t)) (v (ix2 j t)) 12) :
    k0_pay23 p v a (k0_pay21 v) (k0_pay22 v) (ix2 j t) = rank (column v t) (p (ix2 j t)) (v (ix2 j t)) 17 := by
  pointwise [k0_pay23, k0_pay22, k0_pay21, k0_pay20]
  rw [ha]
  rfl

/-- Rows 17 to 21. -/
theorem rank_22 (ha : a (ix2 j t) = rank (column v t) (p (ix2 j t)) (v (ix2 j t)) 17) :
    k0_pay27 p v a (k0_pay25 v) (k0_pay26 v) (ix2 j t) = rank (column v t) (p (ix2 j t)) (v (ix2 j t)) 22 := by
  pointwise [k0_pay27, k0_pay26, k0_pay25, k0_pay24]
  rw [ha]
  rfl

/-- Rows 22 to 26. -/
theorem rank_27 (ha : a (ix2 j t) = rank (column v t) (p (ix2 j t)) (v (ix2 j t)) 22) :
    k0_pay31 p v a (k0_pay29 v) (k0_pay30 v) (ix2 j t) = rank (column v t) (p (ix2 j t)) (v (ix2 j t)) 27 := by
  pointwise [k0_pay31, k0_pay30, k0_pay29, k0_pay28]
  rw [ha]
  rfl

/-- Rows 27 to 31. -/
theorem rank_32 (ha : a (ix2 j t) = rank (column v t) (p (ix2 j t)) (v (ix2 j t)) 27) :
    k0_pay35 p v a (k0_pay33 v) (k0_pay34 v) (ix2 j t) = rank (column v t) (p (ix2 j t)) (v (ix2 j t)) 32 := by
  pointwise [k0_pay35, k0_pay34, k0_pay33, k0_pay32]
  rw [ha]
  rfl

/-- Rows 32 to 36. -/
theorem rank_37 (ha : a (ix2 j t) = rank (column v t) (p (ix2 j t)) (v (ix2 j t)) 32) :
    k0_pay39 p v a (k0_pay37 v) (k0_pay38 v) (ix2 j t) = rank (column v t) (p (ix2 j t)) (v (ix2 j t)) 37 := by
  pointwise [k0_pay39, k0_pay38, k0_pay37, k0_pay36]
  rw [ha]
  rfl

/-- Rows 37 to 41. -/
theorem rank_42 (ha : a (ix2 j t) = rank (column v t) (p (ix2 j t)) (v (ix2 j t)) 37) :
    k0_pay43 p v a (k0_pay41 v) (k0_pay42 v) (ix2 j t) = rank (column v t) (p (ix2 j t)) (v (ix2 j t)) 42 := by
  pointwise [k0_pay43, k0_pay42, k0_pay41, k0_pay40]
  rw [ha]
  rfl

/-- Rows 42 to 46. -/
theorem rank_47 (ha : a (ix2 j t) = rank (column v t) (p (ix2 j t)) (v (ix2 j t)) 42) :
    k0_pay47 p v a (k0_pay45 v) (k0_pay46 v) (ix2 j t) = rank (column v t) (p (ix2 j t)) (v (ix2 j t)) 47 := by
  pointwise [k0_pay47, k0_pay46, k0_pay45, k0_pay44]
  rw [ha]
  rfl

/-- Rows 47 to 51. -/
theorem rank_52 (ha : a (ix2 j t) = rank (column v t) (p (ix2 j t)) (v (ix2 j t)) 47) :
    k0_pay51 p v a (k0_pay49 v) (k0_pay50 v) (ix2 j t) = rank (column v t) (p (ix2 j t)) (v (ix2 j t)) 52 := by
  pointwise [k0_pay51, k0_pay50, k0_pay49, k0_pay48]
  rw [ha]
  rfl

/-- Rows 52 to 56. -/
theorem rank_57 (ha : a (ix2 j t) = rank (column v t) (p (ix2 j t)) (v (ix2 j t)) 52) :
    k0_pay55 p v a (k0_pay53 v) (k0_pay54 v) (ix2 j t) = rank (column v t) (p (ix2 j t)) (v (ix2 j t)) 57 := by
  pointwise [k0_pay55, k0_pay54, k0_pay53, k0_pay52]
  rw [ha]
  rfl

/-- Rows 57 to 61. -/
theorem rank_62 (ha : a (ix2 j t) = rank (column v t) (p (ix2 j t)) (v (ix2 j t)) 57) :
    k0_pay59 p v a (k0_pay57 v) (k0_pay58 v) (ix2 j t) = rank (column v t) (p (ix2 j t)) (v (ix2 j t)) 62 := by
  pointwise [k0_pay59, k0_pay58, k0_pay57, k0_pay56]
  rw [ha]
  rfl

/-- The last two rows, and what is stored: 0 for a block with fewer than 16 ahead of it and a value above `-∞`. -/
theorem selected_apply (x y : Fin 1) (d : Fin 128) (ha : ∀ j, a (ix2 j t) = rank (column v t) (p (ix2 j t)) (v (ix2 j t)) 62) :
    k0_pay1 p v a (k0_pay61 v) (k0_pay62 v) (ix4 x y t d)
      = if h : d.val < 64 then
          Scalar.select (IntOp.andi (IntOp.cmpi .slt (rank (column v t) (p (ix2 ⟨d.val, h⟩ t)) (v (ix2 ⟨d.val, h⟩ t)) 64) 16#32)
            (BitVec.ofBool (decide (Ideal.ofBits .f32 0xFF800000#32 < v (ix2 ⟨d.val, h⟩ t))))) 0 (Ideal.ofBits .f32 4048155338#32)
        else Ideal.ofBits .f32 4048155338#32 := by
  pointwise [k0_pay1, k0_pay61, k0_pay62, k0_pay60]
  simp only [ha]
  rfl

end Cert.SelectIdeal.Hand

end
-- ==== Proof.SelectSort.lean ====
module

public import Mathlib.Data.EReal.Basic
public import Idealize.ShloMosaic.Lib.PlanTiles.StableSort

@[expose] public section

/-! The first places of a stable descending sort, told by counting: a position is among the first `m` exactly if
    fewer than `m` positions stand ahead of it, by a greater key or by an equal key further to the left. -/

namespace Cert.Select.Hand

open Idealize.ShloMosaic

variable {n : ℕ} (key : Fin n → EReal)

/-- Position `i` stands ahead of position `j`. -/
def Ahead (i j : Fin n) : Prop := key j < key i ∨ (key i = key j ∧ i < j)

noncomputable instance (i j : Fin n) : Decidable (Ahead key i j) := Classical.propDecidable _

/-- How many keys lie below position `k`'s: the key as a natural number, in the same order. -/
noncomputable def below (k : Fin n) : ℕ := (Finset.univ.filter fun i => key i < key k).card

theorem below_mono {a b : Fin n} (h : key a ≤ key b) : below key a ≤ below key b :=
  Finset.card_le_card fun i hi => by
    simp only [Finset.mem_filter, Finset.mem_univ, true_and] at hi ⊢
    exact lt_of_lt_of_le hi h

theorem below_lt_iff (a b : Fin n) : below key a < below key b ↔ key a < key b := by
  constructor
  · intro h
    by_contra hn
    exact absurd (below_mono key (not_lt.mp hn)) (not_le.mpr h)
  · intro h
    refine Finset.card_lt_card ⟨fun i hi => ?_, fun hs => ?_⟩
    · simp only [Finset.mem_filter, Finset.mem_univ, true_and] at hi ⊢
      exact lt_trans hi h
    · have := hs (show a ∈ Finset.univ.filter fun i => key i < key b by simpa using h)
      simp at this

theorem below_eq {a b : Fin n} (h : below key a = below key b) : key a = key b :=
  le_antisymm (not_lt.mp fun h' => absurd ((below_lt_iff key b a).mpr h') (by omega))
    (not_lt.mp fun h' => absurd ((below_lt_iff key a b).mpr h') (by omega))

/-- Two places of the sort: what lands earlier stands ahead. -/
theorem ahead_sortedFrom (k k' : Fin n) (h : k < k') :
    Ahead key (sortedFrom (fun a b => decide (key b < key a)) k) (sortedFrom (fun a b => decide (key b < key a)) k') := by
  have e : (fun a b : Fin n => decide (key b < key a)) = fun a b => decide (below key b < below key a) :=
    funext fun a => funext fun b => decide_eq_decide.mpr (below_lt_iff key b a).symm
  rw [e]
  have hp := PlanTiles.pairwise_stableSort_lex (below key) (· < ·) (List.finRange n) (List.pairwise_lt_finRange n)
  have hg := List.pairwise_iff_get.mp hp
  unfold sortedFrom
  rcases hg (k.cast (length_sortPositions n _).symm) (k'.cast (length_sortPositions n _).symm) h with h1 | ⟨h1, h2⟩
  · exact Or.inl ((below_lt_iff key _ _).mp h1)
  · exact Or.inr ⟨below_eq key h1, h2⟩

theorem not_ahead_of_ahead {i j : Fin n} (h : Ahead key i j) : ¬ Ahead key j i := by
  rintro (h' | ⟨e', l'⟩) <;> rcases h with h | ⟨e, l⟩
  · exact absurd h (not_lt.mpr h'.le)
  · exact absurd e (ne_of_gt h').symm
  · exact absurd e' (ne_of_gt h).symm
  · omega

/-- As many positions stand ahead of the one that lands at place `k` as there are places before `k`. -/
theorem card_ahead_sortedFrom (k : Fin n) :
    (Finset.univ.filter fun i => Ahead key i (sortedFrom (fun a b => decide (key b < key a)) k)).card = k.val := by
  have hset : (Finset.univ.filter fun i => Ahead key i (sortedFrom (fun a b => decide (key b < key a)) k))
      = (Finset.Iio k).map ⟨sortedFrom (fun a b => decide (key b < key a)), sortedFrom_injective _⟩ := by
    ext i
    obtain ⟨p, rfl⟩ := sortedFrom_surjective (fun a b => decide (key b < key a)) i
    simp only [Finset.mem_filter, Finset.mem_univ, true_and, Finset.mem_map, Finset.mem_Iio, Function.Embedding.coeFn_mk]
    constructor
    · intro h
      refine ⟨p, ?_, rfl⟩
      by_contra hn
      rcases lt_or_eq_of_le (not_lt.mp hn) with h' | rfl
      · exact not_ahead_of_ahead key (ahead_sortedFrom key _ _ h') h
      · exact not_ahead_of_ahead key h h
    · rintro ⟨q, hq, e⟩
      rw [← e]
      exact ahead_sortedFrom key _ _ hq
  rw [hset, Finset.card_map, Fin.card_Iio]

/-- Position `j` is among the first `m` of the sort exactly if fewer than `m` positions stand ahead of it. -/
theorem among_first_iff {m : ℕ} (hm : m ≤ n) (j : Fin n) :
    (∃ k : Fin m, sortedFrom (fun a b => decide (key b < key a)) (k.castLE hm) = j)
      ↔ (Finset.univ.filter fun i => Ahead key i j).card < m := by
  constructor
  · rintro ⟨k, rfl⟩
    rw [card_ahead_sortedFrom]
    exact k.isLt
  · intro h
    obtain ⟨k, rfl⟩ := sortedFrom_surjective (fun a b => decide (key b < key a)) j
    rw [card_ahead_sortedFrom] at h
    exact ⟨⟨k.val, h⟩, rfl⟩

end Cert.Select.Hand
end
-- ==== Proof.SelectWords.lean ====
module

public import Idealize.ShloMosaic.Lib.Pointwise
public import Idealize.ShloMosaic.Lib.Tactic.WordOmega

@[expose] public section

namespace Cert.Select.Hand

open Idealize.ShloMosaic

/-- Compressed token `n` ends at or before position `t`, and is one of the 255. -/
abbrev Live (t n : ℕ) : Prop := 16 * n + 31 ≤ t ∧ n < 255

/-- Compressed token `n` overlaps selection block `j`. -/
abbrev Meets (n j : ℕ) : Prop := 16 * n ≤ 64 * j + 63 ∧ 64 * j ≤ 16 * n + 31

/-! ## Words -/

theorem ofBits_neg_inf : Ideal.ofBits .f32 4286578688#32 = ⊥ := by
  simp [Ideal.ofBits, Ideal.ieee]

theorem ofBits_inf : Ideal.ofBits .f32 2139095040#32 = ⊤ := by
  simp [Ideal.ofBits, Ideal.ieee]

/-- A query's position, as the kernel computes it from its block's number and its place there. -/
theorem position_word (i : Fin 8) (t : Fin 512) :
    IntOp.addi (Scalar.muli (BitVec.ofNat 32 i.val) 512#32) (BitVec.ofNat 32 t.val) = BitVec.ofNat 32 (512 * i.val + t.val) := by
  revert i t
  decide +kernel

/-- A flat row's place in its block. -/
theorem place_word (r : Fin 2048) : IntOp.andi (BitVec.ofNat 32 r.val) 511#32 = BitVec.ofNat 32 (r.val % 512) := by
  revert r
  decide +kernel

/-- The last position that compressed token `n` covers, as the kernel computes it, -/
theorem end_word (n : Fin 256) : IntOp.addi (IntOp.muli (BitVec.ofNat 32 n.val) 16#32) 31#32 = BitVec.ofNat 32 (16 * n.val + 31) := by
  revert n
  decide +kernel

/-- and as the reference does. -/
theorem end_word_host (n : Fin 255) :
    IntOp.subi (IntOp.addi (IntOp.muli (BitVec.ofNat 32 n.val) 16#32) 32#32) 1#32 = BitVec.ofNat 32 (16 * n.val + 31) := by
  revert n
  decide +kernel

theorem sle_word (a b : ℕ) (ha : a < 2 ^ 31) (hb : b < 2 ^ 31) :
    IntOp.cmpi .sle (BitVec.ofNat 32 a) (BitVec.ofNat 32 b) = BitVec.ofBool (decide (a ≤ b)) := by
  word_omega

/-- The causal mask of the kernel, at the query at position `t`. -/
theorem live_word (t : Fin 4096) (n : Fin 256) :
    IntOp.andi (IntOp.cmpi .sle (IntOp.addi (IntOp.muli (BitVec.ofNat 32 n.val) 16#32) 31#32) (BitVec.ofNat 32 t.val))
      (IntOp.cmpi .slt (BitVec.ofNat 32 n.val) 255#32) = BitVec.ofBool (decide (Live t.val n.val)) := by
  have h : ∀ n : Fin 256, IntOp.cmpi .slt (BitVec.ofNat 32 n.val) 255#32 = BitVec.ofBool (decide (n.val < 255)) := by decide +kernel
  rw [end_word, sle_word _ _ (by omega) (by omega), h, Bool.decide_and]
  generalize decide (16 * n.val + 31 ≤ t.val) = a
  generalize decide (n.val < 255) = b
  revert a b
  decide

/-- The causal mask of the reference. -/
theorem live_word_host (t : Fin 4096) (n : Fin 255) :
    IntOp.cmpi .sle (IntOp.subi (IntOp.addi (IntOp.muli (BitVec.ofNat 32 n.val) 16#32) 32#32) 1#32)
      (BitVec.ofNat 32 t.val) = BitVec.ofBool (decide (Live t.val n.val)) := by
  rw [end_word_host, sle_word _ _ (by omega) (by omega)]
  exact congrArg _ (decide_eq_decide.mpr ⟨fun h => ⟨h, n.isLt⟩, fun h => h.1⟩)

theorem meets_word (n : Fin 256) (j : Fin 64) :
    (IntOp.andi
        (IntOp.cmpi CmpIPredicate.sle (IntOp.muli (BitVec.ofNat 32 ↑n) 16#32)
          (IntOp.subi (IntOp.addi (IntOp.muli (BitVec.ofNat 32 ↑j) 64#32) 64#32) 1#32))
        (IntOp.cmpi CmpIPredicate.sge (IntOp.subi (IntOp.addi (IntOp.muli (BitVec.ofNat 32 ↑n) 16#32) 32#32) 1#32)
          (IntOp.muli (BitVec.ofNat 32 ↑j) 64#32))) = BitVec.ofBool (decide (Meets n.val j.val)) := by
  revert n j
  decide +kernel

/-- The query's own selection block, as the reference's floor division computes it. -/
theorem block_word_host (t : Fin 4096) :
    Scalar.select
      (IntOp.andi
        (IntOp.cmpi CmpIPredicate.ne
          (if BitVec.ofNat 32 ↑t = 0 then (0 : BitVec 32) else if (BitVec.ofNat 32 ↑t).msb = true then -1 else 1)
          (if 64#32 = 0 then 0 else if BitVec.msb 64#32 = true then -1 else 1))
        (IntOp.cmpi CmpIPredicate.ne (IntOp.remsi ArithUnit.host (BitVec.ofNat 32 ↑t) 64#32) 0#32))
      (IntOp.subi (IntOp.divsi ArithUnit.host (BitVec.ofNat 32 ↑t) 64#32) 1#32)
      (IntOp.divsi ArithUnit.host (BitVec.ofNat 32 ↑t) 64#32) = BitVec.ofNat 32 (t.val / 64) := by
  revert t
  decide +kernel

/-- and as the kernel's does. -/
theorem block_word (t : Fin 4096) :
   Scalar.select
          (IntOp.andi
            (IntOp.cmpi CmpIPredicate.ne
              (IntOp.subi (BitVec.setWidth 32 (IntOp.cmpi CmpIPredicate.sgt (BitVec.ofNat 32 ↑t) 0#32))
                (BitVec.setWidth 32 (IntOp.cmpi CmpIPredicate.slt (BitVec.ofNat 32 ↑t) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑t) 64#32) 0#32))
          (IntOp.subi (IntOp.divsi ArithUnit.vector (BitVec.ofNat 32 ↑t) 64#32) 1#32)
          (IntOp.divsi ArithUnit.vector (BitVec.ofNat 32 ↑t) 64#32) = BitVec.ofNat 32 (t.val / 64) := by
  revert t
  decide +kernel

/-- A block is at or before the query's. -/
theorem valid_word (j c : Fin 64) : IntOp.cmpi .sle (BitVec.ofNat 32 j.val) (BitVec.ofNat 32 c.val)
    = BitVec.ofBool (decide (j.val ≤ c.val)) := by
  revert j c
  decide +kernel

/-- A block is one of the forced ones. -/
theorem forced_word (j c : Fin 64) :
    IntOp.ori (IntOp.ori (IntOp.cmpi .eq (BitVec.ofNat 32 j.val) 0#32)
            (IntOp.cmpi .eq (BitVec.ofNat 32 j.val) (BitVec.ofNat 32 c.val)))
          (IntOp.cmpi .eq (BitVec.ofNat 32 j.val) (IntOp.subi (BitVec.ofNat 32 c.val) 1#32))
      = BitVec.ofBool (decide (j.val = 0 ∨ j.val = c.val ∨ j.val + 1 = c.val)) := by
  revert j c
  decide +kernel

theorem sgt_word (j i : Fin 64) : IntOp.cmpi .sgt (BitVec.ofNat 32 j.val) (BitVec.ofNat 32 i.val) = BitVec.ofBool (decide (i.val < j.val)) := by
  revert j i
  decide +kernel

theorem eq_word (j i : Fin 64) : IntOp.cmpi .eq (BitVec.ofNat 32 j.val) (BitVec.ofNat 32 i.val) = BitVec.ofBool (decide (j = i)) := by
  revert j i
  decide +kernel

theorem slt16_word (c : Fin 65) : IntOp.cmpi .slt (BitVec.ofNat 32 c.val) 16#32 = BitVec.ofBool (decide (c.val < 16)) := by
  revert c
  decide +kernel

theorem select_ofBool {α : Type} (p : Prop) [Decidable p] (a b : α) : Scalar.select (BitVec.ofBool (decide p)) a b = if p then a else b := by
  unfold Scalar.select
  by_cases h : p <;> simp [h]

/-- A comparison as a float. -/
theorem uitofp_ofBool (p : Prop) [Decidable p] : (FloatOps.uitofp (F := Ideal) .f32 (BitVec.ofBool (decide p)) : EReal) = if p then 1 else 0 := by
  by_cases h : p <;> simp [h, FloatOps.uitofp]

end Cert.Select.Hand
end
-- ==== Proof.SelectMath.lean ====
module

public import proofs.«01_k».proof.Proof.SelectSort
public import proofs.«01_k».proof.Proof.SelectWords

@[expose] public section

/-! The compressed attention and the block selection, as formulas over the extended reals. A row is one query of one head:
    its scores `s n` against the compressed tokens `n`, at position `t`. -/

namespace Cert.Select.Hand

open Idealize.ShloMosaic

noncomputable section

/-- The row's score, `-∞` where the token is not live. -/
def masked (s : ℕ → EReal) (t n : ℕ) : EReal := if Live t n then s n else ⊥

/-- The greatest masked score over the first `N` columns. -/
def top (N : ℕ) (s : ℕ → EReal) (t : ℕ) : EReal := Finset.fold max ⊥ (fun n : Fin N => masked s t n) Finset.univ

/-- What is subtracted before the exponential: the greatest score, 0 for a row without a live token. -/
def shift (M : EReal) : EReal := if ⊥ < M then M else 0

/-- The row's weights, not yet divided by their sum. -/
def weight (N : ℕ) (s : ℕ → EReal) (t n : ℕ) : EReal :=
  if Live t n then Ideal.exp (masked s t n - shift (top N s t)) else 0

/-- The row's weights. -/
def prob (N : ℕ) (s : ℕ → EReal) (t n : ℕ) : EReal :=
  Ideal.div (weight N s t n) (max (∑ k : Fin N, weight N s t k) (Ideal.ofBits .f32 228737632#32))

variable (s : ℕ → EReal) (t : ℕ)

/-- The 256th column, never live, does not count in the greatest score, -/
theorem top_256 : top 256 s t = top 255 s t := by
  unfold top
  have h : ∀ {N : ℕ} (f : Fin N → EReal), Finset.fold max ⊥ f Finset.univ = Finset.univ.sup f := fun f => rfl
  rw [h, h, Fin.univ_castSuccEmb, Finset.sup_cons, Finset.sup_map]
  have : masked s t (Fin.last 255 : Fin 256).val = ⊥ := if_neg (by simp [Live])
  rw [this, bot_sup_eq]
  rfl

theorem weight_256 (n : ℕ) : weight 256 s t n = weight 255 s t n := by
  unfold weight
  rw [top_256]

/-- nor in the sum of the weights, -/
theorem prob_256 (n : ℕ) : prob 256 s t n = prob 255 s t n := by
  unfold prob
  rw [Fin.sum_univ_castSucc]
  have : weight 256 s t (Fin.last 255 : Fin 256).val = 0 := if_neg (by simp [Live])
  rw [this, add_zero, weight_256]
  simp only [weight_256, Fin.val_castSucc]

/-- and its own weight is 0. -/
theorem prob_last : prob 255 s t 255 = 0 := by
  have : weight 255 s t 255 = 0 := if_neg (by simp [Live])
  unfold prob
  have hpos : (0 : EReal) < Ideal.ofBits .f32 228737632#32 := by
    simp [Ideal.ofBits, Ideal.ieee]
    positivity
  rw [this, Ideal.div, if_neg (ne_of_gt (lt_of_lt_of_le hpos (le_max_right _ _))), zero_mul]

/-- A sum of weights times anything over the 256 columns is the sum over the 255. -/
theorem sum_prob_256 (f : ℕ → EReal) : ∑ n : Fin 256, prob 256 s t n * f n = ∑ n : Fin 255, prob 255 s t n * f n := by
  rw [Fin.sum_univ_castSucc]
  simp only [prob_256, Fin.val_castSucc, Fin.val_last, prob_last, zero_mul, add_zero]

/-- A selection block's importance to one query, from the four heads' weights. -/
def importance (s : Fin 4 → ℕ → EReal) (t j : ℕ) : EReal :=
  ∑ n : Fin 255, (∑ r, prob 255 (s r) t n) * (if Meets n j then 1 else 0)

/-- The importance by which the selection goes: `-∞` for a block ahead of the query, `∞` for the three forced ones. -/
def ranked (s : Fin 4 → ℕ → EReal) (t j : ℕ) : EReal :=
  if j ≤ t / 64 then if j = 0 ∨ j = t / 64 ∨ j + 1 = t / 64 then ⊤ else importance s t j else ⊥

/-- What the selection stores for block `d`: 0 for a selected block, a large negative number for any other and for padding. -/
def bias (v : Fin 64 → EReal) (d : ℕ) : EReal :=
  if h : d < 64 then
    if (Finset.univ.filter fun i => Ahead v i ⟨d, h⟩).card < 16 ∧ ⊥ < v ⟨d, h⟩ then 0 else Ideal.ofBits .f32 4048155338#32
  else Ideal.ofBits .f32 4048155338#32

/-! ## The whole layer's two results -/

variable (Q : FVec Ideal ⟨4, ![2, 8, 4096, 128]⟩ .bf16) (K : FVec Ideal ⟨5, ![2, 2, 2, 256, 128]⟩ .bf16)

/-- The score of the query at position `t` of head `h` against compressed token `n` of the head's group `g`. -/
def score (b g : Fin 2) (h : Fin 8) (t : Fin 4096) (n : ℕ) : EReal :=
  ∑ x : Fin 128, Q (ix4 b h t x) * K (ix5 b 0 g (Fin.ofNat 256 n) x)

/-- The attention over the compressed tokens. -/
def attended (b g : Fin 2) (h : Fin 8) (t : Fin 4096) (d : Fin 128) : EReal :=
  ∑ n : Fin 255, prob 255 (score Q K b g h t) t n * K (ix5 b 1 g (Fin.ofNat 256 n) d)

/-- What the selection of the query at position `t` of group `g` goes by. -/
def rankedRow (b g : Fin 2) (t : Fin 4096) (j : Fin 64) : EReal :=
  ranked (fun r => score Q K b g ⟨g.val * 4 + r.val, by omega⟩ t) t j

/-- No score is `∞` if all queries and all live keys are finite. -/
theorem score_ne_top (hQ : ∀ i, Q i ≠ ⊥ ∧ Q i ≠ ⊤) (hK : ∀ (b g : Fin 2) (n : Fin 256) (x : Fin 128), n.val < 255 → K (ix5 b 0 g n x) ≠ ⊥ ∧ K (ix5 b 0 g n x) ≠ ⊤)
    (b g : Fin 2) (h : Fin 8) (t : Fin 4096) (n : ℕ) (hn : n < 255) : score Q K b g h t n ≠ ⊤ := by
  have e : ∀ x : Fin 128, Q (ix4 b h t x) * K (ix5 b 0 g (Fin.ofNat 256 n) x)
      = (((Q (ix4 b h t x)).toReal * (K (ix5 b 0 g (Fin.ofNat 256 n) x)).toReal : ℝ) : EReal) := fun x => by
    have h2 := hK b g (Fin.ofNat 256 n) x (by simp [Fin.ofNat]; omega)
    rw [EReal.coe_mul, EReal.coe_toReal (hQ _).2 (hQ _).1, EReal.coe_toReal h2.2 h2.1]
  refine Finset.sum_induction _ (· ≠ ⊤) (fun _ _ => EReal.add_ne_top) EReal.zero_ne_top fun x _ => ?_
  rw [e]
  exact EReal.coe_ne_top _

/-- The greatest masked score is not `∞` then, -/
theorem top_ne_top (s : ℕ → EReal) (t : ℕ) (hs : ∀ n, n < 255 → s n ≠ ⊤) : top 255 s t ≠ ⊤ := by
  have h : top 255 s t = Finset.univ.sup fun n : Fin 255 => masked s t n := rfl
  rw [h]
  refine ne_of_lt ((Finset.sup_lt_iff bot_lt_top).mpr fun n _ => ?_)
  unfold masked
  split
  · exact lt_top_iff_ne_top.mpr (hs n n.isLt)
  · exact bot_lt_top

/-- and whether its absolute value is below `∞` tells whether it is above `-∞`. -/
theorem shift_of_abs (M : EReal) (h : M ≠ ⊤) :
    Scalar.select (FloatOps.cmpf (F := Ideal) (φ := .f32) .olt (FloatOps.hostAbsf (F := Ideal) (φ := .f32) M) (Ideal.ofBits .f32 2139095040#32)) M (Ideal.ofBits .f32 0#32) = shift M := by
  rw [Ideal.ofBits_zero_f32, ofBits_inf, Ideal.hostAbsf_def, Ideal.cmpf_def, Ideal.absf_def]
  simp only [Ideal.cmp, select_ofBool]
  unfold shift
  refine if_congr ?_ rfl rfl
  induction M with
  | bot => simp
  | top => exact absurd rfl h
  | coe x => simp [← EReal.coe_neg]

end

end Cert.Select.Hand
end
-- ==== Proof.SelectBlock.lean ====
module

public import proofs.«01_k».proof.Proof.SelectRank
public import proofs.«01_k».proof.Proof.SelectMath

@[expose] public section

set_option maxRecDepth 16384

/-! One block of the kernel: 512 queries of the four heads of a group. -/

noncomputable section

namespace Cert.SelectIdeal.Hand

open Cert.SelectIdeal Cert.SelectIdeal.Gen Idealize.ShloMosaic
open Cert.Select.Hand

/-- Head `r` of group `g`. -/
abbrev head (g : Fin 2) (r : Fin 4) : Fin 8 := ⟨g.val * 4 + r.val, by omega⟩

/-- The `t`-th query of block `i`. -/
abbrev query (i : Fin 8) (t : Fin 512) : Fin 4096 := ⟨512 * i.val + t.val, by omega⟩

variable (Q : FVec Ideal S2x8x4096x128 .bf16) (K : FVec Ideal S2x2x2x256x128 .bf16)

/-- The row of scores of flat row `r` of the block: head `r / 512`, query `r % 512`. -/
abbrev row (b g : Fin 2) (i : Fin 8) (r : Fin 2048) : ℕ → EReal :=
  score Q K b g (head g ⟨r.val / 512, by omega⟩) (query i ⟨r.val % 512, by omega⟩)

variable (b g : Fin 2) (i : grid0.Coords)
variable (x0 : Vec Ideal S1x4x512x128 .bf16) (x1 x2 : Vec Ideal S1x1x1x256x128 .bf16) (x3 : Vec Ideal S64x256 .f32)
variable (h0 : ∀ (r : Fin 4) (t : Fin 512) (x : Fin 128), x0 (ix4 0 r t x) = Q (ix4 b (head g r) (query (i 2) t) x))
  (h1 : ∀ (n : Fin 256) (x : Fin 128), x1 (ix5 0 0 0 n x) = K (ix5 b 0 g n x))
  (h2 : ∀ (n : Fin 256) (x : Fin 128), x2 (ix5 0 0 0 n x) = K (ix5 b 1 g n x))
  (h3 : ∀ (j : Fin 64) (n : Fin 255), x3 (ix2 j (n.castSucc : Fin 256)) = if Meets n j then 1 else 0)

theorem score_256 (h : Fin 8) (t : Fin 4096) (n : Fin 256) :
    score Q K b g h t n.val = ∑ x : Fin 128, Q (ix4 b h t x) * K (ix5 b 0 g n x) := by
  unfold score
  have : Fin.ofNat 256 n.val = n := by ext; simp
  rw [this]

include h0 h1 in
theorem weight_apply (r : Fin 2048) (n : Fin 256) :
    k0_pay2 i x0 x1 (ix2 r n) = weight 256 (row Q K b g (i 2) r) (query (i 2) ⟨r.val % 512, by omega⟩) n := by
  have hw : ∀ n : Fin 256, IntOp.andi (IntOp.cmpi .sle (IntOp.addi (IntOp.muli (BitVec.ofNat 32 n.val) 16#32) 31#32)
        (IntOp.addi (Scalar.muli (BitVec.ofNat 32 (i 2).val) 512#32) (IntOp.andi (BitVec.ofNat 32 r.val) 511#32)))
      (IntOp.cmpi .slt (BitVec.ofNat 32 n.val) 255#32) = BitVec.ofBool (decide (Live (query (i 2) ⟨r.val % 512, by omega⟩).val n.val)) := fun n => by
    rw [place_word, position_word (i 2) ⟨r.val % 512, by omega⟩]
    exact live_word (query (i 2) ⟨r.val % 512, by omega⟩) n
  pointwise [k0_pay2]
  simp only [hw, select_ofBool, h0, h1, ofBits_neg_inf]
  unfold weight shift top masked row
  simp only [score_256]

include h0 h1 in
theorem prob_apply (r : Fin 2048) (n : Fin 256) :
    k0_pay4 (k0_pay2 i x0 x1) (k0_pay3 i x0 x1) (ix2 r n) = prob 256 (row Q K b g (i 2) r) (query (i 2) ⟨r.val % 512, by omega⟩) n := by
  have hs : k0_pay3 i x0 x1 (ix2 r 0) = ∑ k : Fin 256, (k0_pay2 i x0 x1 (ix2 r k) : EReal) := by
    unfold k0_pay3
    generalize k0_pay2 i x0 x1 = X
    pointwise
  have hw : ∀ n : Fin 256, (k0_pay2 i x0 x1 (ix2 r n) : EReal) = _ := fun n => weight_apply Q K b g i x0 x1 h0 h1 r n
  generalize k0_pay3 i x0 x1 = Y at hs
  generalize k0_pay2 i x0 x1 = X at hs hw
  pointwise [k0_pay4]
  rw [hs]
  simp only [hw]
  rfl

include h0 h1 h2 in
/-- The block of attentions. -/
theorem attended_apply (z : Fin 1) (r : Fin 4) (t : Fin 512) (d : Fin 128) :
    k0_pay5 (k0_pay2 i x0 x1) (k0_pay3 i x0 x1) x2 (ix4 z r t d) = attended Q K b g (head g r) (query (i 2) t) d := by
  have hp : ∀ (r : Fin 2048) (n : Fin 256), (k0_pay4 (k0_pay2 i x0 x1) (k0_pay3 i x0 x1) (ix2 r n) : EReal) = _ :=
    fun r n => prob_apply Q K b g i x0 x1 h0 h1 r n
  unfold k0_pay5
  generalize k0_pay4 (k0_pay2 i x0 x1) (k0_pay3 i x0 x1) = X at hp
  pointwise
  simp only [hp, h2]
  have e : ∀ hlt : r.val * 512 + t.val < 2048, row Q K b g (i 2) ⟨r.val * 512 + t.val, hlt⟩ = score Q K b g (head g r) (query (i 2) t) := fun hlt => by
    have e1 : (r.val * 512 + t.val) / 512 = r.val := by omega
    have e2 : (r.val * 512 + t.val) % 512 = t.val := by omega
    simp only [row, e1, e2]
  have e2 : (r.val * 512 + t.val) % 512 = t.val := by omega
  simp only [e, e2]
  unfold attended
  rw [← sum_prob_256 _ _ fun n => K (ix5 b 1 g (Fin.ofNat 256 n) d)]
  refine Finset.sum_congr rfl fun n _ => ?_
  have : Fin.ofNat 256 n.val = n := by ext; simp
  rw [this]

include h0 h1 h3 in
/-- The block of importances. -/
theorem importance_apply (j : Fin 64) (t : Fin 512) :
    k0_pay6 (k0_pay2 i x0 x1) (k0_pay3 i x0 x1) x3 (ix2 j t)
      = importance (fun r => score Q K b g (head g r) (query (i 2) t)) (query (i 2) t) j := by
  have hp : ∀ (r : Fin 2048) (n : Fin 256), (k0_pay4 (k0_pay2 i x0 x1) (k0_pay3 i x0 x1) (ix2 r n) : EReal) = _ :=
    fun r n => prob_apply Q K b g i x0 x1 h0 h1 r n
  unfold k0_pay6
  generalize k0_pay4 (k0_pay2 i x0 x1) (k0_pay3 i x0 x1) = X at hp
  pointwise
  have e : ∀ (r : Fin 4) (hlt : r.val * 512 + t.val < 2048), row Q K b g (i 2) ⟨r.val * 512 + t.val, hlt⟩ = score Q K b g (head g r) (query (i 2) t) := fun r hlt => by
    have e1 : (r.val * 512 + t.val) / 512 = r.val := by omega
    have e2 : (r.val * 512 + t.val) % 512 = t.val := by omega
    simp only [row, e1, e2]
  have e2 : ∀ r : ℕ, (r * 512 + t.val) % 512 = t.val := by omega
  have hq : ∀ (r : Fin 4) (m : ℕ) (hlt : m < 2048) (n : Fin 256), m = r.val * 512 + t.val →
      (X (ix2 ⟨m, hlt⟩ n) : EReal) = prob 255 (score Q K b g (head g r) (query (i 2) t)) (query (i 2) t) n := fun r m hlt n hm => by
    subst hm
    rw [hp, e, prob_256]
    simp only [e2]
  have q0 : ∀ (hlt : t.val < 2048) (n : Fin 256), (X (ix2 ⟨t.val, hlt⟩ n) : EReal) = _ := fun hlt n => hq 0 _ hlt n (by simp)
  have q1 : ∀ (hlt : 512 + t.val < 2048) (n : Fin 256), (X (ix2 ⟨512 + t.val, hlt⟩ n) : EReal) = _ := fun hlt n => hq 1 _ hlt n (by simp)
  have q2 : ∀ (hlt : 1024 + t.val < 2048) (n : Fin 256), (X (ix2 ⟨1024 + t.val, hlt⟩ n) : EReal) = _ := fun hlt n => hq 2 _ hlt n (by simp)
  have q3 : ∀ (hlt : 1536 + t.val < 2048) (n : Fin 256), (X (ix2 ⟨1536 + t.val, hlt⟩ n) : EReal) = _ := fun hlt n => hq 3 _ hlt n (by simp)
  simp only [q0, q1, q2, q3]
  unfold importance
  rw [Fin.sum_univ_castSucc]
  simp only [Fin.val_last, prob_last, add_zero, mul_zero, h3, Fin.val_castSucc, Fin.sum_univ_four]
  exact Finset.sum_congr rfl fun n _ => mul_comm _ _

include h0 h1 h3 in
/-- What the block's selection goes by. -/
theorem ranked_apply (p : IVec S64x512 32) (hp : ∀ (j : Fin 64) (t : Fin 512), p (ix2 j t) = BitVec.ofNat 32 j.val) (j : Fin 64) (t : Fin 512) :
    k0_pay10 (k0_pay6 (k0_pay2 i x0 x1) (k0_pay3 i x0 x1) x3) p
      (k0_pay7 (Scalar.muli (BitVec.ofNat 32 (i 2).val) 512#32)) 64#32 (k0_pay8 (Scalar.muli (BitVec.ofNat 32 (i 2).val) 512#32)) (k0_pay9 (Scalar.muli (BitVec.ofNat 32 (i 2).val) 512#32)) (Scalar.subi (Scalar.extui (Scalar.cmpi .sgt 64#32 0#32)) (Scalar.extui (Scalar.cmpi .slt 64#32 0#32))) (ix2 j t)
      = rankedRow Q K b g (query (i 2) t) j := by
  have hi := importance_apply Q K b g i x0 x1 x3 h0 h1 h3 j t
  have hc := position_word (i 2) t
  have hb := block_word (query (i 2) t)
  have hv := valid_word j ⟨(query (i 2) t).val / 64, by omega⟩
  have hf := forced_word j ⟨(query (i 2) t).val / 64, by omega⟩
  generalize k0_pay6 (k0_pay2 i x0 x1) (k0_pay3 i x0 x1) x3 = X at hi
  pointwise [k0_pay10, k0_pay9, k0_pay8, k0_pay7]
  rw [hp, hi, hc]
  simp only [query] at hb hv hf
  rw [hb, hv, hf, select_ofBool, select_ofBool, ofBits_inf, ofBits_neg_inf]
  unfold rankedRow ranked
  rfl

/-- The rank after `n` blocks: how many of them come ahead. -/
theorem rank_count (v : ℕ → EReal) (j : Fin 64) (n : ℕ) (hn : n ≤ 64) :
    rank v (BitVec.ofNat 32 j.val) (v j) n = BitVec.ofNat 32 (Finset.univ.filter fun k : Fin 64 => k.val < n ∧ Ahead (fun k : Fin 64 => v k) k j).card := by
  induction n with
  | zero => simp [rank]
  | succ n ih =>
    have hs : IntOp.cmpi .sgt (BitVec.ofNat 32 j.val) (BitVec.ofNat 32 n) = BitVec.ofBool (decide (n < j.val)) := sgt_word j ⟨n, by omega⟩
    have hw : ∀ (a b c : Prop) [Decidable a] [Decidable b] [Decidable c] (m : ℕ), IntOp.addi (BitVec.ofNat 32 m)
        (BitVec.setWidth 32 (IntOp.ori (BitVec.ofBool (decide a)) (IntOp.andi (BitVec.ofBool (decide b)) (BitVec.ofBool (decide c)))))
        = BitVec.ofNat 32 (m + if a ∨ (b ∧ c) then 1 else 0) := fun a b c _ _ _ m => by
      by_cases a <;> by_cases b <;> by_cases c <;> simp [*, IntOp.addi, IntOp.ori, IntOp.andi, BitVec.ofNat_add]
    rw [rank, ih (by omega), hs, hw]
    congr 1
    have e : (Finset.univ.filter fun k : Fin 64 => k.val < n + 1 ∧ Ahead (fun k : Fin 64 => v k) k j)
        = (Finset.univ.filter fun k : Fin 64 => k.val < n ∧ Ahead (fun k : Fin 64 => v k) k j)
          ∪ (Finset.univ.filter fun k : Fin 64 => k = ⟨n, by omega⟩ ∧ Ahead (fun k : Fin 64 => v k) k j) := by
      ext k
      simp only [Finset.mem_filter, Finset.mem_univ, true_and, Finset.mem_union, Fin.ext_iff, ← or_and_right]
      rw [Nat.lt_succ_iff_lt_or_eq]
    rw [e, Finset.card_union_of_disjoint (Finset.disjoint_filter.mpr fun k _ h h' => by rw [h'.1] at h; exact lt_irrefl _ h.1)]
    congr 1
    have e2 : (v j < v n ∨ v n = v j ∧ n < j.val) ↔ Ahead (fun k : Fin 64 => v k) ⟨n, by omega⟩ j := Iff.rfl
    by_cases h : Ahead (fun k : Fin 64 => v k) ⟨n, by omega⟩ j
    · rw [if_pos (e2.mpr h)]
      symm
      rw [Finset.card_eq_one]
      exact ⟨⟨n, by omega⟩, by ext k; simp only [Finset.mem_filter, Finset.mem_univ, true_and, Finset.mem_singleton]; exact ⟨And.left, fun hk => ⟨hk, hk ▸ h⟩⟩⟩
    · rw [if_neg fun h' => h (e2.mp h')]
      symm
      rw [Finset.card_eq_zero]
      exact Finset.filter_eq_empty_iff.mpr fun k _ hk => h (hk.1 ▸ hk.2)

/-- The stored number, from the rank. -/
theorem bias_of_rank (v : ℕ → EReal) (d : ℕ) (h : d < 64) :
    Scalar.select (IntOp.andi (IntOp.cmpi .slt (rank v (BitVec.ofNat 32 d) (v d) 64) 16#32) (BitVec.ofBool (decide (Ideal.ofBits .f32 0xFF800000#32 < v d))))
      (0 : EReal) (Ideal.ofBits .f32 4048155338#32) = bias (fun j => v j) d := by
  have hc := rank_count v ⟨d, h⟩ 64 le_rfl
  have e : (Finset.univ.filter fun k : Fin 64 => k.val < 64 ∧ Ahead (fun k : Fin 64 => v k) k ⟨d, h⟩)
      = Finset.univ.filter fun k : Fin 64 => Ahead (fun k : Fin 64 => v k) k ⟨d, h⟩ := by
    ext k; simp
  rw [e] at hc
  have hn : (Finset.univ.filter fun k : Fin 64 => Ahead (fun k : Fin 64 => v k) k ⟨d, h⟩).card < 65 :=
    Nat.lt_succ_of_le (le_trans (Finset.card_le_univ _) (by simp))
  simp only at hc
  rw [hc, slt16_word ⟨_, hn⟩, ofBits_neg_inf]
  have hw : ∀ (a b : Prop) [Decidable a] [Decidable b], IntOp.andi (BitVec.ofBool (decide a)) (BitVec.ofBool (decide b))
      = BitVec.ofBool (decide (a ∧ b)) := fun a b _ _ => by by_cases a <;> by_cases b <;> simp [*, IntOp.andi]
  rw [hw, select_ofBool]
  unfold bias
  rw [dif_pos h]

theorem off2 : (![0, 0] : Fin 2 → ℕ) = fun _ => 0 := by decide

theorem off4 : (![0, 0, 0, 0] : Fin 4 → ℕ) = fun _ => 0 := by decide

theorem off5 : (![0, 0, 0, 0, 0] : Fin 5 → ℕ) = fun _ => 0 := by decide

include h0 h1 h2 in
/-- The first output's block. -/
theorem out_attended (z : Fin 1) (r : Fin 4) (t : Fin 512) (d : Fin 128) :
    out0_4 i x0 x1 x2 x3 (ix4 z r t d) = attended Q K b g (head g r) (query (i 2) t) d := by
  unfold_out out0_4
  rw [View.canon_unit_zero off4, View.ld_unit_zero off4, View.ld_unit_zero off5, View.ld_unit_zero off5]
  exact attended_apply Q K b g i x0 x1 x2 h0 h1 h2 z r t d

include h0 h1 h3 in
/-- The second output's block. -/
theorem out_bias (y z : Fin 1) (t : Fin 512) (d : Fin 128) :
    out0_5 i x0 x1 x2 x3 (ix4 y z t d) = bias (rankedRow Q K b g (query (i 2) t)) d := by
  have hp : ∀ (j : Fin 64) (t : Fin 512), (k0_pay65 i x0 x1 x2 x3) (ix2 j t) = BitVec.ofNat 32 j.val := fun j t => by
    pointwise [k0_pay65]
  have hv : ∀ (j : Fin 64), (k0_pay70 i x0 x1 x2 x3 (ix2 j t) : EReal) = rankedRow Q K b g (query (i 2) t) j := fun j => by
    have := ranked_apply Q K b g i x0 x1 x3 h0 h1 h3 (k0_pay65 i x0 x1 x2 x3) hp j t
    unfold k0_pay70 k0_pay66 k0_pay64 k0_pay63
    rw [View.ld_unit_zero off4, View.ld_unit_zero off5, View.ld_unit_zero off2]
    exact this
  unfold out0_5
  rw [View.canon_unit_zero off4]
  refine (selected_apply (v := k0_pay70 i x0 x1 x2 x3) (p := k0_pay65 i x0 x1 x2 x3) (x := y) (y := z) (d := d) (t := t) (ha := fun j => ?_)).trans ?_
  · exact rank_62 _ _ _ _ _ (rank_57 _ _ _ _ _ (rank_52 _ _ _ _ _ (rank_47 _ _ _ _ _ (rank_42 _ _ _ _ _ (rank_37 _ _ _ _ _ (rank_32 _ _ _ _ _ (rank_27 _ _ _ _ _ (rank_22 _ _ _ _ _
      (rank_17 _ _ _ _ _ (rank_12 _ _ _ _ _ (rank_7 _ _ _ _ _ _ _ _ _ _ _ rfl (rank_2 _ _ _ _ _ _ _ _ _))))))))))))
  · by_cases h : d.val < 64
    · rw [dif_pos h, hp]
      have hd : column (k0_pay70 i x0 x1 x2 x3) t d.val = k0_pay70 i x0 x1 x2 x3 (ix2 ⟨d.val, h⟩ t) := by
        unfold column
        have : Fin.ofNat 64 d.val = ⟨d.val, h⟩ := by ext; simp [Nat.mod_eq_of_lt h]
        rw [this]
      have hr : (fun j : Fin 64 => column (k0_pay70 i x0 x1 x2 x3) t j) = rankedRow Q K b g (query (i 2) t) := funext fun j => by
        rw [← hv j]
        unfold column
        have : Fin.ofNat 64 j.val = j := by ext; simp
        rw [this]
      rw [← hd, ← hr]
      exact bias_of_rank _ _ h
    · rw [dif_neg h, bias, dif_neg h]

end Cert.SelectIdeal.Hand
end
-- ==== Proof.SelectTable.lean ====
module

public import proofs.«01_k».proof.SelectIdeal
public import proofs.«01_k».proof.Proof.SelectWords

@[expose] public section

set_option maxRecDepth 16384

/-! The kernel's table of which compressed tokens meet which selection blocks. -/

noncomputable section

namespace Cert.SelectIdeal.Hand

open Cert.SelectIdeal Idealize.ShloMosaic Cert.Select.Hand

/-- The table of which compressed tokens meet which selection blocks: its words. -/
theorem table_word : ∀ (j : Fin 64) (n : Fin 256), lit0t (256 * j.val + n.val) = if Meets n j ∧ n.val < 255 then 0x3F800000#32 else 0x00000000#32 := by
  decide +kernel

end Cert.SelectIdeal.Hand

end
-- ==== Proof.SelectArray.lean ====
module

public import proofs.«01_k».proof.Proof.SelectBlock
public import proofs.«01_k».proof.Proof.SelectTable
public import proofs.«01_k».proof.Proof.Gen.SelectIdeal.Value
public import Idealize.ShloMosaic.Lib.Pipeline.ValueKit
public import Idealize.ShloMosaic.Lib.StableHlo.ReadAt
public import Idealize.ShloMosaic.Lib.IdealHost

@[expose] public section

set_option maxRecDepth 16384

/-! From the kernel's blocks to its two result arrays. -/

noncomputable section

namespace Cert.SelectIdeal.Hand

open Cert.SelectIdeal Cert.SelectIdeal.Gen Idealize.ShloMosaic Idealize.ShloMosaic.TcCoe Idealize.SL.Sem
open Idealize.ShloMosaic.Pipeline (Dat)
open Cert.Select.Hand

variable (m : (ℓ : Loc nD τ sig) → Buf (Elt Ideal) ℓ) (ρ : Dev nD → PrngReg) (c : Dev nD)

/-- The queries and the compressed keys and values, as launched. -/
abbrev queries : FVec Ideal S2x8x4096x128 .bf16 := m ((c : Thread nD τ).loc main_arg0)

abbrev tokens : FVec Ideal S2x2x2x256x128 .bf16 := m ((c : Thread nD τ).loc main_arg1)

/-- The group of a head. -/
abbrev group (h : Fin 8) : Fin 2 := ⟨h.val / 4, by omega⟩

/-! ## Where the blocks lie -/

theorem index_0 : ∀ t : Fin grid0.N, win0_0.index t = ![(grid0.coords t 0).val, (grid0.coords t 1).val, (grid0.coords t 2).val, 0] := by decide +kernel

theorem index_1 : ∀ t : Fin grid0.N, win0_1.index t = ![(grid0.coords t 0).val, 0, (grid0.coords t 1).val, 0, 0] := by decide +kernel

theorem index_2 : ∀ t : Fin grid0.N, win0_2.index t = ![(grid0.coords t 0).val, 1, (grid0.coords t 1).val, 0, 0] := by decide +kernel

theorem index_3 : ∀ t : Fin grid0.N, win0_3.index t = ![0, 0] := by decide +kernel

theorem index_4 : ∀ t : Fin grid0.N, win0_4.index t = ![(grid0.coords t 0).val, (grid0.coords t 1).val, (grid0.coords t 2).val, 0] := by decide +kernel

theorem index_5 : ∀ t : Fin grid0.N, win0_5.index t = ![(grid0.coords t 0).val, (grid0.coords t 1).val, (grid0.coords t 2).val, 0] := by decide +kernel

/-! ## What the input blocks hold -/

theorem block_queries (t : Fin grid0.N) (r : Fin 4) (u : Fin 512) (x : Fin 128) :
    iblk m c 0 t (ix4 0 r u x) = queries m c (ix4 (grid0.coords t 0) (head (grid0.coords t 1) r) (query (grid0.coords t 2) u) x) := by
  blk_simp [iblk]
  rw [show (V m c main_arg0 = _) from V_main_arg0 m c]
  refine congrArg _ ?_
  blk_ext [index_0]

theorem block_keys (t : Fin grid0.N) (n : Fin 256) (x : Fin 128) :
    iblk m c 1 t (ix5 0 0 0 n x) = tokens m c (ix5 (grid0.coords t 0) 0 (grid0.coords t 1) n x) := by
  blk_simp [iblk]
  rw [show (V m c main_arg1 = _) from V_main_arg1 m c]
  refine congrArg _ ?_
  blk_ext [index_1]

theorem block_values (t : Fin grid0.N) (n : Fin 256) (x : Fin 128) :
    iblk m c 2 t (ix5 0 0 0 n x) = tokens m c (ix5 (grid0.coords t 0) 1 (grid0.coords t 1) n x) := by
  blk_simp [iblk]
  rw [show (V m c main_arg1 = _) from V_main_arg1 m c]
  refine congrArg _ ?_
  blk_ext [index_2]

/-- What the table's words stand for. -/
theorem table_apply (j : Fin 64) (n : Fin 256) :
    (V m c main_cst (ix2 j n) : EReal) = if Meets n j ∧ n.val < 255 then (1 : EReal) else (0 : EReal) := by
  have e : (V m c main_cst (ix2 j n) : EReal) = Ideal.ofBits .f32 (lit0t (256 * j.val + n.val)) := by
    unfold V
    after_reads_at
    refine congrArg (fun k => Ideal.ofBits .f32 (lit0t k)) ?_
    refine (Shape.rowMajor_val_two (d := ![64, 256]) (ix2 j n)).trans ?_
    show j.val * 256 + n.val = _
    omega
  rw [e, table_word]
  split
  · exact Ideal.ofBits_one_f32
  · simp [Ideal.ofBits, Ideal.ieee]

theorem block_table (t : Fin grid0.N) (j : Fin 64) (n : Fin 255) :
    (iblk m c 3 t (ix2 j (n.castSucc : Fin 256)) : EReal) = if Meets n j then (1 : EReal) else (0 : EReal) := by
  have h := table_apply m c j n.castSucc
  have e : iblk m c 3 t (ix2 j (n.castSucc : Fin 256)) = V m c main_cst (ix2 j n.castSucc) := by
    blk_simp [iblk]
    refine congrArg _ ?_
    blk_ext [index_3]
  rw [e, h]
  simp

/-! ## The result arrays -/

/-- The first result holds the attention over the compressed tokens, -/
theorem final_attended : (dats m 0 c).arrAt 4 cfg0.N
    = fun i : S2x8x4096x128.Idx => attended (queries m c) (tokens m c) (i 0) (group (i 1)) (i 1) (i 2) (i 3) := by
  refine (dats m 0 c).arrAt_eq_of_covers 4 _ (by decide +kernel) fun t hf y => ?_
  blk_simp
  rw [after0_4]
  rw [show y = ix4 (y 0) (y 1) (y 2) (y 3) from (ix4_eta y).symm]
  refine (out_attended (queries m c) (tokens m c) (grid0.coords t 0) (grid0.coords t 1) (grid0.coords t) _ _ _ _
    (block_queries m c t) (block_keys m c t) (block_values m c t) (y 0) (y 1) (y 2) (y 3)).trans ?_
  have h0 : (y 0).val < 1 := (y 0).isLt
  have h1 : (y 1).val < 4 := (y 1).isLt
  congr 1
  all_goals
    refine Fin.ext ?_
    first
      | (blk_simp [index_4]; done)
      | (blk_simp [index_4]; simp; done)
      | (blk_simp [index_4]; simp; omega)
      | (simp only [group]; blk_simp [index_4]; simp; omega)

/-- and the second the selection. -/
theorem final_bias : (dats m 0 c).arrAt 5 cfg0.N
    = fun i : S2x2x4096x128.Idx => bias (rankedRow (queries m c) (tokens m c) (i 0) (i 1) (i 2)) (i 3 : Fin 128).val := by
  refine (dats m 0 c).arrAt_eq_of_covers 5 _ (by decide +kernel) fun t hf y => ?_
  blk_simp
  rw [after0_5]
  rw [show y = ix4 (y 0) (y 1) (y 2) (y 3) from (ix4_eta y).symm]
  refine (out_bias (queries m c) (tokens m c) (grid0.coords t 0) (grid0.coords t 1) (grid0.coords t) _ _ _ _
    (block_queries m c t) (block_keys m c t) (block_table m c t) (y 0) (y 1) (y 2) (y 3)).trans ?_
  have h0 : (y 0).val < 1 := (y 0).isLt
  have h1 : (y 1).val < 1 := (y 1).isLt
  congr 1
  · congr 1
    all_goals
      refine Fin.ext ?_
      first
        | (blk_simp [index_5]; done)
        | (blk_simp [index_5]; simp; done)
        | (blk_simp [index_5]; simp; omega)
  · blk_simp [index_5]

end Cert.SelectIdeal.Hand
end
-- ==== Proof.SelectRefRead.lean ====
module

public import proofs.«01_k».proof.Proof.Gen.SelectRefIdeal.Read
public import proofs.«01_k».proof.Proof.SelectMath
public import Idealize.ShloMosaic.Lib.ValueIdx

@[expose] public section

set_option maxRecDepth 16384

/-! The reference's two results, as the formulas of the layer. -/

noncomputable section

namespace Cert.SelectRefIdeal.Hand

open Cert.SelectRefIdeal Cert.SelectRefIdeal.Gen Cert.SelectRefIdeal.Read Idealize.ShloMosaic
open Cert.Select.Hand

variable (Q : FVec Ideal S2x8x4096x128 .bf16) (K : FVec Ideal S2x2x2x256x128 .bf16)
variable (b g : Fin 2) (r : Fin 4) (t : Fin 4096) (n : Fin 255) (j : Fin 64)

theorem col (n : Fin 255) : (⟨n.val, by omega⟩ : Fin 256) = Fin.ofNat 256 n.val := by
  ext; simp

/-- Head `r` of group `g`. -/
abbrev head (g : Fin 2) (r : Fin 4) : Fin 8 := ⟨g.val * 4 + r.val, by omega⟩

theorem score_apply : val_main_v16 (F := Ideal) Q K (ix5 b g r t n) = score Q K b g (head g r) t n := by
  pointwise [val_main_v16, val_main_v1, val_main_v0, val_main_v4, val_main_v3, val_main_v2]
  simp only [col]
  rfl

theorem live_apply : val_main_v21 (F := Ideal) (ix2 t n) = BitVec.ofBool (decide (Live t.val n.val)) := by
  pointwise [val_main_v21, val_main_v19, val_main_v20, val_main_v17, val_main_v18, val_main_v15, val_main_v14, val_main_v13, val_main_v12, val_main_v11, val_main_v10, val_main_v9, val_main_v8, val_main_c, val_main_c_0, val_main_c_1]
  exact live_word_host t n

theorem masked_apply : val_main_v22 (F := Ideal) Q K (ix5 b g r t n) = masked (score Q K b g (head g r) t) t n := by
  pointwise [val_main_v22, val_main_call0_v1, val_main_call0_v2, val_main_call0_v0, val_main_cst]
  rw [live_apply, score_apply, select_ofBool]
  unfold masked
  exact if_congr Iff.rfl rfl ofBits_neg_inf

theorem top_apply : val_main_v23 (F := Ideal) Q K (ix4 b g r t) = top 255 (score Q K b g (head g r) t) t := by
  have h : ∀ x : Fin 255, (val_main_v22 (F := Ideal) Q K (ix5 b g r t x) : EReal) = _ := fun x => masked_apply Q K b g r t x
  unfold val_main_v23
  generalize val_main_v22 (F := Ideal) Q K = X at h
  pointwise [val_main_cst_2]
  simp only [h]
  rw [ofBits_neg_inf]
  rfl

variable (hQ : ∀ i, Q i ≠ ⊥ ∧ Q i ≠ ⊤)
  (hK : ∀ (b g : Fin 2) (n : Fin 256) (x : Fin 128), n.val < 255 → K (ix5 b 0 g n x) ≠ ⊥ ∧ K (ix5 b 0 g n x) ≠ ⊤)

include hQ hK in
theorem shift_apply (z : Fin 1) : val_main_v28 (F := Ideal) Q K (ix5 b g r t z) = shift (top 255 (score Q K b g (head g r) t) t) := by
  have h24 : ∀ z : Fin 1, val_main_v24 (F := Ideal) Q K (ix5 b g r t z) = top 255 (score Q K b g (head g r) t) t := fun z => by
    have h23 := top_apply Q K b g r t
    unfold val_main_v24
    generalize val_main_v23 (F := Ideal) Q K = X at h23
    pointwise
    exact h23
  have h26 : val_main_v26 (F := Ideal) (ix5 b g r t z) = Ideal.ofBits .f32 2139095040#32 := by
    pointwise [val_main_v26, val_main_cst_3]
  have h0 : val_main_call1_v1 (F := Ideal) (ix5 b g r t z) = Ideal.ofBits .f32 0#32 := by
    pointwise [val_main_call1_v1, val_main_call1_v0, val_main_cst_4]
    exact Ideal.ofBits_zero_f32
  have e : val_main_v28 (F := Ideal) Q K (ix5 b g r t z) = Scalar.select (FloatOps.cmpf (F := Ideal) (φ := .f32) .olt
      (FloatOps.hostAbsf (F := Ideal) (φ := .f32) (val_main_v24 (F := Ideal) Q K (ix5 b g r t z))) (val_main_v26 (F := Ideal) (ix5 b g r t z)))
      (val_main_v24 (F := Ideal) Q K (ix5 b g r t z)) (val_main_call1_v1 (F := Ideal) (ix5 b g r t z)) := by
    rw [val_main_v28_apply, val_main_v27_apply, val_main_v25_apply]
  rw [e, h24, h26, h0]
  exact shift_of_abs _ (top_ne_top _ _ fun n hn => score_ne_top Q K hQ hK b g (head g r) t n hn)

include hQ hK in
theorem weight_apply : val_main_v32 (F := Ideal) Q K (ix5 b g r t n) = weight 255 (score Q K b g (head g r) t) t n := by
  pointwise [val_main_v32, val_main_call2_v1, val_main_call2_v2, val_main_call2_v0, val_main_cst_5, val_main_v31, val_main_v30, val_main_v29]
  rw [live_apply, masked_apply, shift_apply Q K b g r t hQ hK, select_ofBool]
  unfold weight
  exact if_congr Iff.rfl rfl Ideal.ofBits_zero_f32

include hQ hK in
theorem prob_apply : val_main_v38 (F := Ideal) Q K (ix5 b g r t n) = prob 255 (score Q K b g (head g r) t) t n := by
  pointwise [val_main_v38, val_main_v37, val_main_v36, val_main_v35, val_main_v34, val_main_v33, val_main_cst_6, val_main_cst_7]
  simp only [weight_apply Q K b g r t _ hQ hK]
  rfl

include hQ hK in
/-- The attention over the compressed tokens. -/
theorem attended_apply (h : Fin 8) (d : Fin 128) :
    val_main_v109 (F := Ideal) Q K (ix4 b h t d) = attended Q K b ⟨h.val / 4, by omega⟩ h t d := by
  pointwise [val_main_v109, val_main_v108, val_main_v39, val_main_v7, val_main_v6, val_main_v5]
  simp only [prob_apply Q K b _ _ t _ hQ hK, col]
  have e : head ⟨h.val / 4, by omega⟩ ⟨h.val % 4, by omega⟩ = h := by ext; simp only; omega
  rw [e]
  rfl

theorem meets_apply : val_main_v67 (F := Ideal) (ix2 n j) = (if Meets n j then 1 else 0 : EReal) := by
  pointwise [val_main_v67, val_main_v66, val_main_v65, val_main_v54, val_main_v64, val_main_v63, val_main_v62, val_main_v61, val_main_v60, val_main_v59, val_main_v58, val_main_v57, val_main_v56, val_main_v55, val_main_v53, val_main_v52, val_main_v51, val_main_v50, val_main_v49, val_main_v48, val_main_v47, val_main_v46, val_main_v45, val_main_v44, val_main_v43, val_main_v42, val_main_v41, val_main_v40, val_main_c_8, val_main_c_9, val_main_c_10, val_main_c_11, val_main_c_12, val_main_c_13, val_main_c_14, val_main_c_15]
  have h := meets_word ⟨n.val, by omega⟩ j
  simp only at h
  rw [h]
  exact uitofp_ofBool _

theorem block_apply (z : Fin 1) : val_main_v72 (F := Ideal) (ix2 t z) = BitVec.ofNat 32 (t.val / 64) := by
  pointwise [val_main_v72, val_main_call3_v11, val_main_call3_v13, val_main_call3_v2, val_main_call3_v12, val_main_call3_c_0, val_main_call3_v6, val_main_call3_v10, val_main_call3_v9, val_main_call3_c, val_main_call3_v8, val_main_call3_v7, val_main_call3_v5, val_main_call3_v4, val_main_call3_v3, val_main_call3_v1, val_main_call3_v0, val_main_c_17, val_main_v71, val_main_v8]
  exact block_word_host t

include hQ hK in
/-- What the selection goes by. -/
theorem ranked_apply : val_main_v94 (F := Ideal) Q K (ix4 b g t j) = rankedRow Q K b g t j := by
  pointwise [val_main_v94, val_main_call5_v0, val_main_call5_v1, val_main_call5_v2, val_main_cst_21, val_main_v93, val_main_call4_v0, val_main_call4_v1, val_main_call4_v2, val_main_cst_20, val_main_v92, val_main_v91, val_main_v90, val_main_v89, val_main_v88, val_main_v87, val_main_c_19, val_main_v86, val_main_v85, val_main_v84, val_main_v83, val_main_v82, val_main_v81, val_main_v80, val_main_v79, val_main_v78, val_main_c_18, val_main_v77, val_main_v76, val_main_v75, val_main_v74, val_main_v73, val_main_v70, val_main_v69, val_main_v68, val_main_cst_16]
  have h1 := valid_word j ⟨t.val / 64, by omega⟩
  have h2 := forced_word j ⟨t.val / 64, by omega⟩
  simp only at h1 h2
  rw [block_apply, h1, h2, select_ofBool, select_ofBool]
  simp only [prob_apply Q K b g _ t _ hQ hK, meets_apply]
  unfold rankedRow ranked importance
  refine if_congr Iff.rfl (if_congr Iff.rfl ofBits_inf rfl) ofBits_neg_inf

/-! ### The selection -/

/-- Where the `x`-th greatest of a query's 64 blocks stands. -/
def place (v : Fin 64 → EReal) (x : Fin 16) : Fin 64 := sortedFrom (fun a b => decide (v b < v a)) (x.castLE (by decide))

/-- The 16 greatest blocks of each query with their numbers. -/
theorem topK_read (X : FVec Ideal S2x2x4096x64 .f32) (x : Fin 16) :
    (Host.topK S2x2x4096x16 3 (FloatOps.cmpfTotal (F := Ideal) (φ := .f32) .gt) X sliceFits_S2x2x4096x64_S2x2x4096x16).1 (ix4 b g t x)
        = X (ix4 b g t (place (fun j => X (ix4 b g t j)) x))
      ∧ (Host.topK S2x2x4096x16 3 (FloatOps.cmpfTotal (F := Ideal) (φ := .f32) .gt) X sliceFits_S2x2x4096x64_S2x2x4096x16).2 (ix4 b g t x)
        = BitVec.ofNat 32 (place (fun j => X (ix4 b g t j)) x).val := by
  have hd : 3 < S2x2x4096x64.rank := by decide
  have hal : ∀ k : Fin 64, (ix4 b g t (x.castLE (by decide) : Fin 64) : S2x2x4096x64.Idx).along ⟨3, hd⟩ k = ix4 b g t k := fun k => by
    funext a
    match a with
    | ⟨0, _⟩ => rfl
    | ⟨1, _⟩ => rfl
    | ⟨2, _⟩ => rfl
    | ⟨3, _⟩ => rfl
  have hR : (fun k k' : Fin 64 => FloatOps.cmpfTotal (F := Ideal) (φ := .f32) .gt (X (ix4 b g t k)) (X (ix4 b g t k')) == 1#1)
      = fun k k' => decide (X (ix4 b g t k') < X (ix4 b g t k)) := by
    funext k k'
    simp only [Ideal.cmpfTotal_def, Ideal.cmp, CmpDirection.ordered]
    by_cases h : X (ix4 b g t k') < X (ix4 b g t k) <;> simp [h]
  have key : ∀ J : S2x2x4096x64.Idx, J = ix4 b g t (x.castLE (by decide) : Fin 64) →
      X (J.along ⟨3, hd⟩ (sortedFrom (fun k k' => FloatOps.cmpfTotal (F := Ideal) (φ := .f32) .gt (X (J.along ⟨3, hd⟩ k)) (X (J.along ⟨3, hd⟩ k')) == 1#1)
          (J ⟨3, hd⟩))) = X (ix4 b g t (place (fun j => X (ix4 b g t j)) x))
      ∧ iotaInDim S2x2x4096x64 32 ⟨3, hd⟩ (J.along ⟨3, hd⟩ (sortedFrom (fun k k' => FloatOps.cmpfTotal (F := Ideal) (φ := .f32) .gt (X (J.along ⟨3, hd⟩ k)) (X (J.along ⟨3, hd⟩ k')) == 1#1)
          (J ⟨3, hd⟩))) = BitVec.ofNat 32 (place (fun j => X (ix4 b g t j)) x).val := by
    rintro J rfl
    have e : sortedFrom (fun k k' : Fin 64 => FloatOps.cmpfTotal (F := Ideal) (φ := .f32) .gt
          (X ((ix4 b g t (x.castLE (by decide) : Fin 64) : S2x2x4096x64.Idx).along ⟨3, hd⟩ k)) (X ((ix4 b g t (x.castLE (by decide) : Fin 64) : S2x2x4096x64.Idx).along ⟨3, hd⟩ k')) == 1#1)
        (x.castLE (by decide) : Fin 64) = place (fun j => X (ix4 b g t j)) x := by
      simp only [hal]
      rw [hR]
      rfl
    refine ⟨congrArg X ((congrArg _ e).trans (hal _)), ?_⟩
    exact (congrArg (iotaInDim S2x2x4096x64 32 ⟨3, hd⟩) ((congrArg _ e).trans (hal _))).trans rfl
  unfold Host.topK extractStridedSlice
  simp only [Host.sort2, dif_pos hd]
  refine key _ ?_
  funext a
  match a with
  | ⟨0, _⟩ => ext; exact zero_add _
  | ⟨1, _⟩ => ext; exact zero_add _
  | ⟨2, _⟩ => ext; exact zero_add _
  | ⟨3, _⟩ => ext; exact zero_add _

/-- A disjunction over a finite set, as a fold of words. -/
theorem fold_ori {α : Type} [DecidableEq α] (p : α → Prop) [DecidablePred p] (s : Finset α) :
    Finset.fold IntOp.ori (0#1) (fun x => BitVec.ofBool (decide (p x))) s = BitVec.ofBool (decide (∃ x ∈ s, p x)) := by
  induction s using Finset.induction_on with
  | empty => simp
  | insert a s ha ih =>
    rw [Finset.fold_insert ha, ih]
    by_cases h1 : p a <;> by_cases h2 : ∃ x ∈ s, p x <;> simp [h1, h2, IntOp.ori]

theorem selected_iff (v : Fin 64 → EReal) (j : Fin 64) : (∃ x ∈ (Finset.univ : Finset (Fin 16)), place v x = j ∧ ⊥ < v j)
    ↔ (Finset.univ.filter fun i => Ahead v i j).card < 16 ∧ ⊥ < v j := by
  have h := among_first_iff v (by decide : 16 ≤ 64) j
  constructor
  · rintro ⟨x, -, hx, hb⟩
    exact ⟨h.mp ⟨x, hx⟩, hb⟩
  · rintro ⟨hc, hb⟩
    obtain ⟨x, hx⟩ := h.mpr hc
    exact ⟨x, Finset.mem_univ _, hx, hb⟩

include hQ hK in
/-- The 16 greatest of the reference, -/
theorem values_apply (x : Fin 16) : val_main_values (F := Ideal) Q K (ix4 b g t x) = rankedRow Q K b g t (place (rankedRow Q K b g t) x) := by
  have hv : ∀ j : Fin 64, (val_main_v94 (F := Ideal) Q K (ix4 b g t j) : EReal) = rankedRow Q K b g t j := fun j => ranked_apply Q K b g t j hQ hK
  unfold val_main_values
  generalize val_main_v94 (F := Ideal) Q K = X at hv
  have h := (topK_read b g t X x).1
  have hv' : (fun j : Fin 64 => (X (ix4 b g t j) : EReal)) = rankedRow Q K b g t := funext hv
  rw [hv'] at h
  exact h.trans (hv _)

include hQ hK in
/-- and their numbers. -/
theorem indices_apply (x : Fin 16) : val_main_indices (F := Ideal) Q K (ix4 b g t x) = BitVec.ofNat 32 (place (rankedRow Q K b g t) x).val := by
  have hv : ∀ j : Fin 64, (val_main_v94 (F := Ideal) Q K (ix4 b g t j) : EReal) = rankedRow Q K b g t j := fun j => ranked_apply Q K b g t j hQ hK
  unfold val_main_indices
  generalize val_main_v94 (F := Ideal) Q K = X at hv
  have h := (topK_read b g t X x).2
  have hv' : (fun j : Fin 64 => (X (ix4 b g t j) : EReal)) = rankedRow Q K b g t := funext hv
  rw [hv'] at h
  exact h

include hQ hK in
/-- What the selection stores. -/
theorem bias_apply (e : Fin 128) : val_main_v110 (F := Ideal) Q K (ix4 b g t e) = bias (rankedRow Q K b g t) e := by
  have h1 := fun x => values_apply Q K b g t hQ hK x
  have h2 := fun x => indices_apply Q K b g t hQ hK x
  unfold val_main_v110 val_main_v107 val_main_v106 val_main_v105 val_main_v104 val_main_v103 val_main_v102 val_main_v101 val_main_v99 val_main_v97 val_main_v95
  generalize val_main_values (F := Ideal) Q K = X at h1
  generalize val_main_indices (F := Ideal) Q K = Y at h2
  pointwise [val_main_v110, val_main_v107, val_main_cst_26, val_main_v106, val_main_call6_v0, val_main_call6_v1, val_main_cst_24, val_main_cst_25, val_main_v105, val_main_c_23, val_main_v104, val_main_v103, val_main_v102, val_main_v101, val_main_v100, val_main_cst_22, val_main_v99, val_main_v98, val_main_v97, val_main_v96, val_main_v95, val_main_v70]
  unfold bias
  refine dite_congr rfl (fun h => ?_) fun _ => rfl
  simp only [h1, h2]
  have hw : ∀ x : Fin 16, IntOp.andi (IntOp.cmpi CmpIPredicate.eq (BitVec.ofNat 32 (place (rankedRow Q K b g t) x).val) (BitVec.ofNat 32 e.val))
      (BitVec.ofBool (decide (Ideal.ofBits FTy.f32 4286578688#32 < rankedRow Q K b g t (place (rankedRow Q K b g t) x))))
      = BitVec.ofBool (decide (place (rankedRow Q K b g t) x = ⟨e.val, h⟩ ∧ ⊥ < rankedRow Q K b g t ⟨e.val, h⟩)) := fun x => by
    have hx := (place (rankedRow Q K b g t) x).isLt
    rw [ofBits_neg_inf, eq_word _ ⟨e.val, h⟩]
    by_cases hp : place (rankedRow Q K b g t) x = ⟨e.val, h⟩
    · rw [hp]
      simp only [true_and, decide_true]
      generalize decide (⊥ < rankedRow Q K b g t ⟨e.val, h⟩) = c
      revert c
      decide
    · simp [hp, IntOp.andi]
  simp only [hw]
  rw [fold_ori, select_ofBool]
  have h3 := selected_iff (rankedRow Q K b g t) ⟨e.val, h⟩
  simp only [h3]

end Cert.SelectRefIdeal.Hand
end
-- ==== Proof.SelectEquation.lean ====
module

public import proofs.«01_k».proof.Defs
public import proofs.«01_k».proof.Proof.SelectArray
public import proofs.«01_k».proof.Proof.SelectRefRead
public import proofs.«01_k».proof.Proof.Gen.Pre_finite
public import Idealize.ShloMosaic.Lib.ReduceAll

@[expose] public section

/-! The selection call and its reference compute the same two arrays. -/

noncomputable section

namespace Cert.Select.Hand

open Idealize.ShloMosaic Idealize.SL.Sem

instance : Subsingleton (Cert.Pre_finite.S_).Idx := ⟨fun _ _ => funext fun a => a.elim0⟩

/-- What lies below `∞` in absolute value is finite. -/
theorem finite_of_abs (x : EReal) (h : FloatOps.cmpf (F := Ideal) (φ := .f32) .olt (FloatOps.hostAbsf (F := Ideal) (φ := .f32) x) (Ideal.ofBits .f32 0x7F800000#32) = 1#1) :
    x ≠ ⊥ ∧ x ≠ ⊤ := by
  rw [ofBits_inf, Ideal.hostAbsf_def, Ideal.cmpf_def, Ideal.absf_def] at h
  induction x with
  | bot => simp [Ideal.cmp] at h
  | top => simp [Ideal.cmp] at h
  | coe x => exact ⟨EReal.coe_ne_bot x, EReal.coe_ne_top x⟩

variable (Q : FVec Ideal ⟨4, ![2, 8, 4096, 128]⟩ .bf16) (K : FVec Ideal ⟨5, ![2, 2, 2, 256, 128]⟩ .bf16)

/-- The precondition: all queries and all live keys are finite. -/
theorem finite_of_pre (h : Cert.Pre_finite.fn (F := Ideal) Q K = fun _ => 1#1) :
    (∀ i, Q i ≠ ⊥ ∧ Q i ≠ ⊤) ∧ ∀ (b g : Fin 2) (n : Fin 256) (x : Fin 128), n.val < 255 → K (ix5 b 0 g n x) ≠ ⊥ ∧ K (ix5 b 0 g n x) ≠ ⊤ := by
  have e := congrFun h (fun a => a.elim0)
  simp only [Cert.Pre_finite.fn, andi] at e
  have hw : ∀ a b : BitVec 1, IntOp.andi a b = 1#1 → a = 1#1 ∧ b = 1#1 := by decide
  obtain ⟨e1, e2⟩ := hw _ _ e
  have f1 := Host.reduce_andi_all _ _ _ _ _ e1
  have f2 := Host.reduce_andi_all _ _ _ _ _ e2
  refine ⟨fun i => finite_of_abs _ (f1 i), fun b g n x hn => ?_⟩
  have := f2 (ix4 b g ⟨n.val, hn⟩ x)
  pointwise at this
  exact finite_of_abs _ this

theorem algebraic : Cert.algebraic_SelectIdeal_SelectRefIdeal_pre_finite := by
  intro m g m' g' hpre hargs
  refine ⟨fun c => (Cert.SelectIdeal.Gen.dats m 0 c).arrAt 4 Cert.SelectIdeal.cfg0.N, fun c => (Cert.SelectIdeal.Gen.dats m 0 c).arrAt 5 Cert.SelectIdeal.cfg0.N,
    Cert.SelectIdeal.Value.run_blocks m g, (θ_run _ _ _).mono (fun r h c => ?_) (Cert.SelectRefIdeal.Value.run m' g')⟩
  obtain ⟨h1, h2, h3⟩ := h c
  obtain ⟨hQ, hK⟩ := finite_of_pre _ _ (hpre c)
  refine ⟨h1.trans ?_, h2.trans ?_, h3⟩
  · beta_reduce
    rw [Cert.SelectIdeal.Hand.final_attended, Cert.SelectRefIdeal.Read.val_main_v109_eq, (hargs c).1, (hargs c).2]
    funext i
    rw [eq_ix4 i]
    exact Cert.SelectRefIdeal.Hand.attended_apply _ _ _ _ hQ hK _ _
  · beta_reduce
    rw [Cert.SelectIdeal.Hand.final_bias, Cert.SelectRefIdeal.Read.val_main_v110_eq, (hargs c).1, (hargs c).2]
    funext i
    rw [eq_ix4 i]
    exact Cert.SelectRefIdeal.Hand.bias_apply _ _ _ _ _ hQ hK _

end Cert.Select.Hand

namespace Cert.SelectRefIdeal.Hand

open Cert.SelectRefIdeal Idealize.ShloMosaic Idealize.SL.Sem

/-- The reference keeps its arguments, and has no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).2.2.1, (h c).2.2.2⟩, sem_eq_zero_of_no_sems (by decide) r.2⟩) (Value.run m ρ)

end Cert.SelectRefIdeal.Hand
end
-- ==== Proof.LayerNorm.lean ====
module

public import Idealize.ShloMosaic.PureOps.Ideal
public import Idealize.ShloMosaic.Lib.IdealHost

@[expose] public section

/-! The layer norm of a row, and the two constants of the layer's residual. -/

noncomputable section

namespace Cert.Layer.Hand

open Idealize.ShloMosaic

/-- The word of `2048`, the width of a row. -/
abbrev width : EReal := Ideal.ofBits .f32 0x45000000#32

/-- The mean of a row. -/
def mean (v : Fin 2048 → EReal) : EReal := Ideal.div (∑ k, v k) width

/-- The row less its mean. -/
def centred (v : Fin 2048 → EReal) (k : Fin 2048) : EReal := v k - mean v

/-- The variance of a row, and the small word added to it. -/
def spread (v : Fin 2048 → EReal) : EReal := mean (fun k => centred v k * centred v k) + Ideal.ofBits .f32 0x3727C5AC#32

/-- The layer norm with the gain `g` and the shift `b`. -/
def norm (v g b : Fin 2048 → EReal) (k : Fin 2048) : EReal := centred v k * Ideal.rsqrt (spread v) * g k + b k

/-- The residual's factor. -/
abbrev root : EReal := ((Real.sqrt 2 : ℝ) : EReal)

theorem ofBits_four : Ideal.ofBits .f32 0x40800000#32 = ((4 : ℝ) : EReal) := by
  simp [Ideal.ofBits, Ideal.ieee, -EReal.coe_mul]; norm_num

/-- The fourth root of four is the root of two. -/
theorem root_root : Ideal.sqrt (Ideal.sqrt (Ideal.ofBits .f32 0x40800000#32)) = root := by
  rw [ofBits_four, Ideal.sqrt_coe, if_neg (by norm_num), Ideal.sqrt_coe, if_neg (not_lt.mpr (Real.sqrt_nonneg _))]
  rw [show (4 : ℝ) = 2 ^ 2 by norm_num, Real.sqrt_sq (by norm_num)]

end Cert.Layer.Hand
end
-- ==== Proof.OutBlock.lean ====
module

public import proofs.«01_k».proof.Proof.Gen.OutIdeal.Frame
public import proofs.«01_k».proof.Proof.LayerNorm
public import Idealize.ShloMosaic.Lib.ValueIdx
public import Idealize.ShloMosaic.Lib.Pipeline.ValueKit

@[expose] public section

set_option maxRecDepth 16384

/-! One block of the output projection's kernel. -/

noncomputable section

namespace Cert.OutIdeal.Hand

open Cert.OutIdeal Cert.OutIdeal.Gen Idealize.ShloMosaic Idealize.ShloMosaic.TcCoe Idealize.SL.Sem
open Cert.Layer.Hand

variable (X : FVec Ideal S512x2048 .f32) (A : FVec Ideal S512x512 .bf16) (B : FVec Ideal S512x1024 .bf16) (C : FVec Ideal S512x512 .bf16)
variable (U : FVec Ideal S512x2048 .bf16) (V : FVec Ideal S1024x2048 .bf16) (W : FVec Ideal S512x2048 .bf16) (g b : FVec Ideal S1x2048 .f32)
variable (n : Fin 512) (k : Fin 2048)

/-- The residual row, from three products. -/
def row (n : Fin 512) (k : Fin 2048) : EReal :=
  root * X (ix2 n k) + (((∑ j : Fin 512, A (ix2 n j) * U (ix2 j k)) + ∑ j : Fin 1024, B (ix2 n j) * V (ix2 j k)) + ∑ j : Fin 512, C (ix2 n j) * W (ix2 j k))

theorem centred_apply : k0_pay4 (F := Ideal) A U B V C W X (ix2 n k) = centred (row X A B C U V W n) k := by
  pointwise [k0_pay4]
  rfl

theorem spread_apply (z : Fin 1) : k0_pay5 (F := Ideal) A U B V C W X (ix2 n z) = spread (row X A B C U V W n) := by
  have h : ∀ k : Fin 2048, (k0_pay4 (F := Ideal) A U B V C W X (ix2 n k) : EReal) = _ := fun k => centred_apply X A B C U V W n k
  unfold k0_pay5
  generalize k0_pay4 (F := Ideal) A U B V C W X = M at h
  pointwise
  simp only [h]
  rfl

theorem norm_apply : k0_pay1 (F := Ideal) (k0_pay2 g) (k0_pay3 b) (k0_pay4 A U B V C W X) (k0_pay5 A U B V C W X) (ix2 n k)
    = norm (row X A B C U V W n) (fun k => g (ix2 0 k)) (fun k => b (ix2 0 k)) k := by
  have h : (k0_pay4 (F := Ideal) A U B V C W X (ix2 n k) : EReal) = _ := centred_apply X A B C U V W n k
  have h' : ∀ z : Fin 1, (k0_pay5 (F := Ideal) A U B V C W X (ix2 n z) : EReal) = _ := fun z => spread_apply X A B C U V W n z
  generalize k0_pay4 (F := Ideal) A U B V C W X = M at h
  generalize k0_pay5 (F := Ideal) A U B V C W X = N at h'
  pointwise [k0_pay1, k0_pay2, k0_pay3]
  rw [h, h']
  rfl

end Cert.OutIdeal.Hand
end
-- ==== Proof.OutRefRead.lean ====
module

public import proofs.«01_k».proof.Proof.Gen.OutRefIdeal.Read
public import proofs.«01_k».proof.Proof.LayerNorm
public import Idealize.ShloMosaic.Lib.ValueIdx
public import Idealize.ShloMosaic.Lib.Pipeline.ValueKit

@[expose] public section

set_option maxRecDepth 16384

/-! The reference of the output projection, as a formula. -/

noncomputable section

namespace Cert.OutRefIdeal.Hand

open Cert.OutRefIdeal Cert.OutRefIdeal.Gen Cert.OutRefIdeal.Read Idealize.ShloMosaic
open Cert.Layer.Hand

variable (X : FVec Ideal S8192x2048 .f32) (A : FVec Ideal S8192x512 .bf16) (B : FVec Ideal S8192x1024 .bf16) (C : FVec Ideal S8192x512 .bf16)
variable (W : FVec Ideal S2048x2048 .bf16) (g b : FVec Ideal S2048 .f32)
variable (n : Fin 8192) (k j : Fin 2048)

/-- The three mixers' results next to each other. -/
def mixed (n : Fin 8192) (j : Fin 2048) : EReal :=
  if h : j.val < 512 then A (ix2 n ⟨j.val, h⟩)
  else if h' : j.val - 512 < 1024 then B (ix2 n ⟨j.val - 512, h'⟩)
  else C (ix2 n ⟨j.val - 512 - 1024, by omega⟩)

/-- The residual row. -/
def resid (n : Fin 8192) (k : Fin 2048) : EReal := root * X (ix2 n k) + ∑ j : Fin 2048, mixed A B C n j * W (ix2 j k)

/-- The sum over the mixed row is the three sums over its parts. -/
theorem mixed_sum (w : Fin 2048 → EReal) : ∑ j : Fin 2048, mixed A B C n j * w j
    = ((∑ j : Fin 512, A (ix2 n j) * w ⟨j.val, by omega⟩) + ∑ j : Fin 1024, B (ix2 n j) * w ⟨512 + j.val, by omega⟩)
      + ∑ j : Fin 512, C (ix2 n j) * w ⟨1536 + j.val, by omega⟩ := by
  refine (Fin.sum_univ_add (a := 1536) (b := 512) (fun j => mixed A B C n j * w j)).trans ?_
  refine (congrArg (· + _) (Fin.sum_univ_add (a := 512) (b := 1024) (fun j => mixed A B C n (Fin.castAdd 512 j) * w (Fin.castAdd 512 j)))).trans ?_
  have h1 : ∀ j : Fin 512, mixed A B C n (Fin.castAdd 512 (Fin.castAdd 1024 j)) = A (ix2 n j) := fun j => by
    unfold mixed
    rw [dif_pos (show (Fin.castAdd 512 (Fin.castAdd 1024 j)).val < 512 from j.isLt)]
    rfl
  have h2 : ∀ j : Fin 1024, mixed A B C n (Fin.castAdd 512 (Fin.natAdd 512 j)) = B (ix2 n j) := fun j => by
    have e : (Fin.castAdd 512 (Fin.natAdd 512 j)).val = 512 + j.val := rfl
    unfold mixed
    rw [dif_neg (by omega), dif_pos (by omega)]
    congr 2
    exact Fin.ext (by show _ - 512 = j.val; omega)
  have h3 : ∀ j : Fin 512, mixed A B C n (Fin.natAdd 1536 j) = C (ix2 n j) := fun j => by
    have e : (Fin.natAdd 1536 j).val = 1536 + j.val := rfl
    unfold mixed
    rw [dif_neg (by omega), dif_neg (by omega)]
    congr 2
    exact Fin.ext (by show _ - 512 - 1024 = j.val; omega)
  simp only [h1, h2, h3]
  rfl

theorem mixed_apply : val_main_v0 (F := Ideal) A B C (ix2 n j) = mixed A B C n j := by
  pointwise [val_main_v0]
  rfl

theorem resid_apply : val_main_v8 (F := Ideal) X A B C W (ix2 n k) = resid X A B C W n k := by
  have h : ∀ j : Fin 2048, (val_main_v0 (F := Ideal) A B C (ix2 n j) : EReal) = _ := fun j => mixed_apply A B C n j
  unfold resid
  simp only [← h]
  unfold val_main_v8 val_main_v3 val_main_v1
  generalize val_main_v0 (F := Ideal) A B C = M
  pointwise [val_main_v7, val_main_v6, val_main_v5, val_main_v4, val_main_cst, val_main_v2]
  rw [← root_root]

theorem centred_apply : val_main_v14 (F := Ideal) X A B C W (ix2 n k) = centred (resid X A B C W n) k := by
  have h : ∀ k : Fin 2048, (val_main_v8 (F := Ideal) X A B C W (ix2 n k) : EReal) = _ := fun k => resid_apply X A B C W n k
  unfold val_main_v14 val_main_v13 val_main_v12 val_main_v10 val_main_v9
  generalize val_main_v8 (F := Ideal) X A B C W = M at h
  pointwise [val_main_v11, val_main_cst_0, val_main_cst_1]
  simp only [h]
  rfl

theorem spread_apply (z : Fin 1) : val_main_v21 (F := Ideal) X A B C W (ix2 n z) = spread (resid X A B C W n) := by
  have h : ∀ k : Fin 2048, (val_main_v14 (F := Ideal) X A B C W (ix2 n k) : EReal) = _ := fun k => centred_apply X A B C W n k
  unfold val_main_v21 val_main_v19 val_main_v17 val_main_v16 val_main_v15
  generalize val_main_v14 (F := Ideal) X A B C W = M at h
  pointwise [val_main_v20, val_main_v18, val_main_cst_2, val_main_cst_3, val_main_cst_4]
  simp only [h]
  rfl

theorem norm_apply : val_main_v30 (F := Ideal) X A B C W g b (ix2 n k)
    = norm (resid X A B C W n) (fun k => g (ix1 k)) (fun k => b (ix1 k)) k := by
  have h : (val_main_v14 (F := Ideal) X A B C W (ix2 n k) : EReal) = _ := centred_apply X A B C W n k
  have h' : ∀ z : Fin 1, (val_main_v21 (F := Ideal) X A B C W (ix2 n z) : EReal) = _ := fun z => spread_apply X A B C W n z
  unfold val_main_v30 val_main_v27 val_main_v24 val_main_v23 val_main_v22
  generalize val_main_v14 (F := Ideal) X A B C W = M at h
  generalize val_main_v21 (F := Ideal) X A B C W = N at h'
  pointwise [val_main_v26, val_main_v25, val_main_v29, val_main_v28]
  rw [h, h']
  rfl

end Cert.OutRefIdeal.Hand
end
-- ==== Proof.OutArray.lean ====
module

public import proofs.«01_k».proof.Proof.OutBlock
public import proofs.«01_k».proof.Proof.OutRefRead
public import proofs.«01_k».proof.Proof.Gen.OutIdeal.Value
public import Idealize.ShloMosaic.Lib.StableHlo.ReadAt

@[expose] public section

set_option maxRecDepth 16384

/-! From the blocks of the output projection's kernel to its result array. -/

noncomputable section

namespace Cert.OutIdeal.Hand

open Cert.OutIdeal Cert.OutIdeal.Gen Idealize.ShloMosaic Idealize.ShloMosaic.TcCoe Idealize.SL.Sem
open Idealize.ShloMosaic.Pipeline (Dat)
open Cert.Layer.Hand Cert.OutRefIdeal.Hand

variable (m : (ℓ : Loc nD τ sig) → Buf (Elt Ideal) ℓ) (ρ : Dev nD → PrngReg) (c : Dev nD)

/-! The arguments, as launched. -/

abbrev inX : FVec Ideal S8192x2048 .f32 := m ((c : Thread nD τ).loc main_arg0)
abbrev inA : FVec Ideal S8192x512 .bf16 := m ((c : Thread nD τ).loc main_arg1)
abbrev inB : FVec Ideal S8192x1024 .bf16 := m ((c : Thread nD τ).loc main_arg2)
abbrev inC : FVec Ideal S8192x512 .bf16 := m ((c : Thread nD τ).loc main_arg3)
abbrev inW : FVec Ideal S2048x2048 .bf16 := m ((c : Thread nD τ).loc main_arg4)
abbrev inG : FVec Ideal S2048 .f32 := m ((c : Thread nD τ).loc main_arg5)
abbrev inH : FVec Ideal S2048 .f32 := m ((c : Thread nD τ).loc main_arg6)

/-! ## Where the blocks lie -/

theorem index_0 : ∀ t : Fin grid0.N, win0_0.index t = ![(grid0.coords t 0).val, 0] := by decide +kernel
theorem index_1 : ∀ t : Fin grid0.N, win0_1.index t = ![(grid0.coords t 0).val, 0] := by decide +kernel
theorem index_2 : ∀ t : Fin grid0.N, win0_2.index t = ![(grid0.coords t 0).val, 0] := by decide +kernel
theorem index_3 : ∀ t : Fin grid0.N, win0_3.index t = ![(grid0.coords t 0).val, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![(grid0.coords t 0).val, 0] := by decide +kernel

/-- Row `n` of tile `i`. -/
abbrev place (i : Fin 16) (n : Fin 512) : Fin 8192 := ⟨i.val * 512 + n.val, by omega⟩

/-! ## What the input blocks hold -/

theorem block_x (t : Fin grid0.N) (n : Fin 512) (k : Fin 2048) :
    iblk m c 0 t (ix2 n k) = inX m c (ix2 (place (grid0.coords t 0) n) k) := by
  blk_simp [iblk]
  rw [show (V m c main_arg0 = _) from V_main_arg0 m c]
  refine congrArg _ ?_
  blk_ext [index_0]

theorem block_a (t : Fin grid0.N) (n : Fin 512) (k : Fin 512) :
    iblk m c 1 t (ix2 n k) = inA m c (ix2 (place (grid0.coords t 0) n) k) := by
  blk_simp [iblk]
  rw [show (V m c main_arg1 = _) from V_main_arg1 m c]
  refine congrArg _ ?_
  blk_ext [index_1]

theorem block_b (t : Fin grid0.N) (n : Fin 512) (k : Fin 1024) :
    iblk m c 2 t (ix2 n k) = inB m c (ix2 (place (grid0.coords t 0) n) k) := by
  blk_simp [iblk]
  rw [show (V m c main_arg2 = _) from V_main_arg2 m c]
  refine congrArg _ ?_
  blk_ext [index_2]

theorem block_c (t : Fin grid0.N) (n : Fin 512) (k : Fin 512) :
    iblk m c 3 t (ix2 n k) = inC m c (ix2 (place (grid0.coords t 0) n) k) := by
  blk_simp [iblk]
  rw [show (V m c main_arg3 = _) from V_main_arg3 m c]
  refine congrArg _ ?_
  blk_ext [index_3]

theorem block_w (t : Fin grid0.N) (j : Fin 2048) (k : Fin 2048) :
    iblk m c 4 t (ix2 j k) = inW m c (ix2 j k) := by
  blk_simp [iblk]
  rw [show (V m c main_arg4 = _) from V_main_arg4 m c]
  refine congrArg _ ?_
  blk_ext [index_4]

theorem gain_row (k : Fin 2048) : (V m c main_v0 (ix2 0 k) : EReal) = inG m c (ix1 k) := by
  unfold V
  after_reads_at

theorem shift_row (k : Fin 2048) : (V m c main_v1 (ix2 0 k) : EReal) = inH m c (ix1 k) := by
  unfold V
  after_reads_at

theorem block_g (t : Fin grid0.N) (k : Fin 2048) : iblk m c 5 t (ix2 0 k) = inG m c (ix1 k) := by
  rw [← gain_row]
  blk_simp [iblk]
  refine congrArg _ ?_
  blk_ext [index_5]

theorem block_h (t : Fin grid0.N) (k : Fin 2048) : iblk m c 6 t (ix2 0 k) = inH m c (ix1 k) := by
  rw [← shift_row]
  blk_simp [iblk]
  refine congrArg _ ?_
  blk_ext [index_6]

/-! ## The result array -/

theorem off2 : (![0, 0] : Fin 2 → ℕ) = fun _ => 0 := by decide

/-- One block's result, from the blocks' contents. -/
theorem out_block (X : FVec Ideal S512x2048 .f32) (A : FVec Ideal S512x512 .bf16) (B : FVec Ideal S512x1024 .bf16) (C : FVec Ideal S512x512 .bf16)
    (W : FVec Ideal S2048x2048 .bf16) (g b : FVec Ideal S1x2048 .f32) (n : Fin 512) (k : Fin 2048) :
    out0_7 (F := Ideal) X A B C W g b (ix2 n k)
    = norm (fun k => root * X (ix2 n k) + (((∑ j : Fin 512, A (ix2 n j) * W (ix2 ⟨j.val, by omega⟩ k)) + ∑ j : Fin 1024, B (ix2 n j) * W (ix2 ⟨512 + j.val, by omega⟩ k))
        + ∑ j : Fin 512, C (ix2 n j) * W (ix2 ⟨1536 + j.val, by omega⟩ k))) (fun k => g (ix2 0 k)) (fun k => b (ix2 0 k)) k := by
  have e1 : ∀ (j : Fin 512) (k : Fin 2048), View.ld (Val := Elt Ideal) (e' := .bf16) W r0_1 (ix2 j k) = W (ix2 ⟨j.val, by omega⟩ k) := fun j k => by
    refine View.ld_unit_apply_of (Val := Elt Ideal) (S := S2048x2048) (e := .bf16) W ![0, 0] S512x2048.size inb_S2048x2048_S512x2048_0_0 (ix2 j k) _ fun a => ?_
    match a with
    | 0 => simp
    | 1 => simp
  have e3 : ∀ (j : Fin 1024) (k : Fin 2048), View.ld (Val := Elt Ideal) (e' := .bf16) W r0_3 (ix2 j k) = W (ix2 ⟨512 + j.val, by omega⟩ k) := fun j k => by
    refine View.ld_unit_apply_of (Val := Elt Ideal) (S := S2048x2048) (e := .bf16) W ![512, 0] S1024x2048.size inb_S2048x2048_S1024x2048_512_0 (ix2 j k) _ fun a => ?_
    match a with
    | 0 => simp
    | 1 => simp
  have e4 : ∀ (j : Fin 512) (k : Fin 2048), View.ld (Val := Elt Ideal) (e' := .bf16) W r0_4 (ix2 j k) = W (ix2 ⟨1536 + j.val, by omega⟩ k) := fun j k => by
    refine View.ld_unit_apply_of (Val := Elt Ideal) (S := S2048x2048) (e := .bf16) W ![1536, 0] S512x2048.size inb_S2048x2048_S512x2048_1536_0 (ix2 j k) _ fun a => ?_
    match a with
    | 0 => simp
    | 1 => simp
  unfold out0_7
  rw [View.canon_unit_zero off2, View.ld_unit_zero off2, View.ld_unit_zero off2, View.ld_unit_zero off2, View.ld_unit_zero off2, View.ld_unit_zero off2, View.ld_unit_zero off2]
  rw [norm_apply]
  unfold row
  simp only [e1, e3, e4]

theorem block_out (t : Fin grid0.N) (n : Fin 512) (k : Fin 2048) :
    out0_7 (iblk m c 0 t) (iblk m c 1 t) (iblk m c 2 t) (iblk m c 3 t) (iblk m c 4 t) (iblk m c 5 t) (iblk m c 6 t) (ix2 n k)
    = norm (resid (inX m c) (inA m c) (inB m c) (inC m c) (inW m c) (place (grid0.coords t 0) n)) (fun k => inG m c (ix1 k)) (fun k => inH m c (ix1 k)) k := by
  refine (out_block _ _ _ _ _ _ _ n k).trans ?_
  simp only [block_x m c t, block_a m c t, block_b m c t, block_c m c t, block_w m c t, block_g m c t, block_h m c t]
  congr 1
  funext k
  unfold resid
  rw [mixed_sum]

theorem final : (dats m 0 c).arrAt 7 cfg0.N
    = fun i : S8192x2048.Idx => norm (resid (inX m c) (inA m c) (inB m c) (inC m c) (inW m c) (i 0)) (fun k => inG m c (ix1 k)) (fun k => inH m c (ix1 k)) (i 1) := by
  refine (dats m 0 c).arrAt_eq_of_covers 7 _ (by decide +kernel) fun t hf y => ?_
  blk_simp
  rw [after0_7]
  rw [show y = ix2 (y 0) (y 1) from (ix2_eta y).symm]
  refine (block_out m c t (y 0) (y 1)).trans ?_
  refine congrArg₂ (fun (n : Fin 8192) (k : Fin 2048) => norm (resid (inX m c) (inA m c) (inB m c) (inC m c) (inW m c) n) (fun k => inG m c (ix1 k)) (fun k => inH m c (ix1 k)) k)
    (Fin.ext ?_) (Fin.ext ?_)
  · blk_simp [index_7]
  · blk_simp [index_7]

end Cert.OutIdeal.Hand
end
-- ==== Proof.OutEquation.lean ====
module

public import proofs.«01_k».proof.Defs
public import proofs.«01_k».proof.Proof.OutArray
public import proofs.«01_k».proof.Proof.Gen.OutRefIdeal.Run
public import proofs.«01_k».proof.Proof.Gen.OutRefIdeal.Read

@[expose] public section

set_option maxRecDepth 16384

/-! The output projection's kernel computes the reference's layer norm of the residual. -/

noncomputable section

namespace Cert.Out.Hand

open Idealize.ShloMosaic Idealize.ShloMosaic.TcCoe Idealize.SL.Sem

/-- The kernel's factor is named the root of two. -/
theorem preserves : Cert.preserves_Out_OutIdeal :=
  IdealRules.named_const.statement Cert.OutIdeal.κ "alpha" .f32 0x3FB504F3#32 ((Real.sqrt 2 : ℝ) : EReal) rfl

theorem algebraic : Cert.algebraic_OutIdeal_OutRefIdeal := by
  intro m g m' g' _ hargs
  refine ⟨fun c => (Cert.OutIdeal.Gen.dats m 0 c).arrAt 7 Cert.OutIdeal.cfg0.N,
    Cert.OutIdeal.Value.run_blocks m g, (θ_run _ _ _).mono (fun r h c => ?_) (Cert.OutRefIdeal.Value.run m' g')⟩
  obtain ⟨h1, h2⟩ := h c
  obtain ⟨a0, a1, a2, a3, a4, a5, a6⟩ := hargs c
  refine ⟨h1.trans ?_, h2⟩
  beta_reduce
  rw [Cert.OutIdeal.Hand.final, Cert.OutRefIdeal.Read.val_main_v30_eq, a0, a1, a2, a3, a4, a5, a6]
  funext i
  rw [eq_ix2 i]
  exact Cert.OutRefIdeal.Hand.norm_apply _ _ _ _ _ _ _ _ _

end Cert.Out.Hand

namespace Cert.OutRefIdeal.Hand

open Cert.OutRefIdeal Idealize.ShloMosaic Idealize.SL.Sem

/-- The reference keeps its arguments, and has no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2, sem_eq_zero_of_no_sems (by decide) r.2⟩) (Value.run m ρ)

end Cert.OutRefIdeal.Hand
end
-- ==== Proof.FfnRun.lean ====
module

public import proofs.«01_k».proof.Proof.FfnBody

/-! The run of the feed-forward kernel over its whole grid.

Between two points the scratch buffer holds the rounded rows of the current row tile.  The result's
buffer holds what the column tiles so far have added up.  The last blocks of the three weights
overhang their arrays, so nothing is said of their buffers past the arrays' end. -/

@[expose] public section

set_option maxRecDepth 16384

noncomputable section

namespace Cert.Ffn.Hand

open Cert.Ffn Cert.Ffn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## What the buffers hold -/

theorem coord_1 : ∀ t : Fin grid0.N, (grid0.coords t 1).val = t.val % 11 := by decide +kernel
theorem index_0 : ∀ t : Fin grid0.N, win0_0.index t = ![t.val / 11, 0] := by decide +kernel

/-- The word written here past the end of a weight; nothing reads it. -/
abbrev pad {S : Shape} : Vec F S .bf16 := fun _ => Scalar.ofBits .bf16 0x0000#16

/-- The rows at a point. -/
abbrev rowsAt (c : Dev nD) (t : Fin cfg0.N) : Vec F S512x2048 .f32 := iblk m c 0 t
/-- The weights' buffers at a point, given what lies past the arrays' end. -/
abbrev gateAt (c : Dev nD) (t : Fin cfg0.N) (e : Vec F S2048x512 .bf16) : Vec F S2048x512 .bf16 :=
  win0_1.fill (grid0.coords t) e (iblk m c 1 t)
abbrev upAt (c : Dev nD) (t : Fin cfg0.N) (e : Vec F S2048x512 .bf16) : Vec F S2048x512 .bf16 :=
  win0_2.fill (grid0.coords t) e (iblk m c 2 t)
abbrev downAt (c : Dev nD) (t : Fin cfg0.N) (e : Vec F S512x2048 .bf16) : Vec F S512x2048 .bf16 :=
  win0_3.fill (grid0.coords t) e (iblk m c 3 t)

/-- The result's buffer after a point, from what it held before. -/
def stepAt (c : Dev nD) (t : Fin cfg0.N) (g u : Vec F S2048x512 .bf16) (d : Vec F S512x2048 .bf16) (o : Vec F S512x2048 .f32) :
    Vec F S512x2048 .f32 :=
  if t.val % 11 = 0 then grown (grid0.coords t) (k0_pay3 (rowsAt m c t)) g u d k0_pay4
  else if t.val % 11 = 10 then
    k0_pay2 (rowsAt m c t) (grown (grid0.coords t) (k0_pay3 (rowsAt m c t)) g u d o) (iblk m c 4 t) (iblk m c 5 t)
  else grown (grid0.coords t) (k0_pay3 (rowsAt m c t)) g u d o

/-- The same, the weights filled out with the padding word. -/
def padStep (c : Dev nD) (n : ℕ) (o : Vec F S512x2048 .f32) : Vec F S512x2048 .f32 :=
  if h : n < cfg0.N then stepAt m c ⟨n, h⟩ (gateAt m c ⟨n, h⟩ pad) (upAt m c ⟨n, h⟩ pad) (downAt m c ⟨n, h⟩ pad) o else o

/-- The result's buffer after each point. -/
def outs (c : Dev nD) : ℕ → Vec F S512x2048 .f32
  | 0 => padStep m c 0 k0_pay4
  | n + 1 => padStep m c (n + 1) (outs c n)

/-- What the scratch buffer holds between points. -/
def kept (c : Dev nD) (n : ℕ) (s : Vec F S512x2048 .bf16) : Prop :=
  ∀ h : n - 1 < cfg0.N, n % 11 ≠ 0 → s = k0_pay3 (rowsAt m c ⟨n - 1, h⟩)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => gateAt m c t pad
    | ⟨2, _⟩ => upAt m c t pad
    | ⟨3, _⟩ => downAt m c t pad
    | ⟨4, _⟩ => iblk m c 4 t
    | ⟨5, _⟩ => iblk m c 5 t
    | ⟨6, _⟩ => outs m c t.val
  Φ t := iprop((∃ s, ⌜kept m c t.val s⌝ ∗ owns (c : Thread nD τ) (Memref.whole cc0_scratch0) fullShare s) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = gateAt m c t pad := by dsimp only [dats]
theorem after0_2 (c : Dev nD) (t : Fin cfg0.N) : (dats m 0 c).after 2 t = upAt m c t pad := by dsimp only [dats]
theorem after0_3 (c : Dev nD) (t : Fin cfg0.N) : (dats m 0 c).after 3 t = downAt m c t pad := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outs m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = gateAt m c t d :=
  (Dat.before_fetched _ 1 t (fetch0_1 t) d).trans (by unfold Dat.fetched Dat.blockOf gateAt iblk; rw [A_eq])
theorem before0_2 (c : Dev nD) (t : Fin cfg0.N) (d) : (dats m 0 c).before 2 t d = upAt m c t d :=
  (Dat.before_fetched _ 2 t (fetch0_2 t) d).trans (by unfold Dat.fetched Dat.blockOf upAt iblk; rw [A_eq])
theorem before0_3 (c : Dev nD) (t : Fin cfg0.N) (d) : (dats m 0 c).before 3 t d = downAt m c t d :=
  (Dat.before_fetched _ 3 t (fetch0_3 t) d).trans (by unfold Dat.fetched Dat.blockOf downAt iblk; rw [A_eq])
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Within a row tile the rows do not change. -/
theorem rows_same (c : Dev nD) (t t' : Fin cfg0.N) (h : t.val / 11 = t'.val / 11) : rowsAt m c t = rowsAt m c t' := by
  have read (t : Fin cfg0.N) (d) : (dats m 0 c).fetched 0 t d = rowsAt m c t :=
    ((dats m 0 c).before_in_eq_fetched 0 rfl (fun _ => rfl) (fun _ _ _ => rfl)
      (fun t => by rw [after0_0]; unfold Dat.blockOf iblk; rw [A_eq]; try rfl) t d).symm.trans (before0_0 m c t d)
  have hix : (cfg0.win 0).index t = (cfg0.win 0).index t' :=
    (index_0 t).trans (by rw [h]; exact (index_0 t').symm)
  exact (read t (fun _ => Scalar.ofBits .f32 0#32)).symm.trans
    (((dats m 0 c).fetched_congr 0 hix rfl _).trans (read t' _))

/-! ## The body at a point -/

theorem opens_at (t : Fin cfg0.N) : opens (grid0.coords t) = 1#1 ↔ t.val % 11 = 0 := (opens_iff _).trans (by rw [coord_1])
theorem closes_at (t : Fin cfg0.N) : closes (grid0.coords t) = 1#1 ↔ t.val % 11 = 10 := (closes_iff _).trans (by rw [coord_1])

/-- The body at any point: every buffer named, before and after. -/
theorem body_at (c : Dev nD) (t : Fin cfg0.N) (e1 e2 : Vec F S2048x512 .bf16) (e3 : Vec F S512x2048 .bf16) (o : Vec F S512x2048 .f32)
    (K : PUnit → sProp (MT nD τ sig Unit (Elt F) ℕ (UR sig nD τ) ℕ)) :
    iprop((dats m 0 c).Φ t.castSucc
        ∗ owns (c : Thread nD τ) (st0_0 t) fullShare (rowsAt m c t) ∗ owns (c : Thread nD τ) (st0_1 t) fullShare (gateAt m c t e1)
        ∗ owns (c : Thread nD τ) (st0_2 t) fullShare (upAt m c t e2) ∗ owns (c : Thread nD τ) (st0_3 t) fullShare (downAt m c t e3)
        ∗ owns (c : Thread nD τ) (st0_4 t) fullShare (iblk m c 4 t) ∗ owns (c : Thread nD τ) (st0_5 t) fullShare (iblk m c 5 t)
        ∗ owns (c : Thread nD τ) (st0_6 t) fullShare o
        ∗ (iprop((dats m 0 c).Φ t.succ
          ∗ owns (c : Thread nD τ) (st0_0 t) fullShare (rowsAt m c t) ∗ owns (c : Thread nD τ) (st0_1 t) fullShare (gateAt m c t e1)
          ∗ owns (c : Thread nD τ) (st0_2 t) fullShare (upAt m c t e2) ∗ owns (c : Thread nD τ) (st0_3 t) fullShare (downAt m c t e3)
          ∗ owns (c : Thread nD τ) (st0_4 t) fullShare (iblk m c 4 t) ∗ owns (c : Thread nD τ) (st0_5 t) fullShare (iblk m c 5 t)
          ∗ owns (c : Thread nD τ) (st0_6 t) fullShare (stepAt m c t (gateAt m c t e1) (upAt m c t e2) (downAt m c t e3) o)) -∗ K ⟨⟩))
      ⊢ wp frame (wpE (defs₀ (F := F)) Variants.none c none) Set.univ (bodyAt0 t) K := by
  have hsucc : ∀ s : Vec F S512x2048 .bf16, s = k0_pay3 (rowsAt m c t) → kept m c (t.val + 1) s := by
    intro s hs h _; exact hs.trans rfl
  have hcur : ∀ s : Vec F S512x2048 .bf16, t.val % 11 ≠ 0 → kept m c t.val s → s = k0_pay3 (rowsAt m c t) := by
    intro s h0 hs
    have hN : t.val - 1 < cfg0.N := Nat.lt_of_le_of_lt (Nat.sub_le _ _) t.isLt
    rw [hs hN h0, rows_same m c ⟨t.val - 1, hN⟩ t (by show (t.val - 1) / 11 = t.val / 11; omega)]
  unfold bodyAt0
  rw [show (dats m 0 c).Φ t.castSucc = iprop((∃ s, ⌜kept m c t.val s⌝ ∗ owns (c : Thread nD τ) (Memref.whole cc0_scratch0) fullShare s) ∗ ∃ r, prngReg c r) from rfl,
    show (dats m 0 c).Φ t.succ = iprop((∃ s, ⌜kept m c (t.val + 1) s⌝ ∗ owns (c : Thread nD τ) (Memref.whole cc0_scratch0) fullShare s) ∗ ∃ r, prngReg c r) from rfl]
  iintro ⟨⟨⟨%s, %hs, HS⟩, HR⟩, H0, H1, H2, H3, H4, H5, H6, Hk⟩
  by_cases hz : t.val % 11 = 0
  · iapply (body_first c Set.univ (grid0.coords t) ((opens_at t).mpr hz) (fun h => by have := (closes_at t).mp h; omega)
      _ _ _ _ _ _ _ _ _ _ _ _ _ _ _ _ (rowsAt m c t) (gateAt m c t e1) (upAt m c t e2) (downAt m c t e3) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    iintro ⟨H0, H1, H2, H3, H4, H5, H6, HS⟩
    iapply Hk
    rw [show stepAt m c t (gateAt m c t e1) (upAt m c t e2) (downAt m c t e3) o = _ from if_pos hz]
    isplitl [HS HR]
    · isplitl [HS]
      · iexists _; isplitr; · ipureintro; exact hsucc _ rfl
        iexact HS
      iexact HR
    isplitl [H0]; · iexact H0
    isplitl [H1]; · iexact H1
    isplitl [H2]; · iexact H2
    isplitl [H3]; · iexact H3
    isplitl [H4]; · iexact H4
    isplitl [H5]; · iexact H5
    iexact H6
  · obtain rfl := hcur s hz hs
    by_cases hl : t.val % 11 = 10
    · iapply (body_last c Set.univ (grid0.coords t) (fun h => hz ((opens_at t).mp h)) ((closes_at t).mpr hl)
        _ _ _ _ _ _ _ _ _ _ _ _ _ _ _ _ (rowsAt m c t) (gateAt m c t e1) (upAt m c t e2) (downAt m c t e3) (iblk m c 4 t) (iblk m c 5 t) o _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      iapply Hk
      rw [show stepAt m c t (gateAt m c t e1) (upAt m c t e2) (downAt m c t e3) o = _ from (if_neg hz).trans (if_pos hl)]
      isplitl [HS HR]
      · isplitl [HS]
        · iexists _; isplitr; · ipureintro; exact hsucc _ rfl
          iexact HS
        iexact HR
      isplitl [H0]; · iexact H0
      isplitl [H1]; · iexact H1
      isplitl [H2]; · iexact H2
      isplitl [H3]; · iexact H3
      isplitl [H4]; · iexact H4
      isplitl [H5]; · iexact H5
      iexact H6
    · iapply (body_mid c Set.univ (grid0.coords t) (fun h => hz ((opens_at t).mp h)) (fun h => hl ((closes_at t).mp h))
        _ _ _ _ _ _ _ _ _ _ _ _ _ _ _ _ (rowsAt m c t) (gateAt m c t e1) (upAt m c t e2) (downAt m c t e3) (iblk m c 4 t) (iblk m c 5 t) o _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      iapply Hk
      rw [show stepAt m c t (gateAt m c t e1) (upAt m c t e2) (downAt m c t e3) o = _ from (if_neg hz).trans (if_neg hl)]
      isplitl [HS HR]
      · isplitl [HS]
        · iexists _; isplitr; · ipureintro; exact hsucc _ rfl
          iexact HS
        iexact HR
      isplitl [H0]; · iexact H0
      isplitl [H1]; · iexact H1
      isplitl [H2]; · iexact H2
      isplitl [H3]; · iexact H3
      isplitl [H4]; · iexact H4
      isplitl [H5]; · iexact H5
      iexact H6

/-- The body table's row at a point's slots. -/
theorem row_at (t : Fin cfg0.N) :
    defs₀ (F := F) .tc cfg0.body (cfg0.bodyArgs t (cfg0.slots t)) = bodyAt0 t := by
  unfold defs₀; rw [Defs.onTc_tc]

/-- The window nothing is said of in the frame run: the result's. -/
def hidden : Fin cfg0.W → Bool := fun w => w == 6

/-- What a weight's buffer is left holding, on the part inside its array. -/
theorem gate_left (c : Dev nD) (t : Fin cfg0.N) (e) :
    win0_1.fill (grid0.coords t) e (win0_1.cut (grid0.coords t) ((dats m 0 c).after 1 t)) = gateAt m c t e := by
  rw [after0_1]; exact congrArg _ (win0_1.cut_fill _ _ _)
theorem up_left (c : Dev nD) (t : Fin cfg0.N) (e) :
    win0_2.fill (grid0.coords t) e (win0_2.cut (grid0.coords t) ((dats m 0 c).after 2 t)) = upAt m c t e := by
  rw [after0_2]; exact congrArg _ (win0_2.cut_fill _ _ _)
theorem down_left (c : Dev nD) (t : Fin cfg0.N) (e) :
    win0_3.fill (grid0.coords t) e (win0_3.cut (grid0.coords t) ((dats m 0 c).after 3 t)) = downAt m c t e := by
  rw [after0_3]; exact congrArg _ (win0_3.cut_fill _ _ _)

set_option maxHeartbeats 1000000 in
/-- The obligation with the result's buffer unnamed. -/
theorem body_frame (c : Dev nD) : BodyObligationLoose (dats (F := F) m 0 c) (defs₀ (F := F)) Variants.none () Set.univ hidden := fun t => by
  rw [bigSep_W0, bigSep_W0, row_at]
  simp only [show hidden 0 = false from rfl, show hidden 1 = false from rfl, show hidden 2 = false from rfl,
    show hidden 3 = false from rfl, show hidden 4 = false from rfl, show hidden 5 = false from rfl, show hidden 6 = true from rfl]
  rw [show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4, before0_5 m c t d5]
  iapply (body_at m c t d1 d2 d3 d6 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, H0, H1, H2, H3, H4, H5, H6⟩
  isplitl [HΦ]; · iexact HΦ
  isplitl [Ho]; · iexact Ho
  isplitl [H0]
  · rw [after0_0 m c t]; iexact H0
  isplitl [H1]
  · iexists d1; rw [show (win0 1).fill (grid0.coords t) d1 ((win0 1).cut (grid0.coords t) ((dats m 0 c).after 1 t)) = _ from gate_left m c t d1]; iexact H1
  isplitl [H2]
  · iexists d2; rw [show (win0 2).fill (grid0.coords t) d2 ((win0 2).cut (grid0.coords t) ((dats m 0 c).after 2 t)) = _ from up_left m c t d2]; iexact H2
  isplitl [H3]
  · iexists d3; rw [show (win0 3).fill (grid0.coords t) d3 ((win0 3).cut (grid0.coords t) ((dats m 0 c).after 3 t)) = _ from down_left m c t d3]; iexact H3
  isplitl [H4]
  · rw [after0_4 m c t]; iexact H4
  isplitl [H5]
  · rw [after0_5 m c t]; iexact H5
  iexists _; iexact H6

theorem enter (c : Dev nD) : Pipeline.ΦA spec0 c ⊢ (dats (F := F) m 0 c).Φ 0 := by
  rw [show (dats (F := F) m 0 c).Φ 0 = iprop((∃ s, ⌜kept m c 0 s⌝ ∗ owns (c : Thread nD τ) (Memref.whole cc0_scratch0) fullShare s) ∗ ∃ r, prngReg c r) from rfl]
  unfold Pipeline.ΦA
  rw [scopedRest0_eq]
  iintro ⟨⟨%f, H⟩, HR⟩
  isplitl [H]
  · iexists f; isplitr
    · ipureintro; intro h h0; exact absurd rfl h0
    rw [owns_whole]; iexact H
  iexact HR

theorem leave (c : Dev nD) : (dats (F := F) m 0 c).Φ (Fin.last cfg0.N) ⊢ Pipeline.ΦA spec0 c := by
  rw [show (dats (F := F) m 0 c).Φ (Fin.last cfg0.N) = iprop((∃ s, ⌜kept m c (Fin.last cfg0.N).val s⌝ ∗ owns (c : Thread nD τ) (Memref.whole cc0_scratch0) fullShare s) ∗ ∃ r, prngReg c r) from rfl]
  unfold Pipeline.ΦA
  rw [scopedRest0_eq]
  iintro ⟨⟨%s, -, H⟩, HR⟩
  isplitl [H]
  · iexists s; rw [← owns_whole]; iexact H
  iexact HR

set_option backward.isDefEq.respectTransparency.types false in
set_option maxHeartbeats 800000 in
/-- The run, nothing said of the result. -/
theorem run_hidden : θ_run defs (onTc (τ := τ) (main (F := F))) (s₀ m ρ)
    (fun r => Pipeline.RDat.FramePost cfg0 (fun c => (dats m 0 c).toRForget hidden) (V m) r ∧ r.2.sem = fun _ => 0) :=
  Pipeline.θ_run_frame_track_forget (Q' := _) cfgs (dats m) (0 : Fin 1) launch0 defs₀ Variants.none hidden m ρ main
    (hbody := body_frame m) (hshare := fun c => (dats m 0 c).share_full fun _ => rfl)
    (howed := fun _ _ => rfl) (V := V m) (hmain := hmain m Variants.none) (hA := A_eq m) (hin := enter m) (hout := leave m)

/-- Every execution ends, keeps the arguments and leaves the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hr => ⟨fun c => by
    have h := hr.1
    exact ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hr.2⟩) (run_hidden m ρ)

end Cert.Ffn.Hand

end
-- ==== Proof.FfnIdealBody.lean ====
module

public import proofs.«01_k».proof.Proof.Gen.FfnIdeal.Frame
public import proofs.«01_k».proof.Proof.Gen.FfnIdeal.Skeleton
public import Idealize.ShloMosaic.Lib.Pipeline.ValueKit

/-! The body of the feed-forward kernel at one point of its grid.

The grid walks the row tiles and, within each, the column tiles of the two first weights.  The first
column tile rounds the rows into the scratch buffer and clears the result; each column tile then adds
its share of the product; the last one adds the residual and normalises.  One statement per kind of
point says what the result's buffer and the scratch buffer hold afterwards. -/

@[expose] public section

set_option maxRecDepth 16384

noncomputable section

namespace Cert.FfnIdeal.Hand

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The test of the first conditional: is this the first column tile? -/
abbrev opens (i : grid0.Coords) : BitVec 1 :=
  Scalar.cmpi .ne (Scalar.extui (Scalar.cmpi .eq (BitVec.ofNat 32 (i 1).val) 0#32) : BitVec 32) 0#32
/-- The test of the second conditional: is this the last column tile? -/
abbrev closes (i : grid0.Coords) : BitVec 1 :=
  Scalar.cmpi .ne (Scalar.extui (Scalar.cmpi .eq (BitVec.ofNat 32 (i 1).val) 10#32) : BitVec 32) 0#32

theorem opens_iff (i : grid0.Coords) : opens i = 1#1 ↔ (i 1).val = 0 := by
  have h : ∀ j : Fin 11, (Scalar.cmpi .ne (Scalar.extui (Scalar.cmpi .eq (BitVec.ofNat 32 j.val) 0#32) : BitVec 32) 0#32) = 1#1
      ↔ j.val = 0 := by decide
  exact h (i 1)
theorem closes_iff (i : grid0.Coords) : closes i = 1#1 ↔ (i 1).val = 10 := by
  have h : ∀ j : Fin 11, (Scalar.cmpi .ne (Scalar.extui (Scalar.cmpi .eq (BitVec.ofNat 32 j.val) 10#32) : BitVec 32) 0#32) = 1#1
      ↔ j.val = 10 := by decide
  exact h (i 1)

theorem off2 : (![0, 0] : Fin 2 → Nat) = fun _ => 0 := funext fun a => by fin_cases a <;> rfl

/-- The running result after one column tile's share. -/
def grown (i : grid0.Coords) (s : Vec F S512x2048 .bf16) (g u : Vec F S2048x512 .bf16) (d : Vec F S512x2048 .bf16)
    (o : Vec F S512x2048 .f32) : Vec F S512x2048 .f32 :=
  k0_pay1 (k0_pay5 o) (k0_pay6 i s g u d)

/-- A store over a whole buffer, made last, leaves its payload. -/
theorem stored {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-! A load of a whole buffer reads the buffer. -/

theorem whole_rows {e : EltTy} (X : S512x2048.Idx → Elt F e) (inb) :
    View.ld X (Rect.unit (s := S512x2048) ![0, 0] ![512, 2048] inb) = X := View.ld_unit_zero (S := S512x2048) off2 _ X
theorem whole_cols {e : EltTy} (X : S2048x512.Idx → Elt F e) (inb) :
    View.ld X (Rect.unit (s := S2048x512) ![0, 0] ![2048, 512] inb) = X := View.ld_unit_zero (S := S2048x512) off2 _ X
theorem whole_row {e : EltTy} (X : S1x2048.Idx → Elt F e) (inb) :
    View.ld X (Rect.unit (s := S1x2048) ![0, 0] ![1, 2048] inb) = X := View.ld_unit_zero (S := S1x2048) off2 _ X
/-- A load of a whole buffer after a store over it reads the payload. -/
theorem whole_read {e : EltTy} {sp : Space} (v : View sig .tc sp S512x2048 e) (w : S512x2048.Idx → Elt F e) (inb) (inb') :
    v.readCov [(⟨Rect.unit (s := S512x2048) ![0, 0] ![512, 2048] inb, w⟩ : View.Piece (Elt F) S512x2048 e)]
      (Rect.unit (s := S512x2048) ![0, 0] ![512, 2048] inb').toLoadRect = w :=
  View.readCov_unit_zero (S := S512x2048) v off2 _ w

set_option maxHeartbeats 1000000 in
/-- A first column tile: the rows are rounded into the scratch buffer and the result starts from zero. -/
theorem body_first (c : Dev nD) (E : Set ℕ) (i : grid0.Coords) (h1 : opens i = 1#1) (h2 : ¬ closes i = 1#1)
    (arg2 : Memref sig .tc .vmem S512x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S512x2048 .bf16) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S512x2048 .f32) (harg8 : arg8.IsWhole) (arg9 : Memref sig .tc .vmem S512x2048 .bf16) (harg9 : arg9.IsWhole)
    (x : Vec F S512x2048 .f32) (g u : Vec F S2048x512 .bf16) (d : Vec F S512x2048 .bf16) (ga be : Vec F S1x2048 .f32) (K : PUnit → sProp (MT nD τ sig Unit (Elt F) ℕ (UR sig nD τ) ℕ)) :
    iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare ga ∗ owns (c : Thread nD τ) arg7 fullShare be
        ∗ (∃ o, owns (c : Thread nD τ) arg8 fullShare o) ∗ (∃ s, owns (c : Thread nD τ) arg9 fullShare s)
        ∗ (iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare ga ∗ owns (c : Thread nD τ) arg7 fullShare be
            ∗ owns (c : Thread nD τ) arg8 fullShare (grown i (k0_pay3 x) g u d k0_pay4) ∗ owns (c : Thread nD τ) arg9 fullShare (k0_pay3 x)) -∗ K ⟨⟩))
      ⊢ wp frame (wpE (defs₀ (F := F)) Variants.none c none) E
          (cc0_ffn_ln i arg2 harg2 arg3 harg3 arg4 harg4 arg5 harg5 arg6 harg6 arg7 harg7 arg8 harg8 arg9 harg9) K := by
  simp only [cc0_ffn_ln_eq_skeleton]; unfold cc0_ffn_ln_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (stored _ _ off2 _ _ _).trans ?_
    simp only [View.readAt_eq_ld, whole_rows, whole_cols, whole_row, whole_read]
    rfl
  iexists _; isplitr
  swap; · iexact H7
  ipureintro
  sl_unfold_words
  refine (stored _ _ off2 _ _ _).trans ?_
  simp only [View.readAt_eq_ld, whole_rows]

set_option maxHeartbeats 1000000 in
/-- A column tile between: its share is added. -/
theorem body_mid (c : Dev nD) (E : Set ℕ) (i : grid0.Coords) (h1 : ¬ opens i = 1#1) (h2 : ¬ closes i = 1#1)
    (arg2 : Memref sig .tc .vmem S512x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S512x2048 .bf16) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S512x2048 .f32) (harg8 : arg8.IsWhole) (arg9 : Memref sig .tc .vmem S512x2048 .bf16) (harg9 : arg9.IsWhole)
    (x : Vec F S512x2048 .f32) (g u : Vec F S2048x512 .bf16) (d : Vec F S512x2048 .bf16) (ga be : Vec F S1x2048 .f32)
    (o : Vec F S512x2048 .f32) (s : Vec F S512x2048 .bf16) (K : PUnit → sProp (MT nD τ sig Unit (Elt F) ℕ (UR sig nD τ) ℕ)) :
    iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare ga ∗ owns (c : Thread nD τ) arg7 fullShare be
        ∗ owns (c : Thread nD τ) arg8 fullShare o ∗ owns (c : Thread nD τ) arg9 fullShare s
        ∗ (iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare ga ∗ owns (c : Thread nD τ) arg7 fullShare be
            ∗ owns (c : Thread nD τ) arg8 fullShare (grown i s g u d o) ∗ owns (c : Thread nD τ) arg9 fullShare (s)) -∗ K ⟨⟩))
      ⊢ wp frame (wpE (defs₀ (F := F)) Variants.none c none) E
          (cc0_ffn_ln i arg2 harg2 arg3 harg3 arg4 harg4 arg5 harg5 arg6 harg6 arg7 harg7 arg8 harg8 arg9 harg9) K := by
  simp only [cc0_ffn_ln_eq_skeleton]; unfold cc0_ffn_ln_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (stored _ _ off2 _ _ _).trans ?_
    simp only [View.readAt_eq_ld, whole_rows, whole_cols, whole_row, whole_read]
    rfl
  iexists f7; isplitr; · ipureintro; rfl
  iexact H7

set_option maxHeartbeats 1000000 in
/-- The last column tile: its share is added, then the residual, and the row is normalised. -/
theorem body_last (c : Dev nD) (E : Set ℕ) (i : grid0.Coords) (h1 : ¬ opens i = 1#1) (h2 : closes i = 1#1)
    (arg2 : Memref sig .tc .vmem S512x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S512x2048 .bf16) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S512x2048 .f32) (harg8 : arg8.IsWhole) (arg9 : Memref sig .tc .vmem S512x2048 .bf16) (harg9 : arg9.IsWhole)
    (x : Vec F S512x2048 .f32) (g u : Vec F S2048x512 .bf16) (d : Vec F S512x2048 .bf16) (ga be : Vec F S1x2048 .f32)
    (o : Vec F S512x2048 .f32) (s : Vec F S512x2048 .bf16) (K : PUnit → sProp (MT nD τ sig Unit (Elt F) ℕ (UR sig nD τ) ℕ)) :
    iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare ga ∗ owns (c : Thread nD τ) arg7 fullShare be
        ∗ owns (c : Thread nD τ) arg8 fullShare o ∗ owns (c : Thread nD τ) arg9 fullShare s
        ∗ (iprop(owns (c : Thread nD τ) arg2 fullShare x ∗ owns (c : Thread nD τ) arg3 fullShare g ∗ owns (c : Thread nD τ) arg4 fullShare u
        ∗ owns (c : Thread nD τ) arg5 fullShare d ∗ owns (c : Thread nD τ) arg6 fullShare ga ∗ owns (c : Thread nD τ) arg7 fullShare be
            ∗ owns (c : Thread nD τ) arg8 fullShare (k0_pay2 x (grown i s g u d o) ga be) ∗ owns (c : Thread nD τ) arg9 fullShare (s)) -∗ K ⟨⟩))
      ⊢ wp frame (wpE (defs₀ (F := F)) Variants.none c none) E
          (cc0_ffn_ln i arg2 harg2 arg3 harg3 arg4 harg4 arg5 harg5 arg6 harg6 arg7 harg7 arg8 harg8 arg9 harg9) K := by
  simp only [cc0_ffn_ln_eq_skeleton]; unfold cc0_ffn_ln_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (stored _ _ off2 _ _ _).trans ?_
    simp only [View.readAt_eq_ld, whole_rows, whole_cols, whole_row, whole_read]
    rfl
  iexists f7; isplitr; · ipureintro; rfl
  iexact H7

end Cert.FfnIdeal.Hand

end
-- ==== Proof.FfnIdealRun.lean ====
module

public import proofs.«01_k».proof.Proof.FfnIdealBody

/-! The run of the feed-forward kernel over its whole grid.

Between two points the scratch buffer holds the rounded rows of the current row tile.  The result's
buffer holds what the column tiles so far have added up.  The last blocks of the three weights
overhang their arrays, so nothing is said of their buffers past the arrays' end. -/

@[expose] public section

set_option maxRecDepth 16384

noncomputable section

namespace Cert.FfnIdeal.Hand

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

variable (m : (ℓ : Loc nD τ sig) → Buf (Elt F) ℓ) (ρ : Dev nD → PrngReg)

/-! ## What the buffers hold -/

theorem coord_1 : ∀ t : Fin grid0.N, (grid0.coords t 1).val = t.val % 11 := by decide +kernel
theorem index_0 : ∀ t : Fin grid0.N, win0_0.index t = ![t.val / 11, 0] := by decide +kernel

/-- The word written here past the end of a weight; nothing reads it. -/
abbrev pad {S : Shape} : Vec F S .bf16 := fun _ => Scalar.ofBits .bf16 0x0000#16

/-- The rows at a point. -/
abbrev rowsAt (c : Dev nD) (t : Fin cfg0.N) : Vec F S512x2048 .f32 := iblk m c 0 t
/-- The weights' buffers at a point, given what lies past the arrays' end. -/
abbrev gateAt (c : Dev nD) (t : Fin cfg0.N) (e : Vec F S2048x512 .bf16) : Vec F S2048x512 .bf16 :=
  win0_1.fill (grid0.coords t) e (iblk m c 1 t)
abbrev upAt (c : Dev nD) (t : Fin cfg0.N) (e : Vec F S2048x512 .bf16) : Vec F S2048x512 .bf16 :=
  win0_2.fill (grid0.coords t) e (iblk m c 2 t)
abbrev downAt (c : Dev nD) (t : Fin cfg0.N) (e : Vec F S512x2048 .bf16) : Vec F S512x2048 .bf16 :=
  win0_3.fill (grid0.coords t) e (iblk m c 3 t)

/-- The result's buffer after a point, from what it held before. -/
def stepAt (c : Dev nD) (t : Fin cfg0.N) (g u : Vec F S2048x512 .bf16) (d : Vec F S512x2048 .bf16) (o : Vec F S512x2048 .f32) :
    Vec F S512x2048 .f32 :=
  if t.val % 11 = 0 then grown (grid0.coords t) (k0_pay3 (rowsAt m c t)) g u d k0_pay4
  else if t.val % 11 = 10 then
    k0_pay2 (rowsAt m c t) (grown (grid0.coords t) (k0_pay3 (rowsAt m c t)) g u d o) (iblk m c 4 t) (iblk m c 5 t)
  else grown (grid0.coords t) (k0_pay3 (rowsAt m c t)) g u d o

/-- The same, the weights filled out with the padding word. -/
def padStep (c : Dev nD) (n : ℕ) (o : Vec F S512x2048 .f32) : Vec F S512x2048 .f32 :=
  if h : n < cfg0.N then stepAt m c ⟨n, h⟩ (gateAt m c ⟨n, h⟩ pad) (upAt m c ⟨n, h⟩ pad) (downAt m c ⟨n, h⟩ pad) o else o

/-- The result's buffer after each point. -/
def outs (c : Dev nD) : ℕ → Vec F S512x2048 .f32
  | 0 => padStep m c 0 k0_pay4
  | n + 1 => padStep m c (n + 1) (outs c n)

/-- What the scratch buffer holds between points. -/
def kept (c : Dev nD) (n : ℕ) (s : Vec F S512x2048 .bf16) : Prop :=
  ∀ h : n - 1 < cfg0.N, n % 11 ≠ 0 → s = k0_pay3 (rowsAt m c ⟨n - 1, h⟩)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => gateAt m c t pad
    | ⟨2, _⟩ => upAt m c t pad
    | ⟨3, _⟩ => downAt m c t pad
    | ⟨4, _⟩ => iblk m c 4 t
    | ⟨5, _⟩ => iblk m c 5 t
    | ⟨6, _⟩ => outs m c t.val
  Φ t := iprop((∃ s, ⌜kept m c t.val s⌝ ∗ owns (c : Thread nD τ) (Memref.whole cc0_scratch0) fullShare s) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = gateAt m c t pad := by dsimp only [dats]
theorem after0_2 (c : Dev nD) (t : Fin cfg0.N) : (dats m 0 c).after 2 t = upAt m c t pad := by dsimp only [dats]
theorem after0_3 (c : Dev nD) (t : Fin cfg0.N) : (dats m 0 c).after 3 t = downAt m c t pad := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outs m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = gateAt m c t d :=
  (Dat.before_fetched _ 1 t (fetch0_1 t) d).trans (by unfold Dat.fetched Dat.blockOf gateAt iblk; rw [A_eq])
theorem before0_2 (c : Dev nD) (t : Fin cfg0.N) (d) : (dats m 0 c).before 2 t d = upAt m c t d :=
  (Dat.before_fetched _ 2 t (fetch0_2 t) d).trans (by unfold Dat.fetched Dat.blockOf upAt iblk; rw [A_eq])
theorem before0_3 (c : Dev nD) (t : Fin cfg0.N) (d) : (dats m 0 c).before 3 t d = downAt m c t d :=
  (Dat.before_fetched _ 3 t (fetch0_3 t) d).trans (by unfold Dat.fetched Dat.blockOf downAt iblk; rw [A_eq])
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Within a row tile the rows do not change. -/
theorem rows_same (c : Dev nD) (t t' : Fin cfg0.N) (h : t.val / 11 = t'.val / 11) : rowsAt m c t = rowsAt m c t' := by
  have read (t : Fin cfg0.N) (d) : (dats m 0 c).fetched 0 t d = rowsAt m c t :=
    ((dats m 0 c).before_in_eq_fetched 0 rfl (fun _ => rfl) (fun _ _ _ => rfl)
      (fun t => by rw [after0_0]; unfold Dat.blockOf iblk; rw [A_eq]; try rfl) t d).symm.trans (before0_0 m c t d)
  have hix : (cfg0.win 0).index t = (cfg0.win 0).index t' :=
    (index_0 t).trans (by rw [h]; exact (index_0 t').symm)
  exact (read t (fun _ => Scalar.ofBits .f32 0#32)).symm.trans
    (((dats m 0 c).fetched_congr 0 hix rfl _).trans (read t' _))

/-! ## The body at a point -/

theorem opens_at (t : Fin cfg0.N) : opens (grid0.coords t) = 1#1 ↔ t.val % 11 = 0 := (opens_iff _).trans (by rw [coord_1])
theorem closes_at (t : Fin cfg0.N) : closes (grid0.coords t) = 1#1 ↔ t.val % 11 = 10 := (closes_iff _).trans (by rw [coord_1])

/-- The body at any point: every buffer named, before and after. -/
theorem body_at (c : Dev nD) (t : Fin cfg0.N) (e1 e2 : Vec F S2048x512 .bf16) (e3 : Vec F S512x2048 .bf16) (o : Vec F S512x2048 .f32)
    (K : PUnit → sProp (MT nD τ sig Unit (Elt F) ℕ (UR sig nD τ) ℕ)) :
    iprop((dats m 0 c).Φ t.castSucc
        ∗ owns (c : Thread nD τ) (st0_0 t) fullShare (rowsAt m c t) ∗ owns (c : Thread nD τ) (st0_1 t) fullShare (gateAt m c t e1)
        ∗ owns (c : Thread nD τ) (st0_2 t) fullShare (upAt m c t e2) ∗ owns (c : Thread nD τ) (st0_3 t) fullShare (downAt m c t e3)
        ∗ owns (c : Thread nD τ) (st0_4 t) fullShare (iblk m c 4 t) ∗ owns (c : Thread nD τ) (st0_5 t) fullShare (iblk m c 5 t)
        ∗ owns (c : Thread nD τ) (st0_6 t) fullShare o
        ∗ (iprop((dats m 0 c).Φ t.succ
          ∗ owns (c : Thread nD τ) (st0_0 t) fullShare (rowsAt m c t) ∗ owns (c : Thread nD τ) (st0_1 t) fullShare (gateAt m c t e1)
          ∗ owns (c : Thread nD τ) (st0_2 t) fullShare (upAt m c t e2) ∗ owns (c : Thread nD τ) (st0_3 t) fullShare (downAt m c t e3)
          ∗ owns (c : Thread nD τ) (st0_4 t) fullShare (iblk m c 4 t) ∗ owns (c : Thread nD τ) (st0_5 t) fullShare (iblk m c 5 t)
          ∗ owns (c : Thread nD τ) (st0_6 t) fullShare (stepAt m c t (gateAt m c t e1) (upAt m c t e2) (downAt m c t e3) o)) -∗ K ⟨⟩))
      ⊢ wp frame (wpE (defs₀ (F := F)) Variants.none c none) Set.univ (bodyAt0 t) K := by
  have hsucc : ∀ s : Vec F S512x2048 .bf16, s = k0_pay3 (rowsAt m c t) → kept m c (t.val + 1) s := by
    intro s hs h _; exact hs.trans rfl
  have hcur : ∀ s : Vec F S512x2048 .bf16, t.val % 11 ≠ 0 → kept m c t.val s → s = k0_pay3 (rowsAt m c t) := by
    intro s h0 hs
    have hN : t.val - 1 < cfg0.N := Nat.lt_of_le_of_lt (Nat.sub_le _ _) t.isLt
    rw [hs hN h0, rows_same m c ⟨t.val - 1, hN⟩ t (by show (t.val - 1) / 11 = t.val / 11; omega)]
  unfold bodyAt0
  rw [show (dats m 0 c).Φ t.castSucc = iprop((∃ s, ⌜kept m c t.val s⌝ ∗ owns (c : Thread nD τ) (Memref.whole cc0_scratch0) fullShare s) ∗ ∃ r, prngReg c r) from rfl,
    show (dats m 0 c).Φ t.succ = iprop((∃ s, ⌜kept m c (t.val + 1) s⌝ ∗ owns (c : Thread nD τ) (Memref.whole cc0_scratch0) fullShare s) ∗ ∃ r, prngReg c r) from rfl]
  iintro ⟨⟨⟨%s, %hs, HS⟩, HR⟩, H0, H1, H2, H3, H4, H5, H6, Hk⟩
  by_cases hz : t.val % 11 = 0
  · iapply (body_first c Set.univ (grid0.coords t) ((opens_at t).mpr hz) (fun h => by have := (closes_at t).mp h; omega)
      _ _ _ _ _ _ _ _ _ _ _ _ _ _ _ _ (rowsAt m c t) (gateAt m c t e1) (upAt m c t e2) (downAt m c t e3) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    iintro ⟨H0, H1, H2, H3, H4, H5, H6, HS⟩
    iapply Hk
    rw [show stepAt m c t (gateAt m c t e1) (upAt m c t e2) (downAt m c t e3) o = _ from if_pos hz]
    isplitl [HS HR]
    · isplitl [HS]
      · iexists _; isplitr; · ipureintro; exact hsucc _ rfl
        iexact HS
      iexact HR
    isplitl [H0]; · iexact H0
    isplitl [H1]; · iexact H1
    isplitl [H2]; · iexact H2
    isplitl [H3]; · iexact H3
    isplitl [H4]; · iexact H4
    isplitl [H5]; · iexact H5
    iexact H6
  · obtain rfl := hcur s hz hs
    by_cases hl : t.val % 11 = 10
    · iapply (body_last c Set.univ (grid0.coords t) (fun h => hz ((opens_at t).mp h)) ((closes_at t).mpr hl)
        _ _ _ _ _ _ _ _ _ _ _ _ _ _ _ _ (rowsAt m c t) (gateAt m c t e1) (upAt m c t e2) (downAt m c t e3) (iblk m c 4 t) (iblk m c 5 t) o _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      iapply Hk
      rw [show stepAt m c t (gateAt m c t e1) (upAt m c t e2) (downAt m c t e3) o = _ from (if_neg hz).trans (if_pos hl)]
      isplitl [HS HR]
      · isplitl [HS]
        · iexists _; isplitr; · ipureintro; exact hsucc _ rfl
          iexact HS
        iexact HR
      isplitl [H0]; · iexact H0
      isplitl [H1]; · iexact H1
      isplitl [H2]; · iexact H2
      isplitl [H3]; · iexact H3
      isplitl [H4]; · iexact H4
      isplitl [H5]; · iexact H5
      iexact H6
    · iapply (body_mid c Set.univ (grid0.coords t) (fun h => hz ((opens_at t).mp h)) (fun h => hl ((closes_at t).mp h))
        _ _ _ _ _ _ _ _ _ _ _ _ _ _ _ _ (rowsAt m c t) (gateAt m c t e1) (upAt m c t e2) (downAt m c t e3) (iblk m c 4 t) (iblk m c 5 t) o _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      iapply Hk
      rw [show stepAt m c t (gateAt m c t e1) (upAt m c t e2) (downAt m c t e3) o = _ from (if_neg hz).trans (if_neg hl)]
      isplitl [HS HR]
      · isplitl [HS]
        · iexists _; isplitr; · ipureintro; exact hsucc _ rfl
          iexact HS
        iexact HR
      isplitl [H0]; · iexact H0
      isplitl [H1]; · iexact H1
      isplitl [H2]; · iexact H2
      isplitl [H3]; · iexact H3
      isplitl [H4]; · iexact H4
      isplitl [H5]; · iexact H5
      iexact H6

/-- The body table's row at a point's slots. -/
theorem row_at (t : Fin cfg0.N) :
    defs₀ (F := F) .tc cfg0.body (cfg0.bodyArgs t (cfg0.slots t)) = bodyAt0 t := by
  unfold defs₀; rw [Defs.onTc_tc]

/-- The window nothing is said of in the frame run: the result's. -/
def hidden : Fin cfg0.W → Bool := fun w => w == 6

/-- What a weight's buffer is left holding, on the part inside its array. -/
theorem gate_left (c : Dev nD) (t : Fin cfg0.N) (e) :
    win0_1.fill (grid0.coords t) e (win0_1.cut (grid0.coords t) ((dats m 0 c).after 1 t)) = gateAt m c t e := by
  rw [after0_1]; exact congrArg _ (win0_1.cut_fill _ _ _)
theorem up_left (c : Dev nD) (t : Fin cfg0.N) (e) :
    win0_2.fill (grid0.coords t) e (win0_2.cut (grid0.coords t) ((dats m 0 c).after 2 t)) = upAt m c t e := by
  rw [after0_2]; exact congrArg _ (win0_2.cut_fill _ _ _)
theorem down_left (c : Dev nD) (t : Fin cfg0.N) (e) :
    win0_3.fill (grid0.coords t) e (win0_3.cut (grid0.coords t) ((dats m 0 c).after 3 t)) = downAt m c t e := by
  rw [after0_3]; exact congrArg _ (win0_3.cut_fill _ _ _)

set_option maxHeartbeats 1000000 in
/-- The obligation with the result's buffer unnamed. -/
theorem body_frame (c : Dev nD) : BodyObligationLoose (dats (F := F) m 0 c) (defs₀ (F := F)) Variants.none () Set.univ hidden := fun t => by
  rw [bigSep_W0, bigSep_W0, row_at]
  simp only [show hidden 0 = false from rfl, show hidden 1 = false from rfl, show hidden 2 = false from rfl,
    show hidden 3 = false from rfl, show hidden 4 = false from rfl, show hidden 5 = false from rfl, show hidden 6 = true from rfl]
  rw [show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4, before0_5 m c t d5]
  iapply (body_at m c t d1 d2 d3 d6 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, H0, H1, H2, H3, H4, H5, H6⟩
  isplitl [HΦ]; · iexact HΦ
  isplitl [Ho]; · iexact Ho
  isplitl [H0]
  · rw [after0_0 m c t]; iexact H0
  isplitl [H1]
  · iexists d1; rw [show (win0 1).fill (grid0.coords t) d1 ((win0 1).cut (grid0.coords t) ((dats m 0 c).after 1 t)) = _ from gate_left m c t d1]; iexact H1
  isplitl [H2]
  · iexists d2; rw [show (win0 2).fill (grid0.coords t) d2 ((win0 2).cut (grid0.coords t) ((dats m 0 c).after 2 t)) = _ from up_left m c t d2]; iexact H2
  isplitl [H3]
  · iexists d3; rw [show (win0 3).fill (grid0.coords t) d3 ((win0 3).cut (grid0.coords t) ((dats m 0 c).after 3 t)) = _ from down_left m c t d3]; iexact H3
  isplitl [H4]
  · rw [after0_4 m c t]; iexact H4
  isplitl [H5]
  · rw [after0_5 m c t]; iexact H5
  iexists _; iexact H6

theorem enter (c : Dev nD) : Pipeline.ΦA spec0 c ⊢ (dats (F := F) m 0 c).Φ 0 := by
  rw [show (dats (F := F) m 0 c).Φ 0 = iprop((∃ s, ⌜kept m c 0 s⌝ ∗ owns (c : Thread nD τ) (Memref.whole cc0_scratch0) fullShare s) ∗ ∃ r, prngReg c r) from rfl]
  unfold Pipeline.ΦA
  rw [scopedRest0_eq]
  iintro ⟨⟨%f, H⟩, HR⟩
  isplitl [H]
  · iexists f; isplitr
    · ipureintro; intro h h0; exact absurd rfl h0
    rw [owns_whole]; iexact H
  iexact HR

theorem leave (c : Dev nD) : (dats (F := F) m 0 c).Φ (Fin.last cfg0.N) ⊢ Pipeline.ΦA spec0 c := by
  rw [show (dats (F := F) m 0 c).Φ (Fin.last cfg0.N) = iprop((∃ s, ⌜kept m c (Fin.last cfg0.N).val s⌝ ∗ owns (c : Thread nD τ) (Memref.whole cc0_scratch0) fullShare s) ∗ ∃ r, prngReg c r) from rfl]
  unfold Pipeline.ΦA
  rw [scopedRest0_eq]
  iintro ⟨⟨%s, -, H⟩, HR⟩
  isplitl [H]
  · iexists s; rw [← owns_whole]; iexact H
  iexact HR

set_option backward.isDefEq.respectTransparency.types false in
set_option maxHeartbeats 800000 in
/-- The run, nothing said of the result. -/
theorem run_hidden : θ_run defs (onTc (τ := τ) (main (F := F))) (s₀ m ρ)
    (fun r => Pipeline.RDat.FramePost cfg0 (fun c => (dats m 0 c).toRForget hidden) (V m) r ∧ r.2.sem = fun _ => 0) :=
  Pipeline.θ_run_frame_track_forget (Q' := _) cfgs (dats m) (0 : Fin 1) launch0 defs₀ Variants.none hidden m ρ main
    (hbody := body_frame m) (hshare := fun c => (dats m 0 c).share_full fun _ => rfl)
    (howed := fun _ _ => rfl) (V := V m) (hmain := hmain m Variants.none) (hA := A_eq m) (hin := enter m) (hout := leave m)

/-- Every execution ends, keeps the arguments and leaves the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hr => ⟨fun c => by
    have h := hr.1
    exact ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hr.2⟩) (run_hidden m ρ)

/-! ## The run with the result named -/

/-- The result does not depend on what lies past the end of the weights. -/
def Free : Prop := ∀ (c : Dev nD) (t : Fin cfg0.N) (e1 e2 : Vec F S2048x512 .bf16) (e3 : Vec F S512x2048 .bf16)
  (s : Vec F S512x2048 .bf16) (o : Vec F S512x2048 .f32),
  grown (grid0.coords t) s (gateAt m c t e1) (upAt m c t e2) (downAt m c t e3) o
    = grown (grid0.coords t) s (gateAt m c t pad) (upAt m c t pad) (downAt m c t pad) o

theorem step_free (hf : Free m) (c : Dev nD) (t : Fin cfg0.N) (e1 e2 : Vec F S2048x512 .bf16) (e3 : Vec F S512x2048 .bf16) (o : Vec F S512x2048 .f32) :
    stepAt m c t (gateAt m c t e1) (upAt m c t e2) (downAt m c t e3) o = padStep m c t.val o := by
  unfold padStep
  rw [dif_pos t.isLt]
  unfold stepAt
  rw [hf c t e1 e2 e3, hf c t e1 e2 e3]

theorem step_first (c : Dev nD) (n : ℕ) (h0 : n % 11 = 0) (hn : n < cfg0.N) (o o' : Vec F S512x2048 .f32) : padStep m c n o = padStep m c n o' := by
  unfold padStep
  rw [dif_pos hn, dif_pos hn]
  unfold stepAt
  rw [if_pos h0, if_pos h0]

theorem outs_step (c : Dev nD) (n : ℕ) (h : n % 11 ≠ 0) : outs m c n = padStep m c n (outs m c (n - 1)) := by
  cases n with
  | zero => exact absurd rfl h
  | succ k => rfl

theorem outs_first (c : Dev nD) (n : ℕ) (h0 : n % 11 = 0) (hn : n < cfg0.N) (o : Vec F S512x2048 .f32) : outs m c n = padStep m c n o := by
  cases n with
  | zero => exact step_first m c _ h0 hn _ _
  | succ k => exact step_first m c _ h0 hn _ _

/-- What the result's buffer holds before a point that is not the first of its row tile. -/
theorem before0_6 (c : Dev nD) (t : Fin cfg0.N) (h : t.val % 11 ≠ 0) (d) : (dats m 0 c).before 6 t d = outs m c (t.val - 1) := by
  have ht : t.val - 1 < cfg0.N := Nat.lt_of_le_of_lt (Nat.sub_le _ _) t.isLt
  have hk := Dat.before_out_kept (dats m 0 c) 6 rfl t (by omega) (by
    cases hf : ((cfg0.win 6).flush ⟨t.val - 1, ht⟩) with
    | false => rfl
    | true => have := (flush0_6 ⟨t.val - 1, ht⟩).mp hf; simp only at this; omega) (fun _ => rfl) (fun _ _ => rfl) d
  rw [hk, after0_6]

set_option maxHeartbeats 1000000 in
/-- The obligation with every buffer named. -/
theorem body_named (hf : Free m) (c : Dev nD) : BodyObligationLoose (dats (F := F) m 0 c) (defs₀ (F := F)) Variants.none () Set.univ := fun t => by
  rw [bigSep_W0, bigSep_W0, row_at]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4, before0_5 m c t d5]
  iapply (body_at m c t d1 d2 d3 ((dats m 0 c).before 6 t d6) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, H0, H1, H2, H3, H4, H5, H6⟩
  isplitl [HΦ]; · iexact HΦ
  isplitl [Ho]; · iexact Ho
  isplitl [H0]
  · rw [after0_0 m c t]; iexact H0
  isplitl [H1]
  · iexists d1; rw [show (win0 1).fill (grid0.coords t) d1 ((win0 1).cut (grid0.coords t) ((dats m 0 c).after 1 t)) = _ from gate_left m c t d1]; iexact H1
  isplitl [H2]
  · iexists d2; rw [show (win0 2).fill (grid0.coords t) d2 ((win0 2).cut (grid0.coords t) ((dats m 0 c).after 2 t)) = _ from up_left m c t d2]; iexact H2
  isplitl [H3]
  · iexists d3; rw [show (win0 3).fill (grid0.coords t) d3 ((win0 3).cut (grid0.coords t) ((dats m 0 c).after 3 t)) = _ from down_left m c t d3]; iexact H3
  isplitl [H4]
  · rw [after0_4 m c t]; iexact H4
  isplitl [H5]
  · rw [after0_5 m c t]; iexact H5
  rw [step_free m hf c t d1 d2 d3, after0_6 m c t]
  by_cases h : t.val % 11 = 0
  · rw [outs_first m c t.val h t.isLt]; iexact H6
  · rw [outs_step m c t.val h, before0_6 m c t h d6]; iexact H6

set_option backward.isDefEq.respectTransparency.types false in
set_option maxHeartbeats 800000 in
/-- The run: at its end the arrays are what the data say. -/
theorem run_named (hf : Free m) : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_named m hf) (hshare := fun c => (dats m 0 c).share_full fun _ => rfl)
    (howed := fun _ _ => rfl) (V := V m) (hmain := hmain m Variants.none) (hA := A_eq m) (hin := enter m) (hout := leave m)

/-- The same, read at the result and the arguments. -/
theorem run_result (hf : Free m) : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => by
    have h := hr.1
    exact ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_named m ρ hf)

end Cert.FfnIdeal.Hand

end
-- ==== Proof.FfnTile.lean ====
module

public import proofs.«01_k».proof.Proof.FfnIdealRun
public import proofs.«01_k».proof.Proof.LayerNorm
public import Idealize.ShloMosaic.Lib.ValueIdx
public import Idealize.ShloMosaic.Lib.StableHlo.ReadAt
public import Idealize.ShloMosaic.Lib.Pipeline.ValueKit

@[expose] public section

set_option maxRecDepth 16384

/-! One tile of the feed-forward kernel, over the reals. -/

noncomputable section

namespace Cert.Layer.Hand

open Idealize.ShloMosaic

/-- One hidden unit: the gated product of two inner products. -/
def unit (v p q : Fin 2048 → EReal) : EReal := (∑ j, v j * p j) * Ideal.logistic (∑ j, v j * p j) * ∑ j, v j * q j

end Cert.Layer.Hand

namespace Cert.FfnIdeal.Hand

open Cert.FfnIdeal Cert.FfnIdeal.Gen Idealize.ShloMosaic Idealize.ShloMosaic.TcCoe Idealize.SL.Sem
open Cert.Layer.Hand

variable (X O : FVec Ideal S512x2048 .f32) (S D : FVec Ideal S512x2048 .bf16) (P Q : FVec Ideal S2048x512 .bf16) (g b : FVec Ideal S1x2048 .f32)
variable (i : grid0.Coords) (n f : Fin 512) (k : Fin 2048)

theorem rounded_apply : k0_pay3 (F := Ideal) X (ix2 n k) = X (ix2 n k) := by
  pointwise [k0_pay3]

theorem zero_apply : k0_pay4 (F := Ideal) (ix2 n k) = (0 : EReal) := by
  pointwise [k0_pay4]

/-- A column of the hidden layer against its width, on words. -/
theorem inside (i : grid0.Coords) (f : Fin 512) :
    IntOp.cmpi .slt (IntOp.addi (Scalar.muli (BitVec.ofNat 32 (i 1).val) 512#32) (BitVec.ofNat 32 f.val)) 5504#32
      = BitVec.ofBool (decide ((i 1).val * 512 + f.val < 5504)) := by
  have h1 : (i 1).val < 11 := (i 1).isLt
  have h2 := f.isLt
  have e : IntOp.addi (Scalar.muli (BitVec.ofNat 32 (i 1).val) 512#32) (BitVec.ofNat 32 f.val) = BitVec.ofNat 32 ((i 1).val * 512 + f.val) := by
    rw [BitVec.ofNat_add, BitVec.ofNat_mul]; rfl
  rw [e]
  show BitVec.ofBool (BitVec.slt _ _) = _
  rw [BitVec.slt_eq_decide]
  congr 2
  have n1 : (BitVec.ofNat 32 ((i 1).val * 512 + f.val)).toNat = (i 1).val * 512 + f.val := by
    rw [BitVec.toNat_ofNat]; omega
  rw [BitVec.toInt_eq_toNat_of_lt (by rw [n1]; omega), n1]
  exact propext ⟨fun h => by have : ((5504#32 : BitVec 32)).toInt = 5504 := by decide
                             omega, fun h => by have : ((5504#32 : BitVec 32)).toInt = 5504 := by decide
                                                omega⟩

theorem tile_apply : k0_pay6 (F := Ideal) i S P Q D (ix2 n k)
    = ∑ f : Fin 512, if (i 1).val * 512 + f.val < 5504 then
        unit (fun j => S (ix2 n j)) (fun j => P (ix2 j f)) (fun j => Q (ix2 j f)) * D (ix2 f k) else 0 := by
  pointwise [k0_pay6]
  refine Finset.sum_congr rfl fun f _ => ?_
  rw [inside i f]
  by_cases h : (i 1).val * 512 + f.val < 5504
  · rw [decide_eq_true h, if_pos h]; rfl
  · rw [decide_eq_false h, if_neg h]; rfl

theorem grown_apply : grown (F := Ideal) i S P Q D O (ix2 n k)
    = O (ix2 n k) + ∑ f : Fin 512, if (i 1).val * 512 + f.val < 5504 then
        unit (fun j => S (ix2 n j)) (fun j => P (ix2 j f)) (fun j => Q (ix2 j f)) * D (ix2 f k) else 0 := by
  have h := tile_apply S D P Q i n k
  unfold grown
  generalize k0_pay6 (F := Ideal) i S P Q D = M at h
  pointwise [k0_pay1, k0_pay5]
  rw [h]

theorem norm_apply : k0_pay2 (F := Ideal) X O g b (ix2 n k)
    = norm (fun k => root * X (ix2 n k) + O (ix2 n k)) (fun k => g (ix2 0 k)) (fun k => b (ix2 0 k)) k := by
  pointwise [k0_pay2]
  rfl

variable (m : (ℓ : Loc nD τ sig) → Buf (Elt Ideal) ℓ) (c : Dev nD)

/-! The arguments, as launched. -/

abbrev inX : FVec Ideal S8192x2048 .f32 := m ((c : Thread nD τ).loc main_arg0)
abbrev inP : FVec Ideal S2048x5504 .bf16 := m ((c : Thread nD τ).loc main_arg1)
abbrev inQ : FVec Ideal S2048x5504 .bf16 := m ((c : Thread nD τ).loc main_arg2)
abbrev inD : FVec Ideal S5504x2048 .bf16 := m ((c : Thread nD τ).loc main_arg3)
abbrev inG : FVec Ideal S2048 .f32 := m ((c : Thread nD τ).loc main_arg4)
abbrev inB : FVec Ideal S2048 .f32 := m ((c : Thread nD τ).loc main_arg5)

/-! ## Where the blocks lie, and how much of each lies inside its array -/

theorem index_1 : ∀ t : Fin grid0.N, win0_1.index t = ![0, t.val % 11] := by decide +kernel
theorem index_2 : ∀ t : Fin grid0.N, win0_2.index t = ![0, t.val % 11] := by decide +kernel
theorem index_3 : ∀ t : Fin grid0.N, win0_3.index t = ![t.val % 11, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![t.val / 11, 0] := by decide +kernel

theorem extent_1 : ∀ t : Fin grid0.N, win0_1.xsize (grid0.coords t) 0 = 2048 ∧ win0_1.xsize (grid0.coords t) 1 = min 512 (5504 - t.val % 11 * 512) := by decide +kernel
theorem extent_2 : ∀ t : Fin grid0.N, win0_2.xsize (grid0.coords t) 0 = 2048 ∧ win0_2.xsize (grid0.coords t) 1 = min 512 (5504 - t.val % 11 * 512) := by decide +kernel
theorem extent_3 : ∀ t : Fin grid0.N, win0_3.xsize (grid0.coords t) 0 = min 512 (5504 - t.val % 11 * 512) ∧ win0_3.xsize (grid0.coords t) 1 = 2048 := by decide +kernel

/-- Row `n` of the point's row tile. -/
abbrev place (t : Fin grid0.N) (n : Fin 512) : Fin 8192 := ⟨t.val / 11 * 512 + n.val, by have : t.val < 176 := t.isLt; omega⟩

theorem block_x (t : Fin grid0.N) (n : Fin 512) (k : Fin 2048) : rowsAt m c t (ix2 n k) = inX m c (ix2 (place t n) k) := by
  blk_simp [rowsAt, iblk]
  rw [show (V m c main_arg0 = _) from V_main_arg0 m c]
  refine congrArg _ ?_
  blk_ext [index_0]

theorem gain_row (k : Fin 2048) : (V m c main_v0 (ix2 0 k) : EReal) = inG m c (ix1 k) := by
  unfold V
  after_reads_at

theorem shift_row (k : Fin 2048) : (V m c main_v1 (ix2 0 k) : EReal) = inB m c (ix1 k) := by
  unfold V
  after_reads_at

theorem block_g (t : Fin grid0.N) (k : Fin 2048) : iblk m c 4 t (ix2 0 k) = inG m c (ix1 k) := by
  rw [← gain_row]
  blk_simp [iblk]
  refine congrArg _ ?_
  blk_ext [index_4]

theorem block_b (t : Fin grid0.N) (k : Fin 2048) : iblk m c 5 t (ix2 0 k) = inB m c (ix1 k) := by
  rw [← shift_row]
  blk_simp [iblk]
  refine congrArg _ ?_
  blk_ext [index_5]

theorem gate_at (t : Fin grid0.N) (e : Vec Ideal S2048x512 .bf16) (j : Fin 2048) (f : Fin 512) (h : t.val % 11 * 512 + f.val < 5504) :
    gateAt m c t e (ix2 j f) = inP m c (ix2 j ⟨t.val % 11 * 512 + f.val, h⟩) := by
  have hm : win0_1.moved (grid0.coords t) (ix2 j f) = true := (win0_1.moved_iff _ _).mpr fun a => by
    match a with
    | 0 => exact lt_of_lt_of_eq j.isLt (extent_1 t).1.symm
    | 1 => exact lt_of_lt_of_eq (show f.val < min 512 (5504 - t.val % 11 * 512) by omega) (extent_1 t).2.symm
  unfold gateAt Pipeline.Window.fill
  rw [dif_pos hm]
  blk_simp [iblk]
  rw [show (V m c main_arg1 = _) from V_main_arg1 m c]
  refine congrArg _ ?_
  blk_ext [index_1]

theorem up_at (t : Fin grid0.N) (e : Vec Ideal S2048x512 .bf16) (j : Fin 2048) (f : Fin 512) (h : t.val % 11 * 512 + f.val < 5504) :
    upAt m c t e (ix2 j f) = inQ m c (ix2 j ⟨t.val % 11 * 512 + f.val, h⟩) := by
  have hm : win0_2.moved (grid0.coords t) (ix2 j f) = true := (win0_2.moved_iff _ _).mpr fun a => by
    match a with
    | 0 => exact lt_of_lt_of_eq j.isLt (extent_2 t).1.symm
    | 1 => exact lt_of_lt_of_eq (show f.val < min 512 (5504 - t.val % 11 * 512) by omega) (extent_2 t).2.symm
  unfold upAt Pipeline.Window.fill
  rw [dif_pos hm]
  blk_simp [iblk]
  rw [show (V m c main_arg2 = _) from V_main_arg2 m c]
  refine congrArg _ ?_
  blk_ext [index_2]

theorem down_at (t : Fin grid0.N) (e : Vec Ideal S512x2048 .bf16) (f : Fin 512) (k : Fin 2048) (h : t.val % 11 * 512 + f.val < 5504) :
    downAt m c t e (ix2 f k) = inD m c (ix2 ⟨t.val % 11 * 512 + f.val, h⟩ k) := by
  have hm : win0_3.moved (grid0.coords t) (ix2 f k) = true := (win0_3.moved_iff _ _).mpr fun a => by
    match a with
    | 0 => exact lt_of_lt_of_eq (show f.val < min 512 (5504 - t.val % 11 * 512) by omega) (extent_3 t).1.symm
    | 1 => exact lt_of_lt_of_eq k.isLt (extent_3 t).2.symm
  unfold downAt Pipeline.Window.fill
  rw [dif_pos hm]
  blk_simp [iblk]
  rw [show (V m c main_arg3 = _) from V_main_arg3 m c]
  refine congrArg _ ?_
  blk_ext [index_3]

/-! ## The sums -/

/-- What hidden unit `f` adds to the result at row `n`, column `k`; nothing past the layer's width. -/
def term (n : Fin 8192) (k : Fin 2048) (f : ℕ) : EReal :=
  if h : f < 5504 then unit (fun j => inX m c (ix2 n j)) (fun j => inP m c (ix2 j ⟨f, h⟩)) (fun j => inQ m c (ix2 j ⟨f, h⟩)) * inD m c (ix2 ⟨f, h⟩ k) else 0

theorem grown_at (t : Fin grid0.N) (e1 e2 : Vec Ideal S2048x512 .bf16) (e3 : Vec Ideal S512x2048 .bf16) (o : Vec Ideal S512x2048 .f32) (n : Fin 512) (k : Fin 2048) :
    grown (F := Ideal) (grid0.coords t) (k0_pay3 (rowsAt m c t)) (gateAt m c t e1) (upAt m c t e2) (downAt m c t e3) o (ix2 n k)
      = o (ix2 n k) + ∑ f : Fin 512, term m c (place t n) k (t.val % 11 * 512 + f.val) := by
  refine (grown_apply o (k0_pay3 (rowsAt m c t)) (downAt m c t e3) (gateAt m c t e1) (upAt m c t e2) (grid0.coords t) n k).trans ?_
  refine congrArg (_ + ·) (Finset.sum_congr rfl fun f _ => ?_)
  rw [coord_1]
  unfold term
  by_cases h : t.val % 11 * 512 + f.val < 5504
  · rw [if_pos h, dif_pos h]
    simp only [rounded_apply, gate_at m c t e1 _ f h, up_at m c t e2 _ f h, down_at m c t e3 f _ h, block_x]
  · rw [if_neg h, dif_neg h]

/-- What lies past the end of the weights never reaches the result. -/
theorem free : Free m := fun c t e1 e2 e3 s o => by
  funext y
  rw [eq_ix2 y]
  refine (grown_apply o s (downAt m c t e3) (gateAt m c t e1) (upAt m c t e2) (grid0.coords t) _ _).trans
    (Eq.trans ?_ (grown_apply o s (downAt m c t pad) (gateAt m c t pad) (upAt m c t pad) (grid0.coords t) _ _).symm)
  refine congrArg (_ + ·) (Finset.sum_congr rfl fun f _ => ?_)
  rw [coord_1]
  by_cases h : t.val % 11 * 512 + f.val < 5504
  · rw [if_pos h, if_pos h]
    simp only [gate_at m c t _ _ f h, up_at m c t _ _ f h]
    exact congrArg (_ * ·) ((down_at m c t e3 f (y 1) h).trans (down_at m c t pad f (y 1) h).symm)
  · rw [if_neg h, if_neg h]

/-- The sum over the column tiles up to a point. -/
def upto (n : Fin 8192) (k : Fin 2048) (q : ℕ) : EReal := ∑ f ∈ Finset.range (q * 512), term m c n k f

theorem upto_succ (n : Fin 8192) (k : Fin 2048) (q : ℕ) : upto m c n k (q + 1) = upto m c n k q + ∑ f : Fin 512, term m c n k (q * 512 + f.val) := by
  unfold upto
  rw [Nat.succ_mul, Finset.sum_range_add, Finset.sum_range (fun x => term m c n k (q * 512 + x))]

theorem upto_all (n : Fin 8192) (k : Fin 2048) : upto m c n k 11
    = ∑ f : Fin 5504, unit (fun j => inX m c (ix2 n j)) (fun j => inP m c (ix2 j f)) (fun j => inQ m c (ix2 j f)) * inD m c (ix2 f k) := by
  unfold upto
  rw [show 11 * 512 = 5504 + 128 from rfl, Finset.sum_range_add, Finset.sum_eq_zero (s := Finset.range 128), add_zero, Finset.sum_range]
  · refine Finset.sum_congr rfl fun f _ => ?_
    unfold term
    rw [dif_pos f.isLt]
  · intro x _
    unfold term
    rw [dif_neg (by omega)]

/-- The result's buffer before the last column tile: the sum so far. -/
theorem outs_apply (c : Dev nD) : ∀ (a : ℕ) (t : Fin grid0.N), t.val % 11 = a → a < 10 → ∀ (n : Fin 512) (k : Fin 2048),
    outs m c t.val (ix2 n k) = upto m c (place t n) k (a + 1) := by
  intro a
  induction a with
  | zero =>
    intro t ht _ n k
    rw [outs_first m c t.val ht t.isLt (k0_pay4 (F := Ideal))]
    unfold padStep
    rw [dif_pos t.isLt]
    unfold stepAt
    rw [if_pos ht]
    refine (grown_at m c t _ _ _ _ n k).trans ?_
    rw [upto_succ, ht]
    refine congrArg (· + _) ?_
    rw [zero_apply]
    unfold upto
    rfl
  | succ a ih =>
    intro t ht ha n k
    have hp : t.val - 1 < grid0.N := Nat.lt_of_le_of_lt (Nat.sub_le _ _) t.isLt
    have hprev := ih ⟨t.val - 1, hp⟩ (by show (t.val - 1) % 11 = a; omega) (by omega) n k
    rw [outs_step m c t.val (by omega)]
    unfold padStep
    rw [dif_pos t.isLt]
    unfold stepAt
    rw [if_neg (by show ¬ t.val % 11 = 0; omega), if_neg (by show ¬ t.val % 11 = 10; omega)]
    refine (grown_at m c t _ _ _ _ n k).trans ?_
    rw [upto_succ m c _ k (a + 1), ht]
    refine congrArg (· + _) (hprev.trans ?_)
    rw [show place ⟨t.val - 1, hp⟩ n = place t n from Fin.ext (by show (t.val - 1) / 11 * 512 + n.val = t.val / 11 * 512 + n.val; omega)]

/-- The residual row. -/
def resid (n : Fin 8192) (k : Fin 2048) : EReal := root * inX m c (ix2 n k)
  + ∑ f : Fin 5504, unit (fun j => inX m c (ix2 n j)) (fun j => inP m c (ix2 j f)) (fun j => inQ m c (ix2 j f)) * inD m c (ix2 f k)

/-- The block written back after the last column tile. -/
theorem block_out (t : Fin grid0.N) (ht : t.val % 11 = 10) (n : Fin 512) (k : Fin 2048) :
    outs m c t.val (ix2 n k) = norm (resid m c (place t n)) (fun k => inG m c (ix1 k)) (fun k => inB m c (ix1 k)) k := by
  have hp : t.val - 1 < grid0.N := Nat.lt_of_le_of_lt (Nat.sub_le _ _) t.isLt
  have hprev := outs_apply m c 9 ⟨t.val - 1, hp⟩ (by show (t.val - 1) % 11 = 9; omega) (by omega) n
  rw [outs_step m c t.val (by omega)]
  unfold padStep
  rw [dif_pos t.isLt]
  unfold stepAt
  rw [if_neg (by show ¬ t.val % 11 = 0; omega), if_pos ht]
  refine (norm_apply _ _ _ _ n k).trans ?_
  have hrow : ∀ k : Fin 2048, (outs m c (t.val - 1) (ix2 n k) : EReal) = upto m c (place t n) k 10 := fun k => by
    rw [hprev k, show place ⟨t.val - 1, hp⟩ n = place t n from Fin.ext (by show (t.val - 1) / 11 * 512 + n.val = t.val / 11 * 512 + n.val; omega)]
  have e : (fun k => root * rowsAt m c t (ix2 n k) + grown (F := Ideal) (grid0.coords t) (k0_pay3 (rowsAt m c t)) (gateAt m c t pad) (upAt m c t pad) (downAt m c t pad) (outs m c (t.val - 1)) (ix2 n k))
      = resid m c (place t n) := by
    funext k
    rw [grown_at, hrow, ht, ← upto_succ m c (place t n) k 10, upto_all, block_x]
    rfl
  exact (congrArg (fun v => norm v _ _ k) e).trans (congrArg₂ (fun g b => norm _ g b k) (funext fun k => block_g m c t k) (funext fun k => block_b m c t k))

theorem final : (dats m 0 c).arrAt 6 cfg0.N
    = fun i : S8192x2048.Idx => norm (resid m c (i 0)) (fun k => inG m c (ix1 k)) (fun k => inB m c (ix1 k)) (i 1) := by
  refine (dats m 0 c).arrAt_eq_of_covers 6 _ (by decide +kernel) fun t hf y => ?_
  blk_simp
  rw [after0_6]
  rw [show y = ix2 (y 0) (y 1) from (ix2_eta y).symm]
  refine (block_out m c t ((flush0_6 t).mp hf) (y 0) (y 1)).trans ?_
  refine congrArg₂ (fun (n : Fin 8192) (k : Fin 2048) => norm (resid m c n) (fun k => inG m c (ix1 k)) (fun k => inB m c (ix1 k)) k)
    (Fin.ext ?_) (Fin.ext ?_)
  · blk_simp [index_6]
  · blk_simp [index_6]

end Cert.FfnIdeal.Hand
end
-- ==== Proof.FfnRefRead.lean ====
module

public import proofs.«01_k».proof.Proof.FfnTile
public import proofs.«01_k».proof.Proof.Gen.FfnRefIdeal.Read
public import Idealize.ShloMosaic.Lib.ValueIdx
public import Idealize.ShloMosaic.Lib.Pipeline.ValueKit

@[expose] public section

set_option maxRecDepth 16384

/-! The reference of the feed-forward layer, as a formula. -/

noncomputable section

namespace Cert.FfnRefIdeal.Hand

open Cert.FfnRefIdeal Cert.FfnRefIdeal.Gen Cert.FfnRefIdeal.Read Idealize.ShloMosaic
open Cert.Layer.Hand

variable (X : FVec Ideal S8192x2048 .f32) (P Q : FVec Ideal S2048x5504 .bf16) (D : FVec Ideal S5504x2048 .bf16) (g b : FVec Ideal S2048 .f32)
variable (n : Fin 8192) (k j : Fin 2048) (f : Fin 5504)

/-- The residual row. -/
def resid (n : Fin 8192) (k : Fin 2048) : EReal := root * X (ix2 n k)
  + ∑ f : Fin 5504, unit (fun j => X (ix2 n j)) (fun j => P (ix2 j f)) (fun j => Q (ix2 j f)) * D (ix2 f k)

theorem gate_apply : val_main_v3 (F := Ideal) X P (ix2 n f) = ∑ j : Fin 2048, X (ix2 n j) * P (ix2 j f) := by
  pointwise [val_main_v3, val_main_v0]

theorem unit_apply : val_main_v6 (F := Ideal) X P Q (ix2 n f) = unit (fun j => X (ix2 n j)) (fun j => P (ix2 j f)) (fun j => Q (ix2 j f)) := by
  have h : (val_main_v3 (F := Ideal) X P (ix2 n f) : EReal) = _ := gate_apply X P n f
  unfold val_main_v6 val_main_v4 val_main_call0_v5 val_main_call0_v3 val_main_call0_v1 val_main_call0_v0
  generalize val_main_v3 (F := Ideal) X P = M at h
  pointwise [val_main_call0_v4, val_main_call0_v2, val_main_call0_cst, val_main_call0_cst_0, val_main_v5, val_main_v1]
  rw [h]
  rfl

theorem resid_apply : val_main_v12 (F := Ideal) X P Q D (ix2 n k) = resid X P Q D n k := by
  have h : ∀ f : Fin 5504, (val_main_v6 (F := Ideal) X P Q (ix2 n f) : EReal) = _ := fun f => unit_apply X P Q n f
  unfold resid
  simp only [← h]
  unfold val_main_v12 val_main_v7
  generalize val_main_v6 (F := Ideal) X P Q = M
  pointwise [val_main_v11, val_main_v10, val_main_v9, val_main_v8, val_main_cst, val_main_v2]
  rw [← root_root]

theorem centred_apply : val_main_v18 (F := Ideal) X P Q D (ix2 n k) = centred (resid X P Q D n) k := by
  have h : ∀ k : Fin 2048, (val_main_v12 (F := Ideal) X P Q D (ix2 n k) : EReal) = _ := fun k => resid_apply X P Q D n k
  unfold val_main_v18 val_main_v17 val_main_v16 val_main_v14 val_main_v13
  generalize val_main_v12 (F := Ideal) X P Q D = M at h
  pointwise [val_main_v15, val_main_cst_0, val_main_cst_1]
  simp only [h]
  rfl

theorem spread_apply (z : Fin 1) : val_main_v25 (F := Ideal) X P Q D (ix2 n z) = spread (resid X P Q D n) := by
  have h : ∀ k : Fin 2048, (val_main_v18 (F := Ideal) X P Q D (ix2 n k) : EReal) = _ := fun k => centred_apply X P Q D n k
  unfold val_main_v25 val_main_v23 val_main_v21 val_main_v20 val_main_v19
  generalize val_main_v18 (F := Ideal) X P Q D = M at h
  pointwise [val_main_v24, val_main_v22, val_main_cst_2, val_main_cst_3, val_main_cst_4]
  simp only [h]
  rfl

theorem norm_apply : val_main_v34 (F := Ideal) X P Q D g b (ix2 n k)
    = norm (resid X P Q D n) (fun k => g (ix1 k)) (fun k => b (ix1 k)) k := by
  have h : (val_main_v18 (F := Ideal) X P Q D (ix2 n k) : EReal) = _ := centred_apply X P Q D n k
  have h' : ∀ z : Fin 1, (val_main_v25 (F := Ideal) X P Q D (ix2 n z) : EReal) = _ := fun z => spread_apply X P Q D n z
  unfold val_main_v34 val_main_v31 val_main_v28 val_main_v27 val_main_v26
  generalize val_main_v18 (F := Ideal) X P Q D = M at h
  generalize val_main_v25 (F := Ideal) X P Q D = N at h'
  pointwise [val_main_v30, val_main_v29, val_main_v33, val_main_v32]
  rw [h, h']
  rfl

end Cert.FfnRefIdeal.Hand
end
-- ==== Proof.FfnEquation.lean ====
module

public import proofs.«01_k».proof.Defs
public import proofs.«01_k».proof.Proof.FfnRefRead
public import proofs.«01_k».proof.Proof.Gen.FfnRefIdeal.Run
public import proofs.«01_k».proof.Proof.Gen.FfnRefIdeal.Read

@[expose] public section

set_option maxRecDepth 16384

/-! The feed-forward kernel computes the reference's layer norm of the residual. -/

noncomputable section

namespace Cert.Ffn.Hand

open Idealize.ShloMosaic Idealize.ShloMosaic.TcCoe Idealize.SL.Sem

/-- The kernel's factor is named the root of two. -/
theorem preserves : Cert.preserves_Ffn_FfnIdeal :=
  IdealRules.named_const.statement Cert.FfnIdeal.κ "alpha" .f32 0x3FB504F3#32 ((Real.sqrt 2 : ℝ) : EReal) rfl

theorem algebraic : Cert.algebraic_FfnIdeal_FfnRefIdeal := by
  intro m g m' g' _ hargs
  refine ⟨fun c => (Cert.FfnIdeal.Hand.dats m 0 c).arrAt 6 Cert.FfnIdeal.cfg0.N,
    Cert.FfnIdeal.Hand.run_result m g (Cert.FfnIdeal.Hand.free m), (θ_run _ _ _).mono (fun r h c => ?_) (Cert.FfnRefIdeal.Value.run m' g')⟩
  obtain ⟨h1, h2⟩ := h c
  obtain ⟨a0, a1, a2, a3, a4, a5⟩ := hargs c
  refine ⟨h1.trans ?_, h2⟩
  beta_reduce
  rw [Cert.FfnIdeal.Hand.final, Cert.FfnRefIdeal.Read.val_main_v34_eq, a0, a1, a2, a3, a4, a5]
  funext i
  rw [eq_ix2 i]
  exact Cert.FfnRefIdeal.Hand.norm_apply _ _ _ _ _ _ _ _

end Cert.Ffn.Hand

namespace Cert.FfnRefIdeal.Hand

open Cert.FfnRefIdeal Idealize.ShloMosaic Idealize.SL.Sem

/-- The reference keeps its arguments, and has no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2, sem_eq_zero_of_no_sems (by decide) r.2⟩) (Value.run m ρ)

end Cert.FfnRefIdeal.Hand
end
-- ==== Proof.ProjRun.lean ====
module

public import proofs.«01_k».proof.Proof.ProjBody

/-! The run of the input projection over its whole grid.

Between two points the scratch buffer holds the rounded rows of the current row tile.  The last blocks
of the weight and of the result overhang their arrays, so nothing is said of their buffers past the
arrays' end. -/

@[expose] public section

set_option maxRecDepth 16384

noncomputable section

namespace Cert.Proj.Hand

open Cert.Proj Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## What the buffers hold -/

theorem coord_1 : ∀ t : Fin grid0.N, (grid0.coords t 1).val = t.val % 10 := by decide +kernel
theorem index_0 : ∀ t : Fin grid0.N, win0_0.index t = ![t.val / 10, 0] := by decide +kernel

/-- The word written here past the end of the weight; nothing that is kept reads it. -/
abbrev pad : Vec F S2048x512 .bf16 := fun _ => Scalar.ofBits .bf16 0x0000#16

/-- The rows at a point. -/
abbrev rowsAt (c : Dev nD) (t : Fin cfg0.N) : Vec F S1024x2048 .f32 := iblk m c 0 t
/-- The weight's buffer at a point, given what lies past the array's end. -/
abbrev weightAt (c : Dev nD) (t : Fin cfg0.N) (e : Vec F S2048x512 .bf16) : Vec F S2048x512 .bf16 :=
  win0_1.fill (grid0.coords t) e (iblk m c 1 t)

/-- The result's buffer after a point. -/
def outAt (c : Dev nD) (t : Fin cfg0.N) (w : Vec F S2048x512 .bf16) : Vec F S1024x512 .f32 := k0_pay2 (k0_pay1 (rowsAt m c t)) w

/-- What the scratch buffer holds between points. -/
def kept (c : Dev nD) (n : ℕ) (s : Vec F S1024x2048 .bf16) : Prop :=
  ∀ h : n - 1 < cfg0.N, n % 10 ≠ 0 → s = k0_pay1 (rowsAt m c ⟨n - 1, h⟩)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => weightAt m c t pad
    | ⟨2, _⟩ => outAt m c t (weightAt m c t pad)
  Φ t := iprop((∃ s, ⌜kept m c t.val s⌝ ∗ owns (c : Thread nD τ) (Memref.whole cc0_scratch0) fullShare s) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = weightAt m c t pad := by dsimp only [dats]
theorem after0_2 (c : Dev nD) (t : Fin cfg0.N) : (dats m 0 c).after 2 t = outAt m c t (weightAt m c t pad) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = weightAt m c t d :=
  (Dat.before_fetched _ 1 t (fetch0_1 t) d).trans (by unfold Dat.fetched Dat.blockOf weightAt iblk; rw [A_eq])

/-- Within a row tile the rows do not change. -/
theorem rows_same (c : Dev nD) (t t' : Fin cfg0.N) (h : t.val / 10 = t'.val / 10) : rowsAt m c t = rowsAt m c t' := by
  have read (t : Fin cfg0.N) (d) : (dats m 0 c).fetched 0 t d = rowsAt m c t :=
    ((dats m 0 c).before_in_eq_fetched 0 rfl (fun _ => rfl) (fun _ _ _ => rfl)
      (fun t => by rw [after0_0]; unfold Dat.blockOf iblk; rw [A_eq]; try rfl) t d).symm.trans (before0_0 m c t d)
  have hix : (cfg0.win 0).index t = (cfg0.win 0).index t' :=
    (index_0 t).trans (by rw [h]; exact (index_0 t').symm)
  exact (read t (fun _ => Scalar.ofBits .f32 0#32)).symm.trans
    (((dats m 0 c).fetched_congr 0 hix rfl _).trans (read t' _))

/-! ## The body at a point -/

theorem opens_at (t : Fin cfg0.N) : opens (grid0.coords t) = 1#1 ↔ t.val % 10 = 0 := (opens_iff _).trans (by rw [coord_1])

/-- The body at any point: every buffer named afterwards. -/
theorem body_at (c : Dev nD) (t : Fin cfg0.N) (e : Vec F S2048x512 .bf16)
    (K : PUnit → sProp (MT nD τ sig Unit (Elt F) ℕ (UR sig nD τ) ℕ)) :
    iprop((dats m 0 c).Φ t.castSucc
        ∗ owns (c : Thread nD τ) (st0_0 t) fullShare (rowsAt m c t) ∗ owns (c : Thread nD τ) (st0_1 t) fullShare (weightAt m c t e)
        ∗ (∃ o, owns (c : Thread nD τ) (st0_2 t) fullShare o)
        ∗ (iprop((dats m 0 c).Φ t.succ
          ∗ owns (c : Thread nD τ) (st0_0 t) fullShare (rowsAt m c t) ∗ owns (c : Thread nD τ) (st0_1 t) fullShare (weightAt m c t e)
          ∗ owns (c : Thread nD τ) (st0_2 t) fullShare (outAt m c t (weightAt m c t e))) -∗ K ⟨⟩))
      ⊢ wp frame (wpE (defs₀ (F := F)) Variants.none c none) Set.univ (bodyAt0 t) K := by
  have hsucc : ∀ s : Vec F S1024x2048 .bf16, s = k0_pay1 (rowsAt m c t) → kept m c (t.val + 1) s := by
    intro s hs h _; exact hs.trans rfl
  have hcur : ∀ s : Vec F S1024x2048 .bf16, t.val % 10 ≠ 0 → kept m c t.val s → s = k0_pay1 (rowsAt m c t) := by
    intro s h0 hs
    have hN : t.val - 1 < cfg0.N := Nat.lt_of_le_of_lt (Nat.sub_le _ _) t.isLt
    rw [hs hN h0, rows_same m c ⟨t.val - 1, hN⟩ t (by show (t.val - 1) / 10 = t.val / 10; omega)]
  unfold bodyAt0
  rw [show (dats m 0 c).Φ t.castSucc = iprop((∃ s, ⌜kept m c t.val s⌝ ∗ owns (c : Thread nD τ) (Memref.whole cc0_scratch0) fullShare s) ∗ ∃ r, prngReg c r) from rfl,
    show (dats m 0 c).Φ t.succ = iprop((∃ s, ⌜kept m c (t.val + 1) s⌝ ∗ owns (c : Thread nD τ) (Memref.whole cc0_scratch0) fullShare s) ∗ ∃ r, prngReg c r) from rfl]
  iintro ⟨⟨⟨%s, %hs, HS⟩, HR⟩, H0, H1, H2, Hk⟩
  by_cases hz : t.val % 10 = 0
  · iapply (body_first c Set.univ (grid0.coords t) ((opens_at t).mpr hz) _ _ _ _ _ _ _ _ (rowsAt m c t) (weightAt m c t e) _)
    isplitl [H0]; · iexact H0
    isplitl [H1]; · iexact H1
    isplitl [H2]; · iexact H2
    isplitl [HS]; · iexists _; iexact HS
    iintro ⟨H0, H1, H2, HS⟩
    iapply Hk
    isplitl [HS HR]
    · isplitl [HS]
      · iexists _; isplitr; · ipureintro; exact hsucc _ rfl
        iexact HS
      iexact HR
    isplitl [H0]; · iexact H0
    isplitl [H1]; · iexact H1
    iexact H2
  · obtain rfl := hcur s hz hs
    iapply (body_rest c Set.univ (grid0.coords t) (fun h => hz ((opens_at t).mp h)) _ _ _ _ _ _ _ _ (rowsAt m c t) (weightAt m c t e) _ _)
    isplitl [H0]; · iexact H0
    isplitl [H1]; · iexact H1
    isplitl [H2]; · iexact H2
    isplitl [HS]; · iexact HS
    iintro ⟨H0, H1, H2, HS⟩
    iapply Hk
    isplitl [HS HR]
    · isplitl [HS]
      · iexists _; isplitr; · ipureintro; exact hsucc _ rfl
        iexact HS
      iexact HR
    isplitl [H0]; · iexact H0
    isplitl [H1]; · iexact H1
    iexact H2

/-- The body table's row at a point's slots. -/
theorem row_at (t : Fin cfg0.N) :
    defs₀ (F := F) .tc cfg0.body (cfg0.bodyArgs t (cfg0.slots t)) = bodyAt0 t := by
  unfold defs₀; rw [Defs.onTc_tc]

/-- The window nothing is said of in the frame run: the result's. -/
def hidden : Fin cfg0.W → Bool := fun w => w == 2

/-- What the weight's buffer is left holding, on the part inside its array. -/
theorem weight_left (c : Dev nD) (t : Fin cfg0.N) (e) :
    win0_1.fill (grid0.coords t) e (win0_1.cut (grid0.coords t) ((dats m 0 c).after 1 t)) = weightAt m c t e := by
  rw [after0_1]; exact congrArg _ (win0_1.cut_fill _ _ _)

set_option maxHeartbeats 1000000 in
/-- The obligation with the result's buffer unnamed. -/
theorem body_frame (c : Dev nD) : BodyObligationLoose (dats (F := F) m 0 c) (defs₀ (F := F)) Variants.none () Set.univ hidden := fun t => by
  rw [bigSep_W0, bigSep_W0, row_at]
  simp only [show hidden 0 = false from rfl, show hidden 1 = false from rfl, show hidden 2 = true from rfl]
  rw [show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (body_at m c t d1 _)
  isplitl [HΦ]; · iexact HΦ
  isplitl [H0]; · iexact H0
  isplitl [H1]; · iexact H1
  isplitl [H2]; · iexists _; iexact H2
  iintro ⟨HΦ, H0, H1, H2⟩
  isplitl [HΦ]; · iexact HΦ
  isplitl [Ho]; · iexact Ho
  isplitl [H0]
  · rw [after0_0 m c t]; iexact H0
  isplitl [H1]
  · iexists d1; rw [show (win0 1).fill (grid0.coords t) d1 ((win0 1).cut (grid0.coords t) ((dats m 0 c).after 1 t)) = _ from weight_left m c t d1]; iexact H1
  iexists _; iexact H2

theorem enter (c : Dev nD) : Pipeline.ΦA spec0 c ⊢ (dats (F := F) m 0 c).Φ 0 := by
  rw [show (dats (F := F) m 0 c).Φ 0 = iprop((∃ s, ⌜kept m c 0 s⌝ ∗ owns (c : Thread nD τ) (Memref.whole cc0_scratch0) fullShare s) ∗ ∃ r, prngReg c r) from rfl]
  unfold Pipeline.ΦA
  rw [scopedRest0_eq]
  iintro ⟨⟨%f, H⟩, HR⟩
  isplitl [H]
  · iexists f; isplitr
    · ipureintro; intro h h0; exact absurd rfl h0
    rw [owns_whole]; iexact H
  iexact HR

theorem leave (c : Dev nD) : (dats (F := F) m 0 c).Φ (Fin.last cfg0.N) ⊢ Pipeline.ΦA spec0 c := by
  rw [show (dats (F := F) m 0 c).Φ (Fin.last cfg0.N) = iprop((∃ s, ⌜kept m c (Fin.last cfg0.N).val s⌝ ∗ owns (c : Thread nD τ) (Memref.whole cc0_scratch0) fullShare s) ∗ ∃ r, prngReg c r) from rfl]
  unfold Pipeline.ΦA
  rw [scopedRest0_eq]
  iintro ⟨⟨%s, -, H⟩, HR⟩
  isplitl [H]
  · iexists s; rw [← owns_whole]; iexact H
  iexact HR

set_option backward.isDefEq.respectTransparency.types false in
set_option maxHeartbeats 800000 in
/-- The run, nothing said of the result. -/
theorem run_hidden : θ_run defs (onTc (τ := τ) (main (F := F))) (s₀ m ρ)
    (fun r => Pipeline.RDat.FramePost cfg0 (fun c => (dats m 0 c).toRForget hidden) (V m) r ∧ r.2.sem = fun _ => 0) :=
  Pipeline.θ_run_frame_track_forget (Q' := _) cfgs (dats m) (0 : Fin 1) launch0 defs₀ Variants.none hidden m ρ main
    (hbody := body_frame m) (hshare := fun c => (dats m 0 c).share_full fun _ => rfl)
    (howed := fun _ _ => rfl) (V := V m) (hmain := hmain m Variants.none) (hA := A_eq m) (hin := enter m) (hout := leave m)

/-- Every execution ends, keeps the arguments and leaves the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r hr => ⟨fun c => by
    have h := hr.1
    exact ⟨(Pipeline.RDat.FramePost.arr_in h c 0 rfl).trans ((A_eq m c 0).trans (V_main_arg0 m c)),
      (Pipeline.RDat.FramePost.arr_in h c 1 rfl).trans ((A_eq m c 1).trans (V_main_arg1 m c))⟩, hr.2⟩) (run_hidden m ρ)

end Cert.Proj.Hand

end
-- ==== Proof.ProjIdealBody.lean ====
module

public import proofs.«01_k».proof.Proof.Gen.ProjIdeal.Frame
public import proofs.«01_k».proof.Proof.Gen.ProjIdeal.Skeleton
public import Idealize.ShloMosaic.Lib.Pipeline.ValueKit

/-! The body of the input projection at one point of its grid.

The grid walks the row tiles and, within each, the column tiles of the weight.  The first column tile
rounds the rows into the scratch buffer; every column tile writes its part of the product. -/

@[expose] public section

set_option maxRecDepth 16384

noncomputable section

namespace Cert.ProjIdeal.Hand

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The test of the conditional: is this the first column tile? -/
abbrev opens (i : grid0.Coords) : BitVec 1 :=
  Scalar.cmpi .ne (Scalar.extui (Scalar.cmpi .eq (BitVec.ofNat 32 (i 1).val) 0#32) : BitVec 32) 0#32

theorem opens_iff (i : grid0.Coords) : opens i = 1#1 ↔ (i 1).val = 0 := by
  have h : ∀ j : Fin 10, (Scalar.cmpi .ne (Scalar.extui (Scalar.cmpi .eq (BitVec.ofNat 32 j.val) 0#32) : BitVec 32) 0#32) = 1#1
      ↔ j.val = 0 := by decide
  exact h (i 1)

theorem off2 : (![0, 0] : Fin 2 → Nat) = fun _ => 0 := funext fun a => by fin_cases a <;> rfl

/-- A store over a whole buffer, made last, leaves its payload. -/
theorem stored {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-! A load of a whole buffer reads the buffer. -/

theorem whole_rows {e : EltTy} (X : S1024x2048.Idx → Elt F e) (inb) :
    View.ld X (Rect.unit (s := S1024x2048) ![0, 0] ![1024, 2048] inb) = X := View.ld_unit_zero (S := S1024x2048) off2 _ X
theorem whole_cols {e : EltTy} (X : S2048x512.Idx → Elt F e) (inb) :
    View.ld X (Rect.unit (s := S2048x512) ![0, 0] ![2048, 512] inb) = X := View.ld_unit_zero (S := S2048x512) off2 _ X
/-- A load of a whole buffer after a store over it reads the payload. -/
theorem whole_read {e : EltTy} {sp : Space} (v : View sig .tc sp S1024x2048 e) (w : S1024x2048.Idx → Elt F e) (inb) (inb') :
    v.readCov [(⟨Rect.unit (s := S1024x2048) ![0, 0] ![1024, 2048] inb, w⟩ : View.Piece (Elt F) S1024x2048 e)]
      (Rect.unit (s := S1024x2048) ![0, 0] ![1024, 2048] inb').toLoadRect = w :=
  View.readCov_unit_zero (S := S1024x2048) v off2 _ w

set_option maxHeartbeats 1000000 in
/-- A first column tile: the rows are rounded into the scratch buffer, and the tile's product is written. -/
theorem body_first (c : Dev nD) (E : Set ℕ) (i : grid0.Coords) (h1 : opens i = 1#1)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x2048 .bf16) (harg5 : arg5.IsWhole)
    (x : Vec F S1024x2048 .f32) (w : Vec F S2048x512 .bf16) (K : PUnit → sProp (MT nD τ sig Unit (Elt F) ℕ (UR sig nD τ) ℕ)) :
    iprop(owns (c : Thread nD τ) arg2 fullShare x ∗ owns (c : Thread nD τ) arg3 fullShare w
        ∗ (∃ o, owns (c : Thread nD τ) arg4 fullShare o) ∗ (∃ s, owns (c : Thread nD τ) arg5 fullShare s)
        ∗ (iprop(owns (c : Thread nD τ) arg2 fullShare x ∗ owns (c : Thread nD τ) arg3 fullShare w
            ∗ owns (c : Thread nD τ) arg4 fullShare (k0_pay2 (k0_pay1 x) w) ∗ owns (c : Thread nD τ) arg5 fullShare (k0_pay1 x)) -∗ K ⟨⟩))
      ⊢ wp frame (wpE (defs₀ (F := F)) Variants.none c none) E
          (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (stored _ _ off2 _ _ _).trans ?_
    simp only [View.readAt_eq_ld, whole_rows, whole_cols, whole_read]
  iexists _; isplitr
  swap; · iexact H3
  ipureintro
  sl_unfold_words
  refine (stored _ _ off2 _ _ _).trans ?_
  simp only [View.readAt_eq_ld, whole_rows]

set_option maxHeartbeats 1000000 in
/-- A later column tile: its product is written. -/
theorem body_rest (c : Dev nD) (E : Set ℕ) (i : grid0.Coords) (h1 : ¬ opens i = 1#1)
    (arg2 : Memref sig .tc .vmem S1024x2048 .f32) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x2048 .bf16) (harg5 : arg5.IsWhole)
    (x : Vec F S1024x2048 .f32) (w : Vec F S2048x512 .bf16) (s : Vec F S1024x2048 .bf16) (K : PUnit → sProp (MT nD τ sig Unit (Elt F) ℕ (UR sig nD τ) ℕ)) :
    iprop(owns (c : Thread nD τ) arg2 fullShare x ∗ owns (c : Thread nD τ) arg3 fullShare w
        ∗ (∃ o, owns (c : Thread nD τ) arg4 fullShare o) ∗ owns (c : Thread nD τ) arg5 fullShare s
        ∗ (iprop(owns (c : Thread nD τ) arg2 fullShare x ∗ owns (c : Thread nD τ) arg3 fullShare w
            ∗ owns (c : Thread nD τ) arg4 fullShare (k0_pay2 s w) ∗ owns (c : Thread nD τ) arg5 fullShare s) -∗ K ⟨⟩))
      ⊢ wp frame (wpE (defs₀ (F := F)) Variants.none c none) E
          (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (stored _ _ off2 _ _ _).trans ?_
    simp only [View.readAt_eq_ld, whole_rows, whole_cols]
  iexists f3; isplitr; · ipureintro; rfl
  iexact H3

end Cert.ProjIdeal.Hand

end
-- ==== Proof.ProjIdealRun.lean ====
module

public import proofs.«01_k».proof.Proof.ProjIdealBody

/-! The run of the input projection over its whole grid.

Between two points the scratch buffer holds the rounded rows of the current row tile.  The last blocks
of the weight and of the result overhang their arrays, so nothing is said of their buffers past the
arrays' end. -/

@[expose] public section

set_option maxRecDepth 16384

noncomputable section

namespace Cert.ProjIdeal.Hand

open Cert.ProjIdeal Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## What the buffers hold -/

theorem coord_1 : ∀ t : Fin grid0.N, (grid0.coords t 1).val = t.val % 10 := by decide +kernel
theorem index_0 : ∀ t : Fin grid0.N, win0_0.index t = ![t.val / 10, 0] := by decide +kernel

/-- The word written here past the end of the weight; nothing that is kept reads it. -/
abbrev pad : Vec F S2048x512 .bf16 := fun _ => Scalar.ofBits .bf16 0x0000#16

/-- The rows at a point. -/
abbrev rowsAt (c : Dev nD) (t : Fin cfg0.N) : Vec F S1024x2048 .f32 := iblk m c 0 t
/-- The weight's buffer at a point, given what lies past the array's end. -/
abbrev weightAt (c : Dev nD) (t : Fin cfg0.N) (e : Vec F S2048x512 .bf16) : Vec F S2048x512 .bf16 :=
  win0_1.fill (grid0.coords t) e (iblk m c 1 t)

/-- The result's buffer after a point. -/
def outAt (c : Dev nD) (t : Fin cfg0.N) (w : Vec F S2048x512 .bf16) : Vec F S1024x512 .f32 := k0_pay2 (k0_pay1 (rowsAt m c t)) w

/-- What the scratch buffer holds between points. -/
def kept (c : Dev nD) (n : ℕ) (s : Vec F S1024x2048 .bf16) : Prop :=
  ∀ h : n - 1 < cfg0.N, n % 10 ≠ 0 → s = k0_pay1 (rowsAt m c ⟨n - 1, h⟩)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => weightAt m c t pad
    | ⟨2, _⟩ => outAt m c t (weightAt m c t pad)
  Φ t := iprop((∃ s, ⌜kept m c t.val s⌝ ∗ owns (c : Thread nD τ) (Memref.whole cc0_scratch0) fullShare s) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = weightAt m c t pad := by dsimp only [dats]
theorem after0_2 (c : Dev nD) (t : Fin cfg0.N) : (dats m 0 c).after 2 t = outAt m c t (weightAt m c t pad) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = weightAt m c t d :=
  (Dat.before_fetched _ 1 t (fetch0_1 t) d).trans (by unfold Dat.fetched Dat.blockOf weightAt iblk; rw [A_eq])

/-- Within a row tile the rows do not change. -/
theorem rows_same (c : Dev nD) (t t' : Fin cfg0.N) (h : t.val / 10 = t'.val / 10) : rowsAt m c t = rowsAt m c t' := by
  have read (t : Fin cfg0.N) (d) : (dats m 0 c).fetched 0 t d = rowsAt m c t :=
    ((dats m 0 c).before_in_eq_fetched 0 rfl (fun _ => rfl) (fun _ _ _ => rfl)
      (fun t => by rw [after0_0]; unfold Dat.blockOf iblk; rw [A_eq]; try rfl) t d).symm.trans (before0_0 m c t d)
  have hix : (cfg0.win 0).index t = (cfg0.win 0).index t' :=
    (index_0 t).trans (by rw [h]; exact (index_0 t').symm)
  exact (read t (fun _ => Scalar.ofBits .f32 0#32)).symm.trans
    (((dats m 0 c).fetched_congr 0 hix rfl _).trans (read t' _))

/-! ## The body at a point -/

theorem opens_at (t : Fin cfg0.N) : opens (grid0.coords t) = 1#1 ↔ t.val % 10 = 0 := (opens_iff _).trans (by rw [coord_1])

/-- The body at any point: every buffer named afterwards. -/
theorem body_at (c : Dev nD) (t : Fin cfg0.N) (e : Vec F S2048x512 .bf16)
    (K : PUnit → sProp (MT nD τ sig Unit (Elt F) ℕ (UR sig nD τ) ℕ)) :
    iprop((dats m 0 c).Φ t.castSucc
        ∗ owns (c : Thread nD τ) (st0_0 t) fullShare (rowsAt m c t) ∗ owns (c : Thread nD τ) (st0_1 t) fullShare (weightAt m c t e)
        ∗ (∃ o, owns (c : Thread nD τ) (st0_2 t) fullShare o)
        ∗ (iprop((dats m 0 c).Φ t.succ
          ∗ owns (c : Thread nD τ) (st0_0 t) fullShare (rowsAt m c t) ∗ owns (c : Thread nD τ) (st0_1 t) fullShare (weightAt m c t e)
          ∗ owns (c : Thread nD τ) (st0_2 t) fullShare (outAt m c t (weightAt m c t e))) -∗ K ⟨⟩))
      ⊢ wp frame (wpE (defs₀ (F := F)) Variants.none c none) Set.univ (bodyAt0 t) K := by
  have hsucc : ∀ s : Vec F S1024x2048 .bf16, s = k0_pay1 (rowsAt m c t) → kept m c (t.val + 1) s := by
    intro s hs h _; exact hs.trans rfl
  have hcur : ∀ s : Vec F S1024x2048 .bf16, t.val % 10 ≠ 0 → kept m c t.val s → s = k0_pay1 (rowsAt m c t) := by
    intro s h0 hs
    have hN : t.val - 1 < cfg0.N := Nat.lt_of_le_of_lt (Nat.sub_le _ _) t.isLt
    rw [hs hN h0, rows_same m c ⟨t.val - 1, hN⟩ t (by show (t.val - 1) / 10 = t.val / 10; omega)]
  unfold bodyAt0
  rw [show (dats m 0 c).Φ t.castSucc = iprop((∃ s, ⌜kept m c t.val s⌝ ∗ owns (c : Thread nD τ) (Memref.whole cc0_scratch0) fullShare s) ∗ ∃ r, prngReg c r) from rfl,
    show (dats m 0 c).Φ t.succ = iprop((∃ s, ⌜kept m c (t.val + 1) s⌝ ∗ owns (c : Thread nD τ) (Memref.whole cc0_scratch0) fullShare s) ∗ ∃ r, prngReg c r) from rfl]
  iintro ⟨⟨⟨%s, %hs, HS⟩, HR⟩, H0, H1, H2, Hk⟩
  by_cases hz : t.val % 10 = 0
  · iapply (body_first c Set.univ (grid0.coords t) ((opens_at t).mpr hz) _ _ _ _ _ _ _ _ (rowsAt m c t) (weightAt m c t e) _)
    isplitl [H0]; · iexact H0
    isplitl [H1]; · iexact H1
    isplitl [H2]; · iexact H2
    isplitl [HS]; · iexists _; iexact HS
    iintro ⟨H0, H1, H2, HS⟩
    iapply Hk
    isplitl [HS HR]
    · isplitl [HS]
      · iexists _; isplitr; · ipureintro; exact hsucc _ rfl
        iexact HS
      iexact HR
    isplitl [H0]; · iexact H0
    isplitl [H1]; · iexact H1
    iexact H2
  · obtain rfl := hcur s hz hs
    iapply (body_rest c Set.univ (grid0.coords t) (fun h => hz ((opens_at t).mp h)) _ _ _ _ _ _ _ _ (rowsAt m c t) (weightAt m c t e) _ _)
    isplitl [H0]; · iexact H0
    isplitl [H1]; · iexact H1
    isplitl [H2]; · iexact H2
    isplitl [HS]; · iexact HS
    iintro ⟨H0, H1, H2, HS⟩
    iapply Hk
    isplitl [HS HR]
    · isplitl [HS]
      · iexists _; isplitr; · ipureintro; exact hsucc _ rfl
        iexact HS
      iexact HR
    isplitl [H0]; · iexact H0
    isplitl [H1]; · iexact H1
    iexact H2

/-- The body table's row at a point's slots. -/
theorem row_at (t : Fin cfg0.N) :
    defs₀ (F := F) .tc cfg0.body (cfg0.bodyArgs t (cfg0.slots t)) = bodyAt0 t := by
  unfold defs₀; rw [Defs.onTc_tc]

/-- The window nothing is said of in the frame run: the result's. -/
def hidden : Fin cfg0.W → Bool := fun w => w == 2

/-- What the weight's buffer is left holding, on the part inside its array. -/
theorem weight_left (c : Dev nD) (t : Fin cfg0.N) (e) :
    win0_1.fill (grid0.coords t) e (win0_1.cut (grid0.coords t) ((dats m 0 c).after 1 t)) = weightAt m c t e := by
  rw [after0_1]; exact congrArg _ (win0_1.cut_fill _ _ _)

set_option maxHeartbeats 1000000 in
/-- The obligation with the result's buffer unnamed. -/
theorem body_frame (c : Dev nD) : BodyObligationLoose (dats (F := F) m 0 c) (defs₀ (F := F)) Variants.none () Set.univ hidden := fun t => by
  rw [bigSep_W0, bigSep_W0, row_at]
  simp only [show hidden 0 = false from rfl, show hidden 1 = false from rfl, show hidden 2 = true from rfl]
  rw [show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (body_at m c t d1 _)
  isplitl [HΦ]; · iexact HΦ
  isplitl [H0]; · iexact H0
  isplitl [H1]; · iexact H1
  isplitl [H2]; · iexists _; iexact H2
  iintro ⟨HΦ, H0, H1, H2⟩
  isplitl [HΦ]; · iexact HΦ
  isplitl [Ho]; · iexact Ho
  isplitl [H0]
  · rw [after0_0 m c t]; iexact H0
  isplitl [H1]
  · iexists d1; rw [show (win0 1).fill (grid0.coords t) d1 ((win0 1).cut (grid0.coords t) ((dats m 0 c).after 1 t)) = _ from weight_left m c t d1]; iexact H1
  iexists _; iexact H2

theorem enter (c : Dev nD) : Pipeline.ΦA spec0 c ⊢ (dats (F := F) m 0 c).Φ 0 := by
  rw [show (dats (F := F) m 0 c).Φ 0 = iprop((∃ s, ⌜kept m c 0 s⌝ ∗ owns (c : Thread nD τ) (Memref.whole cc0_scratch0) fullShare s) ∗ ∃ r, prngReg c r) from rfl]
  unfold Pipeline.ΦA
  rw [scopedRest0_eq]
  iintro ⟨⟨%f, H⟩, HR⟩
  isplitl [H]
  · iexists f; isplitr
    · ipureintro; intro h h0; exact absurd rfl h0
    rw [owns_whole]; iexact H
  iexact HR

theorem leave (c : Dev nD) : (dats (F := F) m 0 c).Φ (Fin.last cfg0.N) ⊢ Pipeline.ΦA spec0 c := by
  rw [show (dats (F := F) m 0 c).Φ (Fin.last cfg0.N) = iprop((∃ s, ⌜kept m c (Fin.last cfg0.N).val s⌝ ∗ owns (c : Thread nD τ) (Memref.whole cc0_scratch0) fullShare s) ∗ ∃ r, prngReg c r) from rfl]
  unfold Pipeline.ΦA
  rw [scopedRest0_eq]
  iintro ⟨⟨%s, -, H⟩, HR⟩
  isplitl [H]
  · iexists s; rw [← owns_whole]; iexact H
  iexact HR

set_option backward.isDefEq.respectTransparency.types false in
set_option maxHeartbeats 800000 in
/-- The run, nothing said of the result. -/
theorem run_hidden : θ_run defs (onTc (τ := τ) (main (F := F))) (s₀ m ρ)
    (fun r => Pipeline.RDat.FramePost cfg0 (fun c => (dats m 0 c).toRForget hidden) (V m) r ∧ r.2.sem = fun _ => 0) :=
  Pipeline.θ_run_frame_track_forget (Q' := _) cfgs (dats m) (0 : Fin 1) launch0 defs₀ Variants.none hidden m ρ main
    (hbody := body_frame m) (hshare := fun c => (dats m 0 c).share_full fun _ => rfl)
    (howed := fun _ _ => rfl) (V := V m) (hmain := hmain m Variants.none) (hA := A_eq m) (hin := enter m) (hout := leave m)

/-- Every execution ends, keeps the arguments and leaves the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r hr => ⟨fun c => by
    have h := hr.1
    exact ⟨(Pipeline.RDat.FramePost.arr_in h c 0 rfl).trans ((A_eq m c 0).trans (V_main_arg0 m c)),
      (Pipeline.RDat.FramePost.arr_in h c 1 rfl).trans ((A_eq m c 1).trans (V_main_arg1 m c))⟩, hr.2⟩) (run_hidden m ρ)

/-! ## The run with the result named -/

/-- The part of the result that is kept does not depend on what lies past the end of the weight. -/
def Free : Prop := ∀ (c : Dev nD) (t : Fin cfg0.N) (e : Vec F S2048x512 .bf16),
  win0_2.cut (grid0.coords t) (outAt m c t (weightAt m c t e)) = win0_2.cut (grid0.coords t) (outAt m c t (weightAt m c t pad))

set_option maxHeartbeats 1000000 in
/-- The obligation with every buffer named. -/
theorem body_named (hf : Free m) (c : Dev nD) : BodyObligationLoose (dats (F := F) m 0 c) (defs₀ (F := F)) Variants.none () Set.univ := fun t => by
  rw [bigSep_W0, bigSep_W0, row_at]
  simp only
  rw [show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (body_at m c t d1 _)
  isplitl [HΦ]; · iexact HΦ
  isplitl [H0]; · iexact H0
  isplitl [H1]; · iexact H1
  isplitl [H2]; · iexists _; iexact H2
  iintro ⟨HΦ, H0, H1, H2⟩
  isplitl [HΦ]; · iexact HΦ
  isplitl [Ho]; · iexact Ho
  isplitl [H0]
  · rw [after0_0 m c t]; iexact H0
  isplitl [H1]
  · iexists d1; rw [show (win0 1).fill (grid0.coords t) d1 ((win0 1).cut (grid0.coords t) ((dats m 0 c).after 1 t)) = _ from weight_left m c t d1]; iexact H1
  iexists (outAt m c t (weightAt m c t d1))
  rw [show (win0 2).fill (grid0.coords t) (outAt m c t (weightAt m c t d1)) ((win0 2).cut (grid0.coords t) ((dats m 0 c).after 2 t)) = outAt m c t (weightAt m c t d1) from by
    rw [after0_2]
    refine (congrArg (win0_2.fill (grid0.coords t) (outAt m c t (weightAt m c t d1))) (hf c t d1).symm).trans ?_
    exact win0_2.fill_cut _ _]
  iexact H2

set_option backward.isDefEq.respectTransparency.types false in
set_option maxHeartbeats 800000 in
/-- The run: at its end the arrays are what the data say. -/
theorem run_named (hf : Free m) : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_named m hf) (hshare := fun c => (dats m 0 c).share_full fun _ => rfl)
    (howed := fun _ _ => rfl) (V := V m) (hmain := hmain m Variants.none) (hA := A_eq m) (hin := enter m) (hout := leave m)

/-- The same, read at the result and the arguments. -/
theorem run_result (hf : Free m) : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => by
    have h := hr.1
    exact ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_named m ρ hf)

end Cert.ProjIdeal.Hand

end
-- ==== Proof.ProjTile.lean ====
module

public import proofs.«01_k».proof.Proof.ProjIdealRun
public import Idealize.ShloMosaic.Lib.ValueIdx
public import Idealize.ShloMosaic.Lib.StableHlo.ReadAt
public import Idealize.ShloMosaic.Lib.Pipeline.ValueKit

@[expose] public section

set_option maxRecDepth 16384

/-! The input projection's result over the reals: inner products of the rows with the weight's columns. -/

noncomputable section

namespace Cert.ProjIdeal.Hand

open Cert.ProjIdeal Cert.ProjIdeal.Gen Idealize.ShloMosaic Idealize.ShloMosaic.TcCoe Idealize.SL.Sem

variable (X : FVec Ideal S1024x2048 .f32) (S : FVec Ideal S1024x2048 .bf16) (P : FVec Ideal S2048x512 .bf16)
variable (n : Fin 1024) (f : Fin 512) (j : Fin 2048)

theorem rounded_apply : k0_pay1 (F := Ideal) X (ix2 n j) = X (ix2 n j) := by
  pointwise [k0_pay1]

theorem product_apply : k0_pay2 (F := Ideal) S P (ix2 n f) = ∑ j : Fin 2048, S (ix2 n j) * P (ix2 j f) := by
  pointwise [k0_pay2]

variable (m : (ℓ : Loc nD τ sig) → Buf (Elt Ideal) ℓ) (c : Dev nD)

/-! The arguments, as launched. -/

abbrev inX : FVec Ideal S8192x2048 .f32 := m ((c : Thread nD τ).loc main_arg0)
abbrev inW : FVec Ideal S2048x4736 .bf16 := m ((c : Thread nD τ).loc main_arg1)

/-! ## Where the blocks lie, and how much of each lies inside its array -/

theorem index_1 : ∀ t : Fin grid0.N, win0_1.index t = ![0, t.val % 10] := by decide +kernel
theorem index_2 : ∀ t : Fin grid0.N, win0_2.index t = ![t.val / 10, t.val % 10] := by decide +kernel

theorem extent_1 : ∀ t : Fin grid0.N, win0_1.xsize (grid0.coords t) 0 = 2048 ∧ win0_1.xsize (grid0.coords t) 1 = min 512 (4736 - t.val % 10 * 512) := by decide +kernel
theorem extent_2 : ∀ t : Fin grid0.N, win0_2.xsize (grid0.coords t) 0 = 1024 ∧ win0_2.xsize (grid0.coords t) 1 = min 512 (4736 - t.val % 10 * 512) := by decide +kernel

/-- Row `n` of the point's row tile. -/
abbrev place (t : Fin grid0.N) (n : Fin 1024) : Fin 8192 := ⟨t.val / 10 * 1024 + n.val, by have : t.val < 80 := t.isLt; omega⟩

theorem block_x (t : Fin grid0.N) (n : Fin 1024) (j : Fin 2048) : rowsAt m c t (ix2 n j) = inX m c (ix2 (place t n) j) := by
  blk_simp [rowsAt, iblk]
  rw [show (V m c main_arg0 = _) from V_main_arg0 m c]
  refine congrArg _ ?_
  blk_ext [index_0]

theorem weight_at (t : Fin grid0.N) (e : Vec Ideal S2048x512 .bf16) (j : Fin 2048) (f : Fin 512) (h : t.val % 10 * 512 + f.val < 4736) :
    weightAt m c t e (ix2 j f) = inW m c (ix2 j ⟨t.val % 10 * 512 + f.val, h⟩) := by
  have hm : win0_1.moved (grid0.coords t) (ix2 j f) = true := (win0_1.moved_iff _ _).mpr fun a => by
    match a with
    | 0 => exact lt_of_lt_of_eq j.isLt (extent_1 t).1.symm
    | 1 => exact lt_of_lt_of_eq (show f.val < min 512 (4736 - t.val % 10 * 512) by omega) (extent_1 t).2.symm
  unfold weightAt Pipeline.Window.fill
  rw [dif_pos hm]
  blk_simp [iblk]
  rw [show (V m c main_arg1 = _) from V_main_arg1 m c]
  refine congrArg _ ?_
  blk_ext [index_1]

/-- The block at a point, inside the array: the inner products. -/
theorem out_at (t : Fin grid0.N) (e : Vec Ideal S2048x512 .bf16) (n : Fin 1024) (f : Fin 512) (h : t.val % 10 * 512 + f.val < 4736) :
    outAt m c t (weightAt m c t e) (ix2 n f) = ∑ j : Fin 2048, inX m c (ix2 (place t n) j) * inW m c (ix2 j ⟨t.val % 10 * 512 + f.val, h⟩) := by
  unfold outAt
  refine (product_apply _ _ n f).trans (Finset.sum_congr rfl fun j _ => ?_)
  exact congrArg₂ (· * ·) ((rounded_apply _ n j).trans (block_x m c t n j)) (weight_at m c t e j f h)

/-- What lies past the end of the weight never reaches the result. -/
theorem free : Free m := fun c t e => by
  funext y
  have h1 : (y 1).val < min 512 (4736 - t.val % 10 * 512) := lt_of_lt_of_eq (y 1).isLt (extent_2 t).2
  have hz : t.val % 10 * 512 + (win0_2.xinj (grid0.coords t) y 1).val < 4736 := by
    show t.val % 10 * 512 + (y 1).val < 4736
    omega
  have e2 : win0_2.xinj (grid0.coords t) y = ix2 (win0_2.xinj (grid0.coords t) y 0) (win0_2.xinj (grid0.coords t) y 1) := (ix2_eta _).symm
  show outAt m c t (weightAt m c t e) (win0_2.xinj (grid0.coords t) y) = outAt m c t (weightAt m c t pad) (win0_2.xinj (grid0.coords t) y)
  rw [e2]
  exact (out_at m c t e _ _ hz).trans (out_at m c t pad _ _ hz).symm

theorem final : (dats m 0 c).arrAt 2 cfg0.N
    = fun i : S8192x4736.Idx => ∑ j : Fin 2048, inX m c (ix2 (i 0) j) * inW m c (ix2 j (i 1)) := by
  refine (dats m 0 c).arrAt_eq_of_covers 2 _ (by decide +kernel) fun t hf y => ?_
  have h1 : (y 1).val < min 512 (4736 - t.val % 10 * 512) := lt_of_lt_of_eq (y 1).isLt (extent_2 t).2
  have hz : t.val % 10 * 512 + (win0_2.xinj (grid0.coords t) y 1).val < 4736 := by
    show t.val % 10 * 512 + (y 1).val < 4736
    omega
  have e2 : win0_2.xinj (grid0.coords t) y = ix2 (win0_2.xinj (grid0.coords t) y 0) (win0_2.xinj (grid0.coords t) y 1) := (ix2_eta _).symm
  blk_simp
  rw [after0_2]
  refine (congrArg (outAt m c t (weightAt m c t pad)) e2).trans ((out_at m c t pad _ _ hz).trans ?_)
  refine congrArg₂ (fun (n : Fin 8192) (k : Fin 4736) => ∑ j : Fin 2048, inX m c (ix2 n j) * inW m c (ix2 j k)) (Fin.ext ?_) (Fin.ext ?_)
  · blk_simp [index_2]
  · blk_simp [index_2]

end Cert.ProjIdeal.Hand
end
-- ==== Proof.ProjEquation.lean ====
module

public import proofs.«01_k».proof.Defs
public import proofs.«01_k».proof.Proof.ProjTile
public import proofs.«01_k».proof.Proof.Gen.ProjRefIdeal.Run
public import proofs.«01_k».proof.Proof.Gen.ProjRefIdeal.Read

@[expose] public section

set_option maxRecDepth 16384

/-! The input projection's kernel computes the reference's product. -/

noncomputable section

namespace Cert.ProjRefIdeal.Hand

open Cert.ProjRefIdeal Cert.ProjRefIdeal.Gen Cert.ProjRefIdeal.Read Idealize.ShloMosaic Idealize.SL.Sem

theorem product_apply (X : FVec Ideal S8192x2048 .f32) (W : FVec Ideal S2048x4736 .bf16) (n : Fin 8192) (k : Fin 4736) :
    val_main_v1 (F := Ideal) X W (ix2 n k) = ∑ j : Fin 2048, X (ix2 n j) * W (ix2 j k) := by
  pointwise [val_main_v1, val_main_v0]

/-- The reference keeps its arguments, and has no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run m ρ)

end Cert.ProjRefIdeal.Hand

namespace Cert.Proj.Hand

open Idealize.ShloMosaic Idealize.ShloMosaic.TcCoe Idealize.SL.Sem

theorem algebraic : Cert.algebraic_ProjIdeal_ProjRefIdeal := by
  intro m g m' g' _ hargs
  refine ⟨fun c => (Cert.ProjIdeal.Hand.dats m 0 c).arrAt 2 Cert.ProjIdeal.cfg0.N,
    Cert.ProjIdeal.Hand.run_result m g (Cert.ProjIdeal.Hand.free m), (θ_run _ _ _).mono (fun r h c => ?_) (Cert.ProjRefIdeal.Value.run m' g')⟩
  obtain ⟨h1, h2⟩ := h c
  obtain ⟨a0, a1⟩ := hargs c
  refine ⟨h1.trans ?_, h2⟩
  beta_reduce
  rw [Cert.ProjIdeal.Hand.final, Cert.ProjRefIdeal.Read.val_main_v1_eq, a0, a1]
  funext i
  rw [eq_ix2 i]
  exact Cert.ProjRefIdeal.Hand.product_apply _ _ _ _

end Cert.Proj.Hand
end
-- ==== Proof.UpTables.lean ====
module

public import proofs.«01_k».proof.Proof.Gen.Pre_tiles_named
public import Idealize.ShloMosaic.Lib.Pipeline.Value

/-! The precondition on the tables, read as numbers: every expert is one of the eight, every use is no or yes, and a
tile that does not open its expert has the expert of the tile before it. -/

@[expose] public section

set_option maxRecDepth 16384

noncomputable section

namespace Cert.Pre_tiles_named.Hand

open Cert.Pre_tiles_named Idealize.ShloMosaic

variable {F : FTy → Type} [FloatOps F]

abbrev at42 (n : ℕ) (h : n < 42) : S42.Idx := fun a => ⟨n, by fin_cases a; exact h⟩

theorem both (a b : BitVec 1) : IntOp.andi a b = 1#1 → a = 1#1 ∧ b = 1#1 := by revert a b; decide
theorem either (a b : BitVec 1) : IntOp.ori a b = 1#1 → a = 1#1 ∨ b = 1#1 := by revert a b; decide
theorem of_bool (b : Bool) : BitVec.ofBool b = 1#1 → b = true := by revert b; decide

theorem of_eq (x y : BitVec 32) (h : IntOp.cmpi .eq x y = 1#1) : x = y := eq_of_beq (of_bool _ h)

theorem below (n : ℕ) (hn : n < 2 ^ 31) (x : BitVec 32) (h0 : IntOp.cmpi .sge x 0#32 = 1#1) (h1 : IntOp.cmpi .slt x (BitVec.ofNat 32 n) = 1#1) : x.toNat < n := by
  have a : BitVec.sle 0#32 x = true := of_bool _ h0
  have b : BitVec.slt x (BitVec.ofNat 32 n) = true := of_bool _ h1
  rw [BitVec.sle_eq_decide] at a
  rw [BitVec.slt_eq_decide] at b
  have a' := of_decide_eq_true a
  have b' := of_decide_eq_true b
  have e0 : (0#32 : BitVec 32).toInt = 0 := by decide
  have e1 : (BitVec.ofNat 32 n).toInt = n := by
    rw [BitVec.toInt_eq_toNat_of_lt (by rw [BitVec.toNat_ofNat]; omega), BitVec.toNat_ofNat]
    omega
  rw [e0] at a'
  rw [e1] at b'
  rw [BitVec.toInt_eq_toNat_cond] at a' b'
  have := x.isLt
  split_ifs at a' b' <;> omega

variable [Facts]
open Facts

variable (e f u : IVec S42 32) (X : FVec F S21504x2048 .bf16) (P Q : FVec F S8x2048x7168 .f32)

/-- The tiles' experts, moved one tile on. -/
abbrev before : IVec S42 32 := concatenate S42 0 [⟨S1, extractStridedSlice S1 ![0] e slices_S42_S1_0⟩, ⟨S41, extractStridedSlice S41 ![0] e slices_S42_S41_0⟩] concatenates_S1_S41_S42_d0

theorem before_succ (n : ℕ) (h : n + 1 < 42) : before e (at42 (n + 1) h) = e (at42 n (by omega)) := by
  unfold before
  rw [concatenate_pair_apply_right (t := S42) 0 _ _ concatenates_S1_S41_S42_d0 (at42 (n + 1) h) rfl rfl (fun a => ⟨n, by fin_cases a; show n < 41; omega⟩)
    (fun b hb => absurd (Subsingleton.elim (α := Fin 1) _ _) hb) rfl]
  show e _ = e _
  refine congrArg e (funext fun a => Fin.ext ?_)
  fin_cases a
  show 0 + n = n
  omega

theorem fn_apply (j : S42.Idx) : fn e f u X P Q j
    = IntOp.andi (IntOp.andi (IntOp.andi (IntOp.andi (IntOp.cmpi .sge (e j) 0#32) (IntOp.cmpi .slt (e j) 8#32)) (IntOp.cmpi .sge (u j) 0#32)) (IntOp.cmpi .slt (u j) 2#32))
        (IntOp.ori (IntOp.cmpi .eq (e j) (before e j)) (IntOp.cmpi .eq (f j) 1#32)) := rfl

variable (h : fn e f u X P Q = fun _ => 1#1)
include h

theorem expert (j : S42.Idx) : (e j).toNat < 8 := by
  have a := (fn_apply e f u X P Q j).symm.trans (congrFun h j)
  obtain ⟨a, -⟩ := both _ _ a
  obtain ⟨a, -⟩ := both _ _ a
  obtain ⟨a, -⟩ := both _ _ a
  obtain ⟨a, b⟩ := both _ _ a
  exact below 8 (by decide) _ a b

theorem used (j : S42.Idx) : u j = 0#32 ∨ u j = 1#32 := by
  have a := (fn_apply e f u X P Q j).symm.trans (congrFun h j)
  obtain ⟨a, -⟩ := both _ _ a
  obtain ⟨a, c⟩ := both _ _ a
  obtain ⟨-, b⟩ := both _ _ a
  have := below 2 (by decide) _ b c
  rcases (show (u j).toNat = 0 ∨ (u j).toNat = 1 by omega) with k | k
  · exact Or.inl (BitVec.eq_of_toNat_eq k)
  · exact Or.inr (BitVec.eq_of_toNat_eq k)

theorem first (n : ℕ) (hn : n + 1 < 42) : e (at42 (n + 1) hn) = e (at42 n (by omega)) ∨ f (at42 (n + 1) hn) = 1#32 := by
  have a := (fn_apply e f u X P Q (at42 (n + 1) hn)).symm.trans (congrFun h _)
  obtain ⟨-, a⟩ := both _ _ a
  rcases either _ _ a with a | a
  · exact Or.inl ((of_eq _ _ a).trans (before_succ e n hn))
  · exact Or.inr (of_eq _ _ a)

end Cert.Pre_tiles_named.Hand

end
-- ==== Proof.UpIdealBody.lean ====
module

public import proofs.«01_k».proof.Proof.Gen.UpIdeal.Launch
public import proofs.«01_k».proof.Proof.Gen.UpIdeal.Skeleton
public import Idealize.ShloMosaic.Lib.Pipeline.Quiescent
public import Idealize.ShloMosaic.Lib.Claim
public import Idealize.ShloMosaic.Lib.Pipeline.Kit
public import Idealize.ShloMosaic.Lib.Pipeline.Frame
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Pipeline.ValueKit
public import Idealize.ShloMosaic.Lib.Tactic
public import Idealize.ShloMosaic.PureOps.Ideal
public import Idealize.ShloMosaic.Adequacy
public import Idealize.ShloMosaic.Init

/-! The body of the experts' first product, at one point of its grid.

A point that opens a new expert rounds the two weight blocks into the scratch buffers.  A used tile gets the
gated product of its rows with the two scratch buffers, an unused one gets zeros. -/

@[expose] public section

set_option maxRecDepth 16384

noncomputable section

namespace Cert.UpIdeal.Hand

open Cert.UpIdeal Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The tables and the scratch buffers, whole. -/
abbrev tab1 : Memref sig .tc .smem S42 .i32 := Memref.whole main_arg1
abbrev tab2 : Memref sig .tc .smem S42 .i32 := Memref.whole main_arg2
abbrev gateS : Memref sig .tc .vmem S2048x1024 .bf16 := Memref.whole cc0_scratch0
abbrev upS : Memref sig .tc .vmem S2048x1024 .bf16 := Memref.whole cc0_scratch1

/-- The words the body reads from its tables. -/
abbrev firstWord (T : S42.Idx → Elt F .i32) (i : grid0.Coords) : BitVec 32 :=
  View.readAt (Elt F) (tab1).view (Rect.unit (s := S42) (k0_off1 i) S1.size (k0_off1_inb i)).toLoadRect T (Shape.Idx.first (numel1_S1.symm ▸ Nat.one_pos))
abbrev usedWord (T : S42.Idx → Elt F .i32) (i : grid0.Coords) : BitVec 32 :=
  View.readAt (Elt F) (tab2).view (Rect.unit (s := S42) (k0_off2 i) S1.size (k0_off2_inb i)).toLoadRect T (Shape.Idx.first (numel1_S1.symm ▸ Nat.one_pos))
abbrev usedWord' (T : S42.Idx → Elt F .i32) (i : grid0.Coords) : BitVec 32 :=
  View.readAt (Elt F) (tab2).view (Rect.unit (s := S42) (k0_off3 i) S1.size (k0_off3_inb i)).toLoadRect T (Shape.Idx.first (numel1_S1.symm ▸ Nat.one_pos))

/-- The test of the first conditional: does the tile open a new expert? -/
abbrev opens (i : grid0.Coords) (w : BitVec 32) : BitVec 1 :=
  Scalar.cmpi .ne (Scalar.extui (Scalar.ori (Scalar.cmpi .eq (BitVec.ofNat 32 (i 1).val) 0#32) (Scalar.cmpi .eq w 1#32)) : BitVec 32) 0#32

theorem off2 : (![0, 0] : Fin 2 → Nat) = fun _ => 0 := funext fun a => by fin_cases a <;> rfl
theorem off3 : (![0, 0, 0] : Fin 3 → Nat) = fun _ => 0 := funext fun a => by fin_cases a <;> rfl

/-- A store over a whole buffer, made last, leaves its payload. -/
theorem stored {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-! A load of a whole buffer reads the buffer. -/

theorem whole_rows {e : EltTy} (X : S512x2048.Idx → Elt F e) (inb) :
    View.ld X (Rect.unit (s := S512x2048) ![0, 0] ![512, 2048] inb) = X := View.ld_unit_zero (S := S512x2048) off2 _ X
theorem whole_weight {e : EltTy} (X : S1x2048x1024.Idx → Elt F e) (inb) :
    View.ld X (Rect.unit (s := S1x2048x1024) ![0, 0, 0] ![1, 2048, 1024] inb) = X := View.ld_unit_zero (S := S1x2048x1024) off3 _ X
theorem whole_kept {e : EltTy} (X : S2048x1024.Idx → Elt F e) (inb) :
    View.ld X (Rect.unit (s := S2048x1024) ![0, 0] ![2048, 1024] inb) = X := View.ld_unit_zero (S := S2048x1024) off2 _ X
/-- A load of a whole buffer after a store over it reads the payload. -/
theorem whole_read {e : EltTy} {sp : Space} (v : View sig .tc sp S2048x1024 e) (w : S2048x1024.Idx → Elt F e) (inb) (inb') :
    v.readCov [(⟨Rect.unit (s := S2048x1024) ![0, 0] ![2048, 1024] inb, w⟩ : View.Piece (Elt F) S2048x1024 e)]
      (Rect.unit (s := S2048x1024) ![0, 0] ![2048, 1024] inb').toLoadRect = w :=
  View.readCov_unit_zero (S := S2048x1024) v off2 _ w

set_option maxHeartbeats 2000000 in
/-- A used tile that opens an expert. -/
theorem body_open_used (c : Dev nD) (E : Set ℕ) (i : grid0.Coords) (T1 T2 : S42.Idx → Elt F .i32)
    (h1 : opens i (firstWord T1 i) = 1#1) (h2 : k0_cond2 (usedWord T2 i) = 1#1) (h3 : ¬ k0_cond3 (usedWord' T2 i) = 1#1)
    (arg5 : Memref sig .tc .vmem S512x2048 .bf16) (harg5 : arg5.IsWhole) (arg6 : Memref sig .tc .vmem S1x2048x1024 .f32) (harg6 : arg6.IsWhole)
    (arg7 : Memref sig .tc .vmem S1x2048x1024 .f32) (harg7 : arg7.IsWhole) (arg8 : Memref sig .tc .vmem S512x1024 .bf16) (harg8 : arg8.IsWhole)
    (x : Vec F S512x2048 .bf16) (w v : Vec F S1x2048x1024 .f32) (K : PUnit → sProp (MT nD τ sig Unit (Elt F) ℕ (UR sig nD τ) ℕ)) :
    iprop(owns (c : Thread nD τ) arg5 fullShare x ∗ owns (c : Thread nD τ) arg6 fullShare w ∗ owns (c : Thread nD τ) arg7 fullShare v
        ∗ (∃ o, owns (c : Thread nD τ) arg8 fullShare o) ∗ (∃ s, owns (c : Thread nD τ) gateS fullShare s) ∗ (∃ s, owns (c : Thread nD τ) upS fullShare s)
        ∗ (tab1.view.loc (c : Thread nD τ) ↦{fullShare.right} T1) ∗ (tab2.view.loc (c : Thread nD τ) ↦{fullShare.right} T2)
        ∗ (iprop(owns (c : Thread nD τ) arg5 fullShare x ∗ owns (c : Thread nD τ) arg6 fullShare w ∗ owns (c : Thread nD τ) arg7 fullShare v
            ∗ owns (c : Thread nD τ) arg8 fullShare (k0_pay3 x (k0_pay1 w) (k0_pay2 v)) ∗ owns (c : Thread nD τ) gateS fullShare (k0_pay1 w) ∗ owns (c : Thread nD τ) upS fullShare (k0_pay2 v)
            ∗ (tab1.view.loc (c : Thread nD τ) ↦{fullShare.right} T1) ∗ (tab2.view.loc (c : Thread nD τ) ↦{fullShare.right} T2)) -∗ K ⟨⟩))
      ⊢ wp frame (wpE (defs₀ (F := F)) Variants.none c none) E
          (cc0_moe_up i (Memref.whole main_arg0) (Memref.isWhole_whole _) tab1 (Memref.isWhole_whole _) tab2 (Memref.isWhole_whole _)
            arg5 harg5 arg6 harg6 arg7 harg7 arg8 harg8 gateS (Memref.isWhole_whole _) upS (Memref.isWhole_whole _)) K := by
  rw [cc0_moe_up_eq_skeleton]; unfold cc0_moe_up_skel
  unfold owns
  iintro ⟨⟨%f0, %hf0, H0⟩, ⟨%f1, %hf1, H1⟩, ⟨%f1', %hf2, H2⟩, ⟨%d2, %f2, -, H3⟩, ⟨%g3, %f3, -, HG⟩, ⟨%u3, %f4, -, HU⟩, HT1, HT2, Hk⟩
  subst hf0 hf1 hf2
  have hS0 : gateS.IsWhole := Memref.isWhole_whole _
  have hS1 : upS.IsWhole := Memref.isWhole_whole _
  have hT1 : tab1.IsWhole := Memref.isWhole_whole _
  have hT2 : tab2.IsWhole := Memref.isWhole_whole _
  sl_exec (disch := first | (guard_target = Scalar.cmpi = _; exact h1) | (guard_target = ¬(Scalar.cmpi = _); exact h1) | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f1'; isplitr; · ipureintro; rfl
    iexact H2
  isplitl [H3]
  · iexists _; isplitr
    swap; · iexact H3
    ipureintro
    sl_unfold_words
    refine (stored _ _ off2 _ _ _).trans ?_
    simp only [View.readAt_eq_ld, whole_rows, whole_weight, whole_kept, whole_read]
  isplitl [HG]
  · iexists _; isplitr
    swap; · iexact HG
    ipureintro
    sl_unfold_words
    refine (stored _ _ off2 _ _ _).trans ?_
    simp only [View.readAt_eq_ld, whole_weight]
  isplitl [HU]
  · iexists _; isplitr
    swap; · iexact HU
    ipureintro
    sl_unfold_words
    refine (stored _ _ off2 _ _ _).trans ?_
    simp only [View.readAt_eq_ld, whole_weight]
  isplitl [HT1]; · iexact HT1
  iexact HT2

set_option maxHeartbeats 2000000 in
/-- An unused tile that opens an expert. -/
theorem body_open_idle (c : Dev nD) (E : Set ℕ) (i : grid0.Coords) (T1 T2 : S42.Idx → Elt F .i32)
    (h1 : opens i (firstWord T1 i) = 1#1) (h2 : ¬ k0_cond2 (usedWord T2 i) = 1#1) (h3 : k0_cond3 (usedWord' T2 i) = 1#1)
    (arg5 : Memref sig .tc .vmem S512x2048 .bf16) (harg5 : arg5.IsWhole) (arg6 : Memref sig .tc .vmem S1x2048x1024 .f32) (harg6 : arg6.IsWhole)
    (arg7 : Memref sig .tc .vmem S1x2048x1024 .f32) (harg7 : arg7.IsWhole) (arg8 : Memref sig .tc .vmem S512x1024 .bf16) (harg8 : arg8.IsWhole)
    (x : Vec F S512x2048 .bf16) (w v : Vec F S1x2048x1024 .f32) (K : PUnit → sProp (MT nD τ sig Unit (Elt F) ℕ (UR sig nD τ) ℕ)) :
    iprop(owns (c : Thread nD τ) arg5 fullShare x ∗ owns (c : Thread nD τ) arg6 fullShare w ∗ owns (c : Thread nD τ) arg7 fullShare v
        ∗ (∃ o, owns (c : Thread nD τ) arg8 fullShare o) ∗ (∃ s, owns (c : Thread nD τ) gateS fullShare s) ∗ (∃ s, owns (c : Thread nD τ) upS fullShare s)
        ∗ (tab1.view.loc (c : Thread nD τ) ↦{fullShare.right} T1) ∗ (tab2.view.loc (c : Thread nD τ) ↦{fullShare.right} T2)
        ∗ (iprop(owns (c : Thread nD τ) arg5 fullShare x ∗ owns (c : Thread nD τ) arg6 fullShare w ∗ owns (c : Thread nD τ) arg7 fullShare v
            ∗ owns (c : Thread nD τ) arg8 fullShare (k0_pay4 (F := F)) ∗ owns (c : Thread nD τ) gateS fullShare (k0_pay1 w) ∗ owns (c : Thread nD τ) upS fullShare (k0_pay2 v)
            ∗ (tab1.view.loc (c : Thread nD τ) ↦{fullShare.right} T1) ∗ (tab2.view.loc (c : Thread nD τ) ↦{fullShare.right} T2)) -∗ K ⟨⟩))
      ⊢ wp frame (wpE (defs₀ (F := F)) Variants.none c none) E
          (cc0_moe_up i (Memref.whole main_arg0) (Memref.isWhole_whole _) tab1 (Memref.isWhole_whole _) tab2 (Memref.isWhole_whole _)
            arg5 harg5 arg6 harg6 arg7 harg7 arg8 harg8 gateS (Memref.isWhole_whole _) upS (Memref.isWhole_whole _)) K := by
  rw [cc0_moe_up_eq_skeleton]; unfold cc0_moe_up_skel
  unfold owns
  iintro ⟨⟨%f0, %hf0, H0⟩, ⟨%f1, %hf1, H1⟩, ⟨%f1', %hf2, H2⟩, ⟨%d2, %f2, -, H3⟩, ⟨%g3, %f3, -, HG⟩, ⟨%u3, %f4, -, HU⟩, HT1, HT2, Hk⟩
  subst hf0 hf1 hf2
  have hS0 : gateS.IsWhole := Memref.isWhole_whole _
  have hS1 : upS.IsWhole := Memref.isWhole_whole _
  have hT1 : tab1.IsWhole := Memref.isWhole_whole _
  have hT2 : tab2.IsWhole := Memref.isWhole_whole _
  sl_exec (disch := first | (guard_target = Scalar.cmpi = _; exact h1) | (guard_target = ¬(Scalar.cmpi = _); exact h1) | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f1'; isplitr; · ipureintro; rfl
    iexact H2
  isplitl [H3]
  · iexists _; isplitr
    swap; · iexact H3
    ipureintro
    sl_unfold_words
    refine (stored _ _ off2 _ _ _).trans ?_
    rfl
  isplitl [HG]
  · iexists _; isplitr
    swap; · iexact HG
    ipureintro
    sl_unfold_words
    refine (stored _ _ off2 _ _ _).trans ?_
    simp only [View.readAt_eq_ld, whole_weight]
  isplitl [HU]
  · iexists _; isplitr
    swap; · iexact HU
    ipureintro
    sl_unfold_words
    refine (stored _ _ off2 _ _ _).trans ?_
    simp only [View.readAt_eq_ld, whole_weight]
  isplitl [HT1]; · iexact HT1
  iexact HT2

set_option maxHeartbeats 2000000 in
/-- A used tile of the expert before it. -/
theorem body_same_used (c : Dev nD) (E : Set ℕ) (i : grid0.Coords) (T1 T2 : S42.Idx → Elt F .i32)
    (h1 : ¬ opens i (firstWord T1 i) = 1#1) (h2 : k0_cond2 (usedWord T2 i) = 1#1) (h3 : ¬ k0_cond3 (usedWord' T2 i) = 1#1)
    (arg5 : Memref sig .tc .vmem S512x2048 .bf16) (harg5 : arg5.IsWhole) (arg6 : Memref sig .tc .vmem S1x2048x1024 .f32) (harg6 : arg6.IsWhole)
    (arg7 : Memref sig .tc .vmem S1x2048x1024 .f32) (harg7 : arg7.IsWhole) (arg8 : Memref sig .tc .vmem S512x1024 .bf16) (harg8 : arg8.IsWhole)
    (x : Vec F S512x2048 .bf16) (w v : Vec F S1x2048x1024 .f32) (g u : Vec F S2048x1024 .bf16) (K : PUnit → sProp (MT nD τ sig Unit (Elt F) ℕ (UR sig nD τ) ℕ)) :
    iprop(owns (c : Thread nD τ) arg5 fullShare x ∗ owns (c : Thread nD τ) arg6 fullShare w ∗ owns (c : Thread nD τ) arg7 fullShare v
        ∗ (∃ o, owns (c : Thread nD τ) arg8 fullShare o) ∗ owns (c : Thread nD τ) gateS fullShare g ∗ owns (c : Thread nD τ) upS fullShare u
        ∗ (tab1.view.loc (c : Thread nD τ) ↦{fullShare.right} T1) ∗ (tab2.view.loc (c : Thread nD τ) ↦{fullShare.right} T2)
        ∗ (iprop(owns (c : Thread nD τ) arg5 fullShare x ∗ owns (c : Thread nD τ) arg6 fullShare w ∗ owns (c : Thread nD τ) arg7 fullShare v
            ∗ owns (c : Thread nD τ) arg8 fullShare (k0_pay3 x g u) ∗ owns (c : Thread nD τ) gateS fullShare (g) ∗ owns (c : Thread nD τ) upS fullShare (u)
            ∗ (tab1.view.loc (c : Thread nD τ) ↦{fullShare.right} T1) ∗ (tab2.view.loc (c : Thread nD τ) ↦{fullShare.right} T2)) -∗ K ⟨⟩))
      ⊢ wp frame (wpE (defs₀ (F := F)) Variants.none c none) E
          (cc0_moe_up i (Memref.whole main_arg0) (Memref.isWhole_whole _) tab1 (Memref.isWhole_whole _) tab2 (Memref.isWhole_whole _)
            arg5 harg5 arg6 harg6 arg7 harg7 arg8 harg8 gateS (Memref.isWhole_whole _) upS (Memref.isWhole_whole _)) K := by
  rw [cc0_moe_up_eq_skeleton]; unfold cc0_moe_up_skel
  unfold owns
  iintro ⟨⟨%f0, %hf0, H0⟩, ⟨%f1, %hf1, H1⟩, ⟨%f1', %hf2, H2⟩, ⟨%d2, %f2, -, H3⟩, ⟨%f3, %hf3, HG⟩, ⟨%f4, %hf4, HU⟩, HT1, HT2, Hk⟩
  subst hf0 hf1 hf2 hf3 hf4
  have hS0 : gateS.IsWhole := Memref.isWhole_whole _
  have hS1 : upS.IsWhole := Memref.isWhole_whole _
  have hT1 : tab1.IsWhole := Memref.isWhole_whole _
  have hT2 : tab2.IsWhole := Memref.isWhole_whole _
  sl_exec (disch := first | (guard_target = Scalar.cmpi = _; exact h1) | (guard_target = ¬(Scalar.cmpi = _); exact h1) | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f1'; isplitr; · ipureintro; rfl
    iexact H2
  isplitl [H3]
  · iexists _; isplitr
    swap; · iexact H3
    ipureintro
    sl_unfold_words
    refine (stored _ _ off2 _ _ _).trans ?_
    simp only [View.readAt_eq_ld, whole_rows, whole_weight, whole_kept, whole_read]
  isplitl [HG]
  · iexists f3; isplitr; · ipureintro; rfl
    iexact HG
  isplitl [HU]
  · iexists f4; isplitr; · ipureintro; rfl
    iexact HU
  isplitl [HT1]; · iexact HT1
  iexact HT2

set_option maxHeartbeats 2000000 in
/-- An unused tile of the expert before it. -/
theorem body_same_idle (c : Dev nD) (E : Set ℕ) (i : grid0.Coords) (T1 T2 : S42.Idx → Elt F .i32)
    (h1 : ¬ opens i (firstWord T1 i) = 1#1) (h2 : ¬ k0_cond2 (usedWord T2 i) = 1#1) (h3 : k0_cond3 (usedWord' T2 i) = 1#1)
    (arg5 : Memref sig .tc .vmem S512x2048 .bf16) (harg5 : arg5.IsWhole) (arg6 : Memref sig .tc .vmem S1x2048x1024 .f32) (harg6 : arg6.IsWhole)
    (arg7 : Memref sig .tc .vmem S1x2048x1024 .f32) (harg7 : arg7.IsWhole) (arg8 : Memref sig .tc .vmem S512x1024 .bf16) (harg8 : arg8.IsWhole)
    (x : Vec F S512x2048 .bf16) (w v : Vec F S1x2048x1024 .f32) (g u : Vec F S2048x1024 .bf16) (K : PUnit → sProp (MT nD τ sig Unit (Elt F) ℕ (UR sig nD τ) ℕ)) :
    iprop(owns (c : Thread nD τ) arg5 fullShare x ∗ owns (c : Thread nD τ) arg6 fullShare w ∗ owns (c : Thread nD τ) arg7 fullShare v
        ∗ (∃ o, owns (c : Thread nD τ) arg8 fullShare o) ∗ owns (c : Thread nD τ) gateS fullShare g ∗ owns (c : Thread nD τ) upS fullShare u
        ∗ (tab1.view.loc (c : Thread nD τ) ↦{fullShare.right} T1) ∗ (tab2.view.loc (c : Thread nD τ) ↦{fullShare.right} T2)
        ∗ (iprop(owns (c : Thread nD τ) arg5 fullShare x ∗ owns (c : Thread nD τ) arg6 fullShare w ∗ owns (c : Thread nD τ) arg7 fullShare v
            ∗ owns (c : Thread nD τ) arg8 fullShare (k0_pay4 (F := F)) ∗ owns (c : Thread nD τ) gateS fullShare (g) ∗ owns (c : Thread nD τ) upS fullShare (u)
            ∗ (tab1.view.loc (c : Thread nD τ) ↦{fullShare.right} T1) ∗ (tab2.view.loc (c : Thread nD τ) ↦{fullShare.right} T2)) -∗ K ⟨⟩))
      ⊢ wp frame (wpE (defs₀ (F := F)) Variants.none c none) E
          (cc0_moe_up i (Memref.whole main_arg0) (Memref.isWhole_whole _) tab1 (Memref.isWhole_whole _) tab2 (Memref.isWhole_whole _)
            arg5 harg5 arg6 harg6 arg7 harg7 arg8 harg8 gateS (Memref.isWhole_whole _) upS (Memref.isWhole_whole _)) K := by
  rw [cc0_moe_up_eq_skeleton]; unfold cc0_moe_up_skel
  unfold owns
  iintro ⟨⟨%f0, %hf0, H0⟩, ⟨%f1, %hf1, H1⟩, ⟨%f1', %hf2, H2⟩, ⟨%d2, %f2, -, H3⟩, ⟨%f3, %hf3, HG⟩, ⟨%f4, %hf4, HU⟩, HT1, HT2, Hk⟩
  subst hf0 hf1 hf2 hf3 hf4
  have hS0 : gateS.IsWhole := Memref.isWhole_whole _
  have hS1 : upS.IsWhole := Memref.isWhole_whole _
  have hT1 : tab1.IsWhole := Memref.isWhole_whole _
  have hT2 : tab2.IsWhole := Memref.isWhole_whole _
  sl_exec (disch := first | (guard_target = Scalar.cmpi = _; exact h1) | (guard_target = ¬(Scalar.cmpi = _); exact h1) | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f1'; isplitr; · ipureintro; rfl
    iexact H2
  isplitl [H3]
  · iexists _; isplitr
    swap; · iexact H3
    ipureintro
    sl_unfold_words
    refine (stored _ _ off2 _ _ _).trans ?_
    rfl
  isplitl [HG]
  · iexists f3; isplitr; · ipureintro; rfl
    iexact HG
  isplitl [HU]
  · iexists f4; isplitr; · ipureintro; rfl
    iexact HU
  isplitl [HT1]; · iexact HT1
  iexact HT2

end Cert.UpIdeal.Hand

end
-- ==== Proof.UpIdealRun.lean ====
module

public import proofs.«01_k».proof.Proof.UpIdealBody

/-! The run of the experts' first product over its whole grid, at any tables the precondition admits.

Between two points the scratch buffers hold the rounded weight blocks of the point before: a tile that does not
open a new expert has the expert of the tile before it. -/

@[expose] public section

set_option maxRecDepth 16384

noncomputable section

namespace Cert.UpIdeal.Hand

open Cert.UpIdeal Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The tables -/

abbrev dev : Dev nD := ⟨0, by decide⟩
/-- The expert of each tile, whether it opens its expert, whether it is used. -/
abbrev expertT : S42.Idx → BitVec 32 := m ((dev.tc : Thread nD τ).loc main_arg0)
abbrev firstT : S42.Idx → BitVec 32 := m ((dev.tc : Thread nD τ).loc main_arg1)
abbrev usedT : S42.Idx → BitVec 32 := m ((dev.tc : Thread nD τ).loc main_arg2)

abbrev at42 (n : ℕ) (h : n < 42) : S42.Idx := fun a => ⟨n, by fin_cases a; exact h⟩

/-- What the precondition says of the tables. -/
structure Named : Prop where
  expert : ∀ j : S42.Idx, (expertT m j).toNat < 8
  used : ∀ j : S42.Idx, usedT m j = 0#32 ∨ usedT m j = 1#32
  first : ∀ (n : ℕ) (h : n + 1 < 42), expertT m (at42 (n + 1) h) = expertT m (at42 n (by omega)) ∨ firstT m (at42 (n + 1) h) = 1#32

def tabs : pre0.Contents (Elt F) := fun
  | ⟨0, _⟩ => expertT m
  | ⟨1, _⟩ => firstT m
  | ⟨2, _⟩ => usedT m
  | ⟨_ + 3, h⟩ => absurd h (by simp)

theorem off_val : ∀ j : Fin 42, (Scalar.indexCast (BitVec.ofNat 32 j.val) : Index).toNat = j.val := by decide
theorem off1_eq (i : grid0.Coords) : k0_off1 i = ![(i 1).val] := congrArg (fun n => ![n]) (off_val (i 1))
theorem off2_eq (i : grid0.Coords) : k0_off2 i = ![(i 1).val] := congrArg (fun n => ![n]) (off_val (i 1))
theorem off3_eq (i : grid0.Coords) : k0_off3 i = ![(i 1).val] := congrArg (fun n => ![n]) (off_val (i 1))

abbrev tileAt (i : grid0.Coords) : S42.Idx := at42 (i 1).val (i 1).isLt

theorem emb_tile (off : Fin 1 → ℕ) (n : ℕ) (hn : n < 42) (h : off = ![n]) (inb : ∀ a, off a + S1.size a ≤ S42.size a) (h1 : 0 < S1.numel) :
    (Rect.unit (s := S42) off S1.size inb).emb (Shape.Idx.first h1) = at42 n hn := by
  subst h
  funext a
  fin_cases a
  rfl

theorem firstWord_eq (T : S42.Idx → Elt F .i32) (i : grid0.Coords) : firstWord T i = T (tileAt i) :=
  congrArg T (emb_tile _ _ _ (off1_eq i) _ _)
theorem usedWord_eq (T : S42.Idx → Elt F .i32) (i : grid0.Coords) : usedWord T i = T (tileAt i) :=
  congrArg T (emb_tile _ _ _ (off2_eq i) _ _)
theorem usedWord'_eq (T : S42.Idx → Elt F .i32) (i : grid0.Coords) : usedWord' T i = T (tileAt i) :=
  congrArg T (emb_tile _ _ _ (off3_eq i) _ _)

theorem coord_val : ∀ j : Fin 7, (BitVec.ofNat 32 j.val).toNat = j.val := by decide

theorem index1_eq (i : grid0.Coords) :
    cc0_transform_1 k0_off1_inb numel1_S1 (tabs m) i = ![(expertT m (tileAt i)).toNat, 0, (i 0).val] := by
  have h1 : (tabs m).at 0 (Rect.unit (s := S42) ![(Scalar.indexCast (BitVec.ofNat 32 (i 1).val) : Index).toNat] S1.size (k0_off1_inb i)) numel1_S1 = expertT m (tileAt i) :=
    congrArg (expertT m) (emb_tile _ _ _ (off1_eq i) _ _)
  exact congrArg₂ (fun (x y : ℕ) => ![x, 0, y]) (congrArg BitVec.toNat h1) (coord_val (i 0))
theorem index2_eq (i : grid0.Coords) :
    cc0_transform_2 k0_off1_inb numel1_S1 (tabs m) i = ![(expertT m (tileAt i)).toNat, 0, (i 0).val] := index1_eq m i

variable {m} in
theorem tabs_ok (hm : Named m) : ok0 (tabs m) := by
  have key : ∀ i : grid0.Coords, ∀ a, ((![(expertT m (tileAt i)).toNat, 0, (i 0).val] : Fin 3 → ℕ) a + 1) * S1x2048x1024.size a ≤ S8x2048x7168.size a := by
    intro i a
    have he := hm.expert (tileAt i)
    have h0 : (i 0).val < 7 := (i 0).isLt
    match a with
    | 0 => show ((expertT m (tileAt i)).toNat + 1) * 1 ≤ 8; omega
    | 1 => show (0 + 1) * 2048 ≤ 2048; omega
    | 2 => show ((i 0).val + 1) * 1024 ≤ 7168; omega
  exact ⟨fun i => ⟨fun a => (index1_eq m i).symm ▸ key i a, .inl rfl⟩, fun i => ⟨fun a => (index2_eq m i).symm ▸ key i a, .inl rfl⟩⟩

variable (hm : Named m)

/-- The tables, admitted, and the pipeline at them. -/
def adm : (pcfg0 (F := F)).Adm := ⟨tabs m, tabs_ok hm⟩
abbrev cfgA : Pipeline.Cfg sig Λ₀ := cfg0 (F := F) (adm m hm)

/-! ## What the buffers hold -/

theorem coord_0 : ∀ t : Fin grid0.N, (grid0.coords t 0).val = t.val / 42 := by decide +kernel
theorem coord_1 : ∀ t : Fin grid0.N, (grid0.coords t 1).val = t.val % 42 := by decide +kernel

abbrev crd (t : Fin (cfgA m hm).N) : grid0.Coords := (cfgA m hm).grid.coords t

abbrev V (c : Dev nD) (b : Ref sig .tc) : Buf (Elt F) ((c.tc : Thread nD τ).loc b) := m ((c.tc : Thread nD τ).loc b)

def iblk (c : Dev nD) (w : Fin (cfgA m hm).W) (t : Fin (cfgA m hm).N) :
    (((cfgA m hm).win w).xblock (crd m hm t)).Idx → Elt F ((cfgA m hm).win w).elt :=
  (((cfgA m hm).win w).blk t).view.read (Elt F) (V m c (Pipeline.arrRef spec0 w))

abbrev rowsAt (c : Dev nD) (t : Fin (cfgA m hm).N) : Vec F S512x2048 .bf16 := iblk m hm c (0 : Fin 4) t
abbrev gateAt (c : Dev nD) (t : Fin (cfgA m hm).N) : Vec F S1x2048x1024 .f32 := iblk m hm c (1 : Fin 4) t
abbrev upAt (c : Dev nD) (t : Fin (cfgA m hm).N) : Vec F S1x2048x1024 .f32 := iblk m hm c (2 : Fin 4) t

/-- The result's buffer after a point. -/
def outAt (c : Dev nD) (t : Fin (cfgA m hm).N) : Vec F S512x1024 .bf16 :=
  if usedT m (tileAt (crd m hm t)) = 1#32 then k0_pay3 (rowsAt m hm c t) (k0_pay1 (gateAt m hm c t)) (k0_pay2 (upAt m hm c t)) else k0_pay4 (F := F)

/-- What the scratch buffers hold between points. -/
def kept (c : Dev nD) (n : ℕ) (g u : Vec F S2048x1024 .bf16) : Prop :=
  ∀ h : n - 1 < (cfgA m hm).N, n ≠ 0 → g = k0_pay1 (gateAt m hm c ⟨n - 1, h⟩) ∧ u = k0_pay2 (upAt m hm c ⟨n - 1, h⟩)

/-- The body's halves of the tables. -/
abbrev tables (c : Dev nD) : sProp (MT nD τ sig Unit (Elt F) ℕ (UR sig nD τ) ℕ) :=
  iprop((((c : Thread nD τ).loc main_arg0) ↦{fullShare.right} expertT m) ∗ (tab1.view.loc (c : Thread nD τ) ↦{fullShare.right} firstT m)
    ∗ (tab2.view.loc (c : Thread nD τ) ↦{fullShare.right} usedT m))

def Phi (c : Dev nD) (n : ℕ) : sProp (MT nD τ sig Unit (Elt F) ℕ (UR sig nD τ) ℕ) :=
  iprop((∃ g u, ⌜kept m hm c n g u⌝ ∗ owns (c : Thread nD τ) gateS fullShare g ∗ owns (c : Thread nD τ) upS fullShare u)
    ∗ tables m c ∗ ∃ r, prngReg c r)

/-- The proof data. -/
def dats (_ : Fin 1) (c : Dev nD) : Dat τ (Elt F) Unit ℕ (UR sig nD τ) ℕ (cfgA m hm) c where
  A w := V m c (Pipeline.arrRef spec0 w)
  after w t := match w with
    | ⟨0, _⟩ => iblk m hm c (0 : Fin 4) t
    | ⟨1, _⟩ => iblk m hm c (1 : Fin 4) t
    | ⟨2, _⟩ => iblk m hm c (2 : Fin 4) t
    | ⟨3, _⟩ => outAt m hm c t
  Φ t := Phi m hm c t.val
  q _ := fullShare
  owed _ := 0

theorem after0_0 (c : Dev nD) (t : Fin (cfgA m hm).N) : (dats m hm 0 c).after (0 : Fin 4) t = iblk m hm c (0 : Fin 4) t := rfl
theorem after0_1 (c : Dev nD) (t : Fin (cfgA m hm).N) : (dats m hm 0 c).after (1 : Fin 4) t = iblk m hm c (1 : Fin 4) t := rfl
theorem after0_2 (c : Dev nD) (t : Fin (cfgA m hm).N) : (dats m hm 0 c).after (2 : Fin 4) t = iblk m hm c (2 : Fin 4) t := rfl
theorem after0_3 (c : Dev nD) (t : Fin (cfgA m hm).N) : (dats m hm 0 c).after (3 : Fin 4) t = outAt m hm c t := rfl

theorem fetched0_0 (c : Dev nD) (t : Fin (cfgA m hm).N) (d) : (dats m hm 0 c).fetched (0 : Fin 4) t d = iblk m hm c (0 : Fin 4) t := by
  unfold Dat.fetched Dat.blockOf iblk; rfl
theorem before0_0 (c : Dev nD) (t : Fin (cfgA m hm).N) (d) : (dats m hm 0 c).before (0 : Fin 4) t d = iblk m hm c (0 : Fin 4) t :=
  ((dats m hm 0 c).before_in_eq_fetched (0 : Fin 4) rfl (fun _ => rfl) (fun _ _ _ => rfl) (fun t => by rw [after0_0]; unfold Dat.blockOf iblk; rfl) t d).trans
    (fetched0_0 m hm c t d)
theorem fetched0_1 (c : Dev nD) (t : Fin (cfgA m hm).N) (d) : (dats m hm 0 c).fetched (1 : Fin 4) t d = iblk m hm c (1 : Fin 4) t := by
  unfold Dat.fetched Dat.blockOf iblk; rfl
theorem before0_1 (c : Dev nD) (t : Fin (cfgA m hm).N) (d) : (dats m hm 0 c).before (1 : Fin 4) t d = iblk m hm c (1 : Fin 4) t :=
  ((dats m hm 0 c).before_in_eq_fetched (1 : Fin 4) rfl (fun _ => rfl) (fun _ _ _ => rfl) (fun t => by rw [after0_1]; unfold Dat.blockOf iblk; rfl) t d).trans
    (fetched0_1 m hm c t d)
theorem fetched0_2 (c : Dev nD) (t : Fin (cfgA m hm).N) (d) : (dats m hm 0 c).fetched (2 : Fin 4) t d = iblk m hm c (2 : Fin 4) t := by
  unfold Dat.fetched Dat.blockOf iblk; rfl
theorem before0_2 (c : Dev nD) (t : Fin (cfgA m hm).N) (d) : (dats m hm 0 c).before (2 : Fin 4) t d = iblk m hm c (2 : Fin 4) t :=
  ((dats m hm 0 c).before_in_eq_fetched (2 : Fin 4) rfl (fun _ => rfl) (fun _ _ _ => rfl) (fun t => by rw [after0_2]; unfold Dat.blockOf iblk; rfl) t d).trans
    (fetched0_2 m hm c t d)

/-- Two points of one expert and one column tile have the same weight blocks. -/
theorem weights_same (c : Dev nD) (t t' : Fin (cfgA m hm).N) (h0 : t.val / 42 = t'.val / 42)
    (he : expertT m (tileAt (crd m hm t)) = expertT m (tileAt (crd m hm t'))) :
    gateAt m hm c t = gateAt m hm c t' ∧ upAt m hm c t = upAt m hm c t' := by
  have hc : (crd m hm t 0).val = (crd m hm t' 0).val := (coord_0 t).trans (h0.trans (coord_0 t').symm)
  have hix : (![(expertT m (tileAt (crd m hm t))).toNat, 0, (crd m hm t 0).val] : Fin 3 → ℕ) = ![(expertT m (tileAt (crd m hm t'))).toNat, 0, (crd m hm t' 0).val] := by
    rw [he, hc]
  have h1 : ((cfgA m hm).win (1 : Fin 4)).index t = ((cfgA m hm).win (1 : Fin 4)).index t' :=
    (index1_eq m (crd m hm t)).trans (hix.trans (index1_eq m (crd m hm t')).symm)
  have h2 : ((cfgA m hm).win (2 : Fin 4)).index t = ((cfgA m hm).win (2 : Fin 4)).index t' :=
    (index2_eq m (crd m hm t)).trans (hix.trans (index2_eq m (crd m hm t')).symm)
  exact ⟨(fetched0_1 m hm c t (fun _ => Scalar.ofBits .f32 0#32)).symm.trans (((dats m hm 0 c).fetched_congr (1 : Fin 4) h1 rfl _).trans (fetched0_1 m hm c t' _)),
    (fetched0_2 m hm c t (fun _ => Scalar.ofBits .f32 0#32)).symm.trans (((dats m hm 0 c).fetched_congr (2 : Fin 4) h2 rfl _).trans (fetched0_2 m hm c t' _))⟩

/-! ## The body at a point -/

theorem opens_iff (i : grid0.Coords) (w : BitVec 32) : opens i w = 1#1 ↔ (i 1).val = 0 ∨ w = 1#32 := by
  have h0 : ∀ j : Fin 42, (Scalar.cmpi .eq (BitVec.ofNat 32 j.val) 0#32 : BitVec 1) = if j.val = 0 then 1#1 else 0#1 := by decide
  have h1 : (Scalar.cmpi .eq w 1#32 : BitVec 1) = if w = 1#32 then 1#1 else 0#1 := by
    by_cases h : w = 1#32
    · subst h; decide
    · rw [if_neg h]
      show BitVec.ofBool (w == 1#32) = 0#1
      rw [beq_false_of_ne h]; rfl
  unfold opens
  rw [h0 (i 1), h1]
  by_cases a : (i 1).val = 0
  · rw [if_pos a]
    by_cases b : w = 1#32
    · rw [if_pos b]; exact iff_of_true (by decide) (.inl a)
    · rw [if_neg b]; exact iff_of_true (by decide) (.inl a)
  · rw [if_neg a]
    by_cases b : w = 1#32
    · rw [if_pos b]; exact iff_of_true (by decide) (.inr b)
    · rw [if_neg b]; exact iff_of_false (by decide) (fun h => h.elim a b)

theorem cond2_one : k0_cond2 1#32 = 1#1 := by decide
theorem cond2_zero : ¬ k0_cond2 0#32 = 1#1 := by decide
theorem cond3_one : ¬ k0_cond3 1#32 = 1#1 := by decide
theorem cond3_zero : k0_cond3 0#32 = 1#1 := by decide

theorem not_idle (t : Fin (cfgA m hm).N) : (cfgA m hm).idle (3 : Fin 4) ((cfgA m hm).grid.coords t) = false := by
  have e2 : (tabs m).atD 2 (k0_off2 (crd m hm t)) = usedT m (tileAt (crd m hm t)) := by
    rw [off2_eq]; unfold Pipeline.Prefetch.Contents.atD
    rw [dif_pos (fun a => by fin_cases a; exact (crd m hm t 1).isLt)]
    refine congrArg (usedT m) (funext fun a => by fin_cases a; rfl)
  have e3 : (tabs m).atD 2 (k0_off3 (crd m hm t)) = usedT m (tileAt (crd m hm t)) := by
    rw [off3_eq]; unfold Pipeline.Prefetch.Contents.atD
    rw [dif_pos (fun a => by fin_cases a; exact (crd m hm t 1).isLt)]
    refine congrArg (usedT m) (funext fun a => by fin_cases a; rfl)
  show (!(k0_cond2 ((tabs m).atD 2 (k0_off2 (crd m hm t))) == 1#1) && !(k0_cond3 ((tabs m).atD 2 (k0_off3 (crd m hm t))) == 1#1)) = false
  rw [e2, e3]
  rcases hm.used (tileAt (crd m hm t)) with h | h <;> rw [h] <;> decide

abbrev st0_0 (t : Fin (cfgA m hm).N) : Memref sig .tc .vmem S512x2048 .bf16 := spec0_0.stage ((cfgA m hm).slots t (0 : Fin 4))
abbrev hs0_0 (t : Fin (cfgA m hm).N) : (st0_0 m hm t).IsWhole := hstage0_0 (((cfgA m hm).slots t (0 : Fin 4)).cast nbuf0_0)
abbrev st0_1 (t : Fin (cfgA m hm).N) : Memref sig .tc .vmem S1x2048x1024 .f32 := spec0_1.stage ((cfgA m hm).slots t (1 : Fin 4))
abbrev hs0_1 (t : Fin (cfgA m hm).N) : (st0_1 m hm t).IsWhole := hstage0_1 (((cfgA m hm).slots t (1 : Fin 4)).cast nbuf0_1)
abbrev st0_2 (t : Fin (cfgA m hm).N) : Memref sig .tc .vmem S1x2048x1024 .f32 := spec0_2.stage ((cfgA m hm).slots t (2 : Fin 4))
abbrev hs0_2 (t : Fin (cfgA m hm).N) : (st0_2 m hm t).IsWhole := hstage0_2 (((cfgA m hm).slots t (2 : Fin 4)).cast nbuf0_2)
abbrev st0_3 (t : Fin (cfgA m hm).N) : Memref sig .tc .vmem S512x1024 .bf16 := spec0_3.stage ((cfgA m hm).slots t (3 : Fin 4))
abbrev hs0_3 (t : Fin (cfgA m hm).N) : (st0_3 m hm t).IsWhole := hstage0_3 (((cfgA m hm).slots t (3 : Fin 4)).cast nbuf0_3)

/-- The body at a point, on its staging buffers. -/
abbrev bodyAt0 (t : Fin (cfgA m hm).N) : Prog (TpuEff nD τ sig (Elt F) Λ₀ .tc) PUnit :=
  cc0_moe_up (crd m hm t) (Memref.whole main_arg0) (Memref.isWhole_whole _) (Memref.whole main_arg1) (Memref.isWhole_whole _) (Memref.whole main_arg2) (Memref.isWhole_whole _) (st0_0 m hm t) (hs0_0 m hm t) (st0_1 m hm t) (hs0_1 m hm t) (st0_2 m hm t) (hs0_2 m hm t) (st0_3 m hm t) (hs0_3 m hm t) (Memref.whole cc0_scratch0) (Memref.isWhole_whole _) (Memref.whole cc0_scratch1) (Memref.isWhole_whole _)

/-- At a tile that does not open an expert, what is kept is this point's. -/
theorem kept_cur (c : Dev nD) (t : Fin (cfgA m hm).N) (g u : Vec F S2048x1024 .bf16)
    (ho : ¬ opens (crd m hm t) (firstWord (F := F) (firstT m) (crd m hm t)) = 1#1) (hk : kept m hm c t.val g u) :
    g = k0_pay1 (gateAt m hm c t) ∧ u = k0_pay2 (upAt m hm c t) := by
  rw [firstWord_eq, opens_iff, not_or, coord_1 t] at ho
  obtain ⟨hz, hf⟩ := ho
  have hlt : t.val < 294 := t.isLt
  have hN : t.val - 1 < (cfgA m hm).N := Nat.lt_of_le_of_lt (Nat.sub_le _ _) t.isLt
  have hs := weights_same m hm c ⟨t.val - 1, hN⟩ t (by show (t.val - 1) / 42 = t.val / 42; omega) (by
    have e1 : tileAt (crd m hm t) = at42 ((t.val - 1) % 42 + 1) (by omega) :=
      funext fun _ => Fin.ext ((coord_1 t).trans (show t.val % 42 = (t.val - 1) % 42 + 1 by omega))
    have e2 : tileAt (crd m hm ⟨t.val - 1, hN⟩) = at42 ((t.val - 1) % 42) (by omega) :=
      funext fun _ => Fin.ext (coord_1 ⟨t.val - 1, hN⟩)
    rw [e1] at hf ⊢
    rw [e2]
    rcases hm.first ((t.val - 1) % 42) (by omega) with h | h
    · exact h.symm
    · exact absurd h hf)
  obtain ⟨h1, h2⟩ := hk hN (by omega)
  rw [hs.1] at h1; rw [hs.2] at h2
  exact ⟨h1, h2⟩

/-- The body at any point: every buffer named afterwards. -/
theorem body_at (c : Dev nD) (t : Fin (cfgA m hm).N) (K : PUnit → sProp (MT nD τ sig Unit (Elt F) ℕ (UR sig nD τ) ℕ)) :
    iprop(Phi m hm c t.val
        ∗ owns (c : Thread nD τ) (st0_0 m hm t) fullShare (rowsAt m hm c t) ∗ owns (c : Thread nD τ) (st0_1 m hm t) fullShare (gateAt m hm c t)
        ∗ owns (c : Thread nD τ) (st0_2 m hm t) fullShare (upAt m hm c t) ∗ (∃ o, owns (c : Thread nD τ) (st0_3 m hm t) fullShare o)
        ∗ (iprop(Phi m hm c (t.val + 1)
          ∗ owns (c : Thread nD τ) (st0_0 m hm t) fullShare (rowsAt m hm c t) ∗ owns (c : Thread nD τ) (st0_1 m hm t) fullShare (gateAt m hm c t)
          ∗ owns (c : Thread nD τ) (st0_2 m hm t) fullShare (upAt m hm c t) ∗ owns (c : Thread nD τ) (st0_3 m hm t) fullShare (outAt m hm c t)) -∗ K ⟨⟩))
      ⊢ wp frame (wpE (defs₀ (F := F)) Variants.none c none) Set.univ (bodyAt0 m hm t) K := by
  have hsucc : kept m hm c (t.val + 1) (k0_pay1 (gateAt m hm c t)) (k0_pay2 (upAt m hm c t)) := fun _ _ => ⟨rfl, rfl⟩
  have hout : outAt m hm c t = if usedT m (tileAt (crd m hm t)) = 1#32 then k0_pay3 (rowsAt m hm c t) (k0_pay1 (gateAt m hm c t)) (k0_pay2 (upAt m hm c t)) else k0_pay4 (F := F) := rfl
  unfold Phi tables
  iintro ⟨⟨⟨%g, %u, %hs, HG, HU⟩, ⟨HT0, HT1, HT2⟩, HR⟩, H0, H1, H2, H3, Hk⟩
  rcases hm.used (tileAt (crd m hm t)) with hu | hu
  · by_cases ho : opens (crd m hm t) (firstWord (F := F) (firstT m) (crd m hm t)) = 1#1
    · rw [hout, if_neg (by rw [hu]; decide)]
      iapply (body_open_idle c Set.univ (crd m hm t) (firstT m) (usedT m) ho (by rw [usedWord_eq, hu]; exact cond2_zero) (by rw [usedWord'_eq, hu]; exact cond3_zero) (st0_0 m hm t) (hs0_0 m hm t) (st0_1 m hm t) (hs0_1 m hm t) (st0_2 m hm t) (hs0_2 m hm t) (st0_3 m hm t) (hs0_3 m hm t) (rowsAt m hm c t) (gateAt m hm c t) (upAt m hm c t) _)
      isplitl [H0]; · iexact H0
      isplitl [H1]; · iexact H1
      isplitl [H2]; · iexact H2
      isplitl [H3]; · iexact H3
      isplitl [HG]; · iexists _; iexact HG
      isplitl [HU]; · iexists _; iexact HU
      isplitl [HT1]; · iexact HT1
      isplitl [HT2]; · iexact HT2
      iintro ⟨H0, H1, H2, H3, HG, HU, HT1, HT2⟩
      iapply Hk
      isplitl [HG HU HT0 HT1 HT2 HR]
      · isplitl [HG HU]
        · iexists _, _; isplitr; · ipureintro; exact hsucc
          isplitl [HG]; · iexact HG
          iexact HU
        isplitl [HT0 HT1 HT2]
        · isplitl [HT0]; · iexact HT0
          isplitl [HT1]; · iexact HT1
          iexact HT2
        iexact HR
      isplitl [H0]; · iexact H0
      isplitl [H1]; · iexact H1
      isplitl [H2]; · iexact H2
      iexact H3
    · obtain ⟨rfl, rfl⟩ := kept_cur m hm c t g u ho hs
      rw [hout, if_neg (by rw [hu]; decide)]
      iapply (body_same_idle c Set.univ (crd m hm t) (firstT m) (usedT m) ho (by rw [usedWord_eq, hu]; exact cond2_zero) (by rw [usedWord'_eq, hu]; exact cond3_zero) (st0_0 m hm t) (hs0_0 m hm t) (st0_1 m hm t) (hs0_1 m hm t) (st0_2 m hm t) (hs0_2 m hm t) (st0_3 m hm t) (hs0_3 m hm t) (rowsAt m hm c t) (gateAt m hm c t) (upAt m hm c t) _ _ _)
      isplitl [H0]; · iexact H0
      isplitl [H1]; · iexact H1
      isplitl [H2]; · iexact H2
      isplitl [H3]; · iexact H3
      isplitl [HG]; · iexact HG
      isplitl [HU]; · iexact HU
      isplitl [HT1]; · iexact HT1
      isplitl [HT2]; · iexact HT2
      iintro ⟨H0, H1, H2, H3, HG, HU, HT1, HT2⟩
      iapply Hk
      isplitl [HG HU HT0 HT1 HT2 HR]
      · isplitl [HG HU]
        · iexists _, _; isplitr; · ipureintro; exact hsucc
          isplitl [HG]; · iexact HG
          iexact HU
        isplitl [HT0 HT1 HT2]
        · isplitl [HT0]; · iexact HT0
          isplitl [HT1]; · iexact HT1
          iexact HT2
        iexact HR
      isplitl [H0]; · iexact H0
      isplitl [H1]; · iexact H1
      isplitl [H2]; · iexact H2
      iexact H3
  · by_cases ho : opens (crd m hm t) (firstWord (F := F) (firstT m) (crd m hm t)) = 1#1
    · rw [hout, if_pos hu]
      iapply (body_open_used c Set.univ (crd m hm t) (firstT m) (usedT m) ho (by rw [usedWord_eq, hu]; exact cond2_one) (by rw [usedWord'_eq, hu]; exact cond3_one) (st0_0 m hm t) (hs0_0 m hm t) (st0_1 m hm t) (hs0_1 m hm t) (st0_2 m hm t) (hs0_2 m hm t) (st0_3 m hm t) (hs0_3 m hm t) (rowsAt m hm c t) (gateAt m hm c t) (upAt m hm c t) _)
      isplitl [H0]; · iexact H0
      isplitl [H1]; · iexact H1
      isplitl [H2]; · iexact H2
      isplitl [H3]; · iexact H3
      isplitl [HG]; · iexists _; iexact HG
      isplitl [HU]; · iexists _; iexact HU
      isplitl [HT1]; · iexact HT1
      isplitl [HT2]; · iexact HT2
      iintro ⟨H0, H1, H2, H3, HG, HU, HT1, HT2⟩
      iapply Hk
      isplitl [HG HU HT0 HT1 HT2 HR]
      · isplitl [HG HU]
        · iexists _, _; isplitr; · ipureintro; exact hsucc
          isplitl [HG]; · iexact HG
          iexact HU
        isplitl [HT0 HT1 HT2]
        · isplitl [HT0]; · iexact HT0
          isplitl [HT1]; · iexact HT1
          iexact HT2
        iexact HR
      isplitl [H0]; · iexact H0
      isplitl [H1]; · iexact H1
      isplitl [H2]; · iexact H2
      iexact H3
    · obtain ⟨rfl, rfl⟩ := kept_cur m hm c t g u ho hs
      rw [hout, if_pos hu]
      iapply (body_same_used c Set.univ (crd m hm t) (firstT m) (usedT m) ho (by rw [usedWord_eq, hu]; exact cond2_one) (by rw [usedWord'_eq, hu]; exact cond3_one) (st0_0 m hm t) (hs0_0 m hm t) (st0_1 m hm t) (hs0_1 m hm t) (st0_2 m hm t) (hs0_2 m hm t) (st0_3 m hm t) (hs0_3 m hm t) (rowsAt m hm c t) (gateAt m hm c t) (upAt m hm c t) _ _ _)
      isplitl [H0]; · iexact H0
      isplitl [H1]; · iexact H1
      isplitl [H2]; · iexact H2
      isplitl [H3]; · iexact H3
      isplitl [HG]; · iexact HG
      isplitl [HU]; · iexact HU
      isplitl [HT1]; · iexact HT1
      isplitl [HT2]; · iexact HT2
      iintro ⟨H0, H1, H2, H3, HG, HU, HT1, HT2⟩
      iapply Hk
      isplitl [HG HU HT0 HT1 HT2 HR]
      · isplitl [HG HU]
        · iexists _, _; isplitr; · ipureintro; exact hsucc
          isplitl [HG]; · iexact HG
          iexact HU
        isplitl [HT0 HT1 HT2]
        · isplitl [HT0]; · iexact HT0
          isplitl [HT1]; · iexact HT1
          iexact HT2
        iexact HR
      isplitl [H0]; · iexact H0
      isplitl [H1]; · iexact H1
      isplitl [H2]; · iexact H2
      iexact H3

theorem Phi_eq (c : Dev nD) (t : Fin ((cfgA m hm).N + 1)) : (dats m hm 0 c).Φ t = Phi m hm c t.val := rfl

set_option maxHeartbeats 1000000 in
theorem body_obligation (c : Dev nD) : BodyObligation (dats m hm 0 c) (defs₀ (F := F)) Variants.none () Set.univ := fun t => by
  rw [bigSep_W0, bigSep_W0]
  rewrite [not_idle m hm t]
  simp only [before0_0, before0_1, before0_2, after0_0, after0_1, after0_2, after0_3]
  rewrite [Phi_eq m hm c t.succ, Phi_eq m hm c t.castSucc, Fin.val_succ, Fin.val_castSucc,
    show (dats m hm 0 c).owesAt () t.succ = (dats m hm 0 c).owesAt () t.castSucc from rfl]
  iintro ⟨HΦ, Ho, ⟨%d0, H0⟩, ⟨%d1, H1⟩, ⟨%d2, H2⟩, ⟨%d3, H3⟩⟩
  iapply (body_at m hm c t _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · iexact H0
  isplitl [H1]; · iexact H1
  isplitl [H2]; · iexact H2
  iexact H3

theorem prefHeld_eq (c : Dev nD) (v : pre0.Contents (Elt F)) :
    (Pipeline.prefHeld (Ix := Unit) (Name := ℕ) (U := UR sig nD τ) (Lvl := ℕ) pre0 c (fun _ => fullShare.right) v : sProp (MT nD τ sig Unit (Elt F) ℕ (UR sig nD τ) ℕ))
      = iprop((((c : Thread nD τ).loc main_arg0) ↦{fullShare.right} v 0) ∗ (((c : Thread nD τ).loc main_arg1) ↦{fullShare.right} v 1) ∗ (((c : Thread nD τ).loc main_arg2) ↦{fullShare.right} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem enter (c : Dev nD) : iprop(Pipeline.ΦA spec0 c ∗ Pipeline.ΦT pre0 (tabs m) c) ⊢ (dats m hm 0 c).Φ 0 := by
  rw [show (dats m hm 0 c).Φ 0 = Phi m hm c 0 from rfl]
  unfold Pipeline.ΦA Pipeline.ΦT Phi tables
  rw [prefHeld_eq, scopedRest0_eq]
  iintro ⟨⟨⟨⟨%f, HG⟩, ⟨%f', HU⟩⟩, HR⟩, ⟨HT0, HT1, HT2⟩⟩
  isplitl [HG HU]
  · iexists f, f'; isplitr
    · ipureintro; intro h h0; exact absurd rfl h0
    isplitl [HG]
    · rw [owns_whole]; iexact HG
    rw [owns_whole]; iexact HU
  isplitl [HT0 HT1 HT2]
  · isplitl [HT0]; · iexact HT0
    isplitl [HT1]; · iexact HT1
    iexact HT2
  iexact HR

theorem leave (c : Dev nD) : (dats m hm 0 c).Φ (Fin.last (cfgA m hm).N) ⊢ Pipeline.ΦA spec0 c := by
  rw [show (dats m hm 0 c).Φ (Fin.last (cfgA m hm).N) = Phi m hm c (cfgA m hm).N from rfl]
  unfold Pipeline.ΦA Phi
  rw [scopedRest0_eq]
  iintro ⟨⟨%g, %u, -, HG, HU⟩, -, HR⟩
  isplitl [HG HU]
  · isplitl [HG]
    · iexists g; rw [← owns_whole]; iexact HG
    iexists u; rw [← owns_whole]; iexact HU
  iexact HR

theorem dev_eq (c : Dev nD) : c = dev := Fin.ext (by have := c.isLt; have h : nD = 1 := rfl; show c.val = 0; omega)

theorem tables_read (c : Dev nD) (k : Fin 3) : V m c (pre0.ref k) = tabs m k := by
  obtain rfl := dev_eq c
  fin_cases k <;> rfl

set_option backward.isDefEq.respectTransparency.types false in
set_option maxHeartbeats 4000000 in
/-- The run: at its end the arrays are what the data say. -/
theorem run_named : θ_run defs (onTc (τ := τ) (main (F := F))) (s₀ m ρ)
    (fun r => (Pipeline.FramePost (Pipeline.pin (pcfgs (F := F)) fun _ => adm m hm) (dats m hm) 0 (V m)) r ∧ r.2.sem = fun _ => 0) :=
  Pipeline.θ_run_frameP_track (Q' := _) (pcfgs (F := F)) (fun _ => adm m hm) (dats m hm) (0 : Fin 1) launch0 defs₀ Variants.none m ρ main
    (hbody := fun c => (body_obligation m hm c).loose) (hshare := fun c => (dats m hm 0 c).share_full fun _ => rfl)
    (howed := fun _ _ => rfl) (V := V m)
    (hmain := Pipeline.hmainP_region (pcfgs (F := F)) (0 : Fin 1) defs₀ Variants.none m main fun c => rfl)
    (hA := fun _ _ => rfl) (hpf := tables_read m) (hin := enter m hm) (hout := leave m hm)

end Cert.UpIdeal.Hand

end
-- ==== Proof.UpIdealResult.lean ====
module

public import proofs.«01_k».proof.Proof.UpIdealRun

/-! What the run of the experts' first product leaves: its result, and its arguments unchanged. -/

@[expose] public section

set_option maxRecDepth 16384

noncomputable section

namespace Cert.UpIdeal.Hand

open Cert.UpIdeal Cert.UpIdeal.Gen Idealize.ShloMosaic Idealize.ShloMosaic.TcCoe Idealize.SL.Sem

variable {F : FTy → Type} [FloatOps F]

variable (m : (ℓ : Loc nD τ sig) → Buf (Elt F) ℓ) (ρ : Dev nD → PrngReg) (hm : Named m)

theorem rest_0 : main_arg0 ∈ Pipeline.restRefs sig spec0 := Pipeline.mem_restRefs_of main_arg0 rfl (by decide)
theorem rest_1 : main_arg1 ∈ Pipeline.restRefs sig spec0 := Pipeline.mem_restRefs_of main_arg1 rfl (by decide)
theorem rest_2 : main_arg2 ∈ Pipeline.restRefs sig spec0 := Pipeline.mem_restRefs_of main_arg2 rfl (by decide)

theorem run_both : θ_run defs (onTc (τ := τ) (main (F := F))) ⟨m, fun _ => 0, ρ⟩ (fun r => (∀ c : Dev nD,
      r.2.mem ((c.tc : Thread nD τ).loc main_v0) = (dats m hm 0 c).arrAt (3 : Fin 4) (cfgA m hm).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hr => ⟨fun c => by
    have h := hr.1
    exact ⟨(h c).1 (3 : Fin 4), (h c).2 main_arg0 rest_0, (h c).2 main_arg1 rest_1, (h c).2 main_arg2 rest_2,
      ((h c).1 (0 : Fin 4)).trans ((dats m hm 0 c).arrAt_in (0 : Fin 4) rfl _),
      ((h c).1 (1 : Fin 4)).trans ((dats m hm 0 c).arrAt_in (1 : Fin 4) rfl _),
      ((h c).1 (2 : Fin 4)).trans ((dats m hm 0 c).arrAt_in (2 : Fin 4) rfl _)⟩, hr.2⟩) (run_named m ρ hm)

include hm in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hr => ⟨fun c => (hr.1 c).2, hr.2⟩) (run_both m ρ hm)

end Cert.UpIdeal.Hand

end
-- ==== Proof.UpTile.lean ====
module

public import proofs.«01_k».proof.Proof.UpIdealResult
public import proofs.«01_k».proof.Proof.FfnTile
public import Idealize.ShloMosaic.Lib.ValueIdx
public import Idealize.ShloMosaic.Lib.Pipeline.ValueKit

@[expose] public section

set_option maxRecDepth 16384

/-! The experts' first product over the reals: every block, and the whole result. -/

noncomputable section

namespace Cert.UpIdeal.Hand

open Cert.UpIdeal Cert.UpIdeal.Gen Idealize.ShloMosaic Idealize.ShloMosaic.TcCoe Idealize.SL.Sem
open Cert.Layer.Hand

section
variable (X : FVec Ideal S512x2048 .bf16) (G : FVec Ideal S1x2048x1024 .f32) (P Q : FVec Ideal S2048x1024 .bf16)
variable (n : Fin 512) (f : Fin 1024) (k : Fin 2048)

theorem gate_apply : k0_pay1 (F := Ideal) G (ix2 k f) = G (ix3 0 k f) := by
  pointwise [k0_pay1]

theorem up_apply : k0_pay2 (F := Ideal) G (ix2 k f) = G (ix3 0 k f) := by
  pointwise [k0_pay2]

theorem unit_apply : k0_pay3 (F := Ideal) X P Q (ix2 n f) = unit (fun j => X (ix2 n j)) (fun j => P (ix2 j f)) (fun j => Q (ix2 j f)) := by
  pointwise [k0_pay3]
  rfl

theorem idle_apply : k0_pay4 (F := Ideal) (ix2 n f) = (0 : EReal) := by
  pointwise [k0_pay4]
end

variable (m : (ℓ : Loc nD τ sig) → Buf (Elt Ideal) ℓ) (hm : Named m) (c : Dev nD)

/-! The arguments, as launched. -/

abbrev inX : FVec Ideal S21504x2048 .bf16 := m ((c : Thread nD τ).loc main_arg3)
abbrev inP : FVec Ideal S8x2048x7168 .f32 := m ((c : Thread nD τ).loc main_arg4)
abbrev inQ : FVec Ideal S8x2048x7168 .f32 := m ((c : Thread nD τ).loc main_arg5)

/-! ## Where the blocks lie -/

theorem at_0 : ∀ t : Fin grid0.N, cc0_transform_0 (grid0.coords t) = ![t.val % 42, 0] := by decide +kernel
theorem at_3 : ∀ t : Fin grid0.N, cc0_transform_3 (grid0.coords t) = ![t.val % 42, t.val / 42] := by decide +kernel

theorem index_0 (t : Fin (cfgA m hm).N) : ((cfgA m hm).win (0 : Fin 4)).index t = ![t.val % 42, 0] := at_0 t
theorem index_3 (t : Fin (cfgA m hm).N) : ((cfgA m hm).win (3 : Fin 4)).index t = ![t.val % 42, t.val / 42] := at_3 t

/-- The point's tile, its expert, and its column tile. -/
theorem tile_eq (t : Fin (cfgA m hm).N) : tileAt (crd m hm t) = at42 (t.val % 42) (Nat.mod_lt _ (by decide)) :=
  funext fun a => Fin.ext (coord_1 t)

def expertOf (j : S42.Idx) : Fin 8 := ⟨(expertT m j).toNat, hm.expert j⟩

theorem index_1 (t : Fin (cfgA m hm).N) : ((cfgA m hm).win (1 : Fin 4)).index t = ![(expertOf m hm (tileAt (crd m hm t))).val, 0, t.val / 42] :=
  (index1_eq m (crd m hm t)).trans (congrArg (fun n => ![(expertT m (tileAt (crd m hm t))).toNat, 0, n]) (coord_0 t))
theorem index_2 (t : Fin (cfgA m hm).N) : ((cfgA m hm).win (2 : Fin 4)).index t = ![(expertOf m hm (tileAt (crd m hm t))).val, 0, t.val / 42] :=
  index_1 m hm t

/-- Row `n` of the point's row tile; column `f` of its column tile. -/
abbrev place (t : Fin (cfgA m hm).N) (n : Fin 512) : Fin 21504 := ⟨t.val % 42 * 512 + n.val, by omega⟩
abbrev column (t : Fin (cfgA m hm).N) (f : Fin 1024) : Fin 7168 := ⟨t.val / 42 * 1024 + f.val, by have : t.val < 294 := t.isLt; omega⟩

theorem block_x (t : Fin (cfgA m hm).N) (n : Fin 512) (k : Fin 2048) : rowsAt m hm c t (ix2 n k) = inX m c (ix2 (place m hm t n) k) := by
  have e := index_0 m hm t
  show inX m c ((((cfgA m hm).win (0 : Fin 4)).blk t).view.emb (ix2 n k)) = _
  refine congrArg (inX m c) (funext fun a => Fin.ext ?_)
  match a with
  | 0 =>
    show ((cfgA m hm).win (0 : Fin 4)).index t 0 * 512 + 1 * n.val = t.val % 42 * 512 + n.val
    rw [e]; show t.val % 42 * 512 + 1 * n.val = _; omega
  | 1 =>
    show ((cfgA m hm).win (0 : Fin 4)).index t 1 * 2048 + 1 * k.val = k.val
    rw [e]; show 0 * 2048 + 1 * k.val = _; omega

theorem block_p (t : Fin (cfgA m hm).N) (z : Fin 1) (k : Fin 2048) (f : Fin 1024) :
    gateAt m hm c t (ix3 z k f) = inP m c (ix3 (expertOf m hm (tileAt (crd m hm t))) k (column m hm t f)) := by
  have e := index_1 m hm t
  show inP m c ((((cfgA m hm).win (1 : Fin 4)).blk t).view.emb (ix3 z k f)) = _
  refine congrArg (inP m c) (funext fun a => Fin.ext ?_)
  match a with
  | 0 =>
    show ((cfgA m hm).win (1 : Fin 4)).index t 0 * 1 + 1 * z.val = (expertOf m hm (tileAt (crd m hm t))).val
    rw [e]; show (expertOf m hm (tileAt (crd m hm t))).val * 1 + 1 * z.val = _; omega
  | 1 =>
    show ((cfgA m hm).win (1 : Fin 4)).index t 1 * 2048 + 1 * k.val = k.val
    rw [e]; show 0 * 2048 + 1 * k.val = _; omega
  | 2 =>
    show ((cfgA m hm).win (1 : Fin 4)).index t 2 * 1024 + 1 * f.val = t.val / 42 * 1024 + f.val
    rw [e]; show t.val / 42 * 1024 + 1 * f.val = _; omega

theorem block_q (t : Fin (cfgA m hm).N) (z : Fin 1) (k : Fin 2048) (f : Fin 1024) :
    upAt m hm c t (ix3 z k f) = inQ m c (ix3 (expertOf m hm (tileAt (crd m hm t))) k (column m hm t f)) := by
  have e := index_2 m hm t
  show inQ m c ((((cfgA m hm).win (2 : Fin 4)).blk t).view.emb (ix3 z k f)) = _
  refine congrArg (inQ m c) (funext fun a => Fin.ext ?_)
  match a with
  | 0 =>
    show ((cfgA m hm).win (2 : Fin 4)).index t 0 * 1 + 1 * z.val = (expertOf m hm (tileAt (crd m hm t))).val
    rw [e]; show (expertOf m hm (tileAt (crd m hm t))).val * 1 + 1 * z.val = _; omega
  | 1 =>
    show ((cfgA m hm).win (2 : Fin 4)).index t 1 * 2048 + 1 * k.val = k.val
    rw [e]; show 0 * 2048 + 1 * k.val = _; omega
  | 2 =>
    show ((cfgA m hm).win (2 : Fin 4)).index t 2 * 1024 + 1 * f.val = t.val / 42 * 1024 + f.val
    rw [e]; show t.val / 42 * 1024 + 1 * f.val = _; omega

/-- The tile a row lies in. -/
abbrev tileOf (n : Fin 21504) : S42.Idx := at42 (n.val / 512) (by omega)

/-- The result at row `n`, column `k`. -/
def value (n : Fin 21504) (k : Fin 7168) : EReal :=
  if usedT m (tileOf n) = 1#32 then
    unit (fun j => inX m c (ix2 n j)) (fun j => inP m c (ix3 (expertOf m hm (tileOf n)) j k)) (fun j => inQ m c (ix3 (expertOf m hm (tileOf n)) j k))
  else 0

theorem block_out (t : Fin (cfgA m hm).N) (n : Fin 512) (f : Fin 1024) : outAt m hm c t (ix2 n f) = value m hm c (place m hm t n) (column m hm t f) := by
  have ht : tileOf (place m hm t n) = tileAt (crd m hm t) := by
    rw [tile_eq]
    exact funext fun a => Fin.ext (by show (t.val % 42 * 512 + n.val) / 512 = t.val % 42; omega)
  unfold outAt value
  rw [ht]
  by_cases h : usedT m (tileAt (crd m hm t)) = 1#32
  · rw [if_pos h, if_pos h, unit_apply]
    simp only [gate_apply, up_apply, block_x, block_p, block_q]
  · rw [if_neg h, if_neg h, idle_apply]

theorem covers : ((cfgA m hm).win (3 : Fin 4)).Covers := by
  refine ⟨fun a => by match a with | 0 => exact (by decide : 0 < 512) | 1 => exact (by decide : 0 < 1024), fun β => ?_⟩
  have b0 : (β 0).val < 42 := Nat.lt_of_lt_of_eq (β 0).isLt (by unfold Pipeline.Window.nblk; show (21504 + 512 - 1) / 512 = 42; decide)
  have b1 : (β 1).val < 7 := Nat.lt_of_lt_of_eq (β 1).isLt (by unfold Pipeline.Window.nblk; show (7168 + 1024 - 1) / 1024 = 7; decide)
  have hN : (cfgA m hm).grid.N = 294 := by show grid0.N = 294; decide
  let t : Fin (cfgA m hm).N := ⟨(β 1).val * 42 + (β 0).val, by show _ < (cfgA m hm).grid.N; rw [hN]; omega⟩
  refine ⟨t, ?_, fun a => ⟨?_, Or.inl ?_⟩⟩
  · unfold Pipeline.Window.flush
    rw [Bool.and_eq_true]
    refine ⟨rfl, ?_⟩
    rw [Bool.or_eq_true]
    by_cases h : t.val + 1 = (cfgA m hm).grid.N
    · exact Or.inl (decide_eq_true h)
    · refine Or.inr (decide_eq_true ⟨by have : t.val < (cfgA m hm).grid.N := t.isLt; omega, fun e => ?_⟩)
      have e1 := (index_3 m hm _).symm.trans (e.trans (index_3 m hm t))
      have e2 : (t.val + 1) % 42 = t.val % 42 := congrFun e1 0
      omega
  · rw [index_3]
    match a with
    | 0 => show ((β 1).val * 42 + (β 0).val) % 42 = (β 0).val; omega
    | 1 => show ((β 1).val * 42 + (β 0).val) / 42 = (β 1).val; omega
  · rfl

theorem final : (dats m hm 0 c).arrAt (3 : Fin 4) (cfgA m hm).N = fun i : S21504x7168.Idx => value m hm c (i 0) (i 1) := by
  refine (dats m hm 0 c).arrAt_eq_of_covers (3 : Fin 4) _ (covers m hm) fun t hf y => ?_
  have e := index_3 m hm t
  have hy : (y : S512x1024.Idx) = ix2 (y 0) (y 1) := (ix2_eta (y : S512x1024.Idx)).symm
  have h : outAt m hm c t (y : S512x1024.Idx) = value m hm c (place m hm t (y 0)) (column m hm t (y 1)) :=
    (congrArg (outAt m hm c t) hy).trans (block_out m hm c t (y 0) (y 1))
  refine Eq.trans (show _ = outAt m hm c t (y : S512x1024.Idx) from rfl) (h.trans ?_)
  refine congrArg₂ (value m hm c) (Fin.ext ?_) (Fin.ext ?_)
  · show t.val % 42 * 512 + (y 0).val = ((cfgA m hm).win (3 : Fin 4)).index t 0 * 512 + 1 * (y 0).val
    rw [e]; show _ = t.val % 42 * 512 + 1 * (y 0).val; omega
  · show t.val / 42 * 1024 + (y 1).val = ((cfgA m hm).win (3 : Fin 4)).index t 1 * 1024 + 1 * (y 1).val
    rw [e]; show _ = t.val / 42 * 1024 + 1 * (y 1).val; omega

end Cert.UpIdeal.Hand
end
-- ==== Proof.UpRefRead.lean ====
module

public import proofs.«01_k».proof.Proof.FfnTile
public import proofs.«01_k».proof.Proof.Gen.UpRefIdeal.Read
public import Idealize.ShloMosaic.Lib.ValueIdx
public import Idealize.ShloMosaic.Lib.Pipeline.ValueKit

@[expose] public section

set_option maxRecDepth 16384

/-! The reference of the experts' first product, as a formula. -/

noncomputable section

namespace Cert.UpRefIdeal.Hand

open Cert.UpRefIdeal Cert.UpRefIdeal.Gen Cert.UpRefIdeal.Read Idealize.ShloMosaic
open Cert.Layer.Hand

/-- The experts' weights read at a tile: those of the expert the tile names. -/
theorem gather_apply (W : FVec Ideal S8x2048x7168 .f32) (s : IVec S42x1 32) (j : Fin 42) (k : Fin 2048) (f : Fin 7168) :
    Host.gather gather_S8x2048x7168_S42x1_S42x2048x7168_12_0_n_n_0_1_120487168 W s (ix3 j k f)
      = W (ix3 ⟨min (s (ix2 j 0)).toInt.toNat 7, by omega⟩ k f) := by
  unfold Host.gather
  congr 1
  funext a
  refine Fin.ext ?_
  show (gather_S8x2048x7168_S42x1_S42x2048x7168_12_0_n_n_0_1_120487168).start (ix3 j k f) s a
    + (gather_S8x2048x7168_S42x1_S42x2048x7168_12_0_n_n_0_1_120487168).batchCoord (ix3 j k f) a
    + (gather_S8x2048x7168_S42x1_S42x2048x7168_12_0_n_n_0_1_120487168).offCoord (ix3 j k f) a = _
  rw [GatherDims.batchCoord_eq_zero _ _ _ (fun h => by simp [gather_S8x2048x7168_S42x1_S42x2048x7168_12_0_n_n_0_1_120487168] at h)]
  match a with
  | 0 =>
    rw [GatherDims.offCoord_eq_zero _ _ _ (fun h => ((GatherDims.mem_sKept _ _).mp h).1 (List.mem_singleton.mpr rfl))]
    unfold GatherDims.start
    rw [dif_pos (show (0 : Fin 3) ∈ (gather_S8x2048x7168_S42x1_S42x2048x7168_12_0_n_n_0_1_120487168).startIndexMap from List.mem_singleton.mpr rfl)]
    have hsi : (gather_S8x2048x7168_S42x1_S42x2048x7168_12_0_n_n_0_1_120487168).siIdx (ix3 j k f)
        ⟨List.idxOf (0 : Fin 3) (gather_S8x2048x7168_S42x1_S42x2048x7168_12_0_n_n_0_1_120487168).startIndexMap,
          List.idxOf_lt_length_iff.2 (List.mem_singleton.mpr rfl)⟩ = ix2 j 0 := by
      funext b; refine Fin.ext ?_
      match b with
      | 0 => rfl
      | 1 => rfl
    rw [hsi]
    rfl
  | 1 =>
    unfold GatherDims.start
    rw [dif_neg (show ¬ (1 : Fin 3) ∈ (gather_S8x2048x7168_S42x1_S42x2048x7168_12_0_n_n_0_1_120487168).startIndexMap by decide)]
    unfold GatherDims.offCoord
    rw [dif_pos (show (1 : Fin 3) ∈ (gather_S8x2048x7168_S42x1_S42x2048x7168_12_0_n_n_0_1_120487168).sKept by decide)]
    show 0 + 0 + k.val = k.val
    omega
  | 2 =>
    unfold GatherDims.start
    rw [dif_neg (show ¬ (2 : Fin 3) ∈ (gather_S8x2048x7168_S42x1_S42x2048x7168_12_0_n_n_0_1_120487168).startIndexMap by decide)]
    unfold GatherDims.offCoord
    rw [dif_pos (show (2 : Fin 3) ∈ (gather_S8x2048x7168_S42x1_S42x2048x7168_12_0_n_n_0_1_120487168).sKept by decide)]
    show 0 + 0 + f.val = f.val
    omega

variable (e u : IVec S42 32) (X : FVec Ideal S21504x2048 .bf16) (P Q : FVec Ideal S8x2048x7168 .f32)

/-- A word that names an expert is not wrapped. -/
theorem kept_word (w : BitVec 32) (h : w.toNat < 8) :
    Scalar.select (IntOp.cmpi .slt w 0#32) (IntOp.addi w 8#32) w = w := by
  have : BitVec.slt w 0#32 = false := by
    rw [BitVec.slt_eq_decide]
    refine decide_eq_false ?_
    rw [BitVec.toInt_eq_toNat_of_lt (by omega), show (0#32 : BitVec 32).toInt = 0 by decide]
    omega
  show Scalar.select (BitVec.ofBool (BitVec.slt w 0#32)) _ _ = _
  rw [this]
  rfl

section
variable (he : ∀ j : S42.Idx, (e j).toNat < 8)
include he

theorem start_gate (j : Fin 42) (z : Fin 1) : val_main_v7 (F := Ideal) e (ix2 j z) = e (ix1 j) := by
  rw [val_main_v7_apply]
  have h : (idx_main_v7 (ix2 j z) : S42.Idx) = ix1 j := funext fun a => Fin.ext (by match a with | 0 => rfl)
  rw [h]
  exact kept_word _ (he _)

theorem start_up (j : Fin 42) (z : Fin 1) : val_main_v15 (F := Ideal) e (ix2 j z) = e (ix1 j) := by
  rw [val_main_v15_apply]
  have h : (idx_main_v15 (ix2 j z) : S42.Idx) = ix1 j := funext fun a => Fin.ext (by match a with | 0 => rfl)
  rw [h]
  exact kept_word _ (he _)

theorem clamp (j : S42.Idx) : min (e j).toInt.toNat 7 = (e j).toNat := by
  have := he j
  rw [BitVec.toInt_eq_toNat_of_lt (by omega)]
  show min (e j).toNat 7 = _
  omega

theorem weights_gate (j : Fin 42) (k : Fin 2048) (f : Fin 7168) : val_main_v8 (F := Ideal) e P (ix3 j k f) = P (ix3 ⟨(e (ix1 j)).toNat, he _⟩ k f) := by
  unfold val_main_v8
  refine (gather_apply _ _ j k f).trans (congrArg (fun x => P (ix3 x k f)) (Fin.ext ?_))
  show min (val_main_v7 (F := Ideal) e (ix2 j 0)).toInt.toNat 7 = _
  rw [start_gate e he]
  exact clamp e he _

theorem weights_up (j : Fin 42) (k : Fin 2048) (f : Fin 7168) : val_main_v16 (F := Ideal) e Q (ix3 j k f) = Q (ix3 ⟨(e (ix1 j)).toNat, he _⟩ k f) := by
  unfold val_main_v16
  refine (gather_apply _ _ j k f).trans (congrArg (fun x => Q (ix3 x k f)) (Fin.ext ?_))
  show min (val_main_v15 (F := Ideal) e (ix2 j 0)).toInt.toNat 7 = _
  rw [start_up e he]
  exact clamp e he _

/-- Row `n` of tile `j`. -/
abbrev row (j : Fin 42) (n : Fin 512) : Fin 21504 := ⟨j.val * 512 + n.val, by omega⟩

omit he in
theorem rows_apply (j : Fin 42) (n : Fin 512) (k : Fin 2048) : val_main_v1 (F := Ideal) X (ix3 j n k) = X (ix2 (row j n) k) := by
  rw [val_main_v1_apply, val_main_v0_apply]
  refine (show _ = X (idx_main_v1 (ix3 j n k)) from rfl).trans (congrArg X (funext fun a => Fin.ext ?_))
  match a with
  | 0 => show ((j.val * 512 + n.val) * 2048 + k.val) / 2048 = j.val * 512 + n.val; omega
  | 1 => show ((j.val * 512 + n.val) * 2048 + k.val) % 2048 = k.val; omega

theorem gate_apply (j : Fin 42) (n : Fin 512) (f : Fin 7168) : val_main_v9 (F := Ideal) e X P (ix3 j n f)
    = ∑ k : Fin 2048, X (ix2 (row j n) k) * P (ix3 ⟨(e (ix1 j)).toNat, he _⟩ k f) := by
  rw [val_main_v9_apply]
  refine Finset.sum_congr rfl fun k _ => ?_
  have hl : (lidx_main_v9 (ix3 j n f) k : S42x512x2048.Idx) = ix3 j n k := funext fun a => Fin.ext (by match a with | 0 => rfl | 1 => rfl | 2 => rfl)
  have hr : (ridx_main_v9 (ix3 j n f) k : S42x2048x7168.Idx) = ix3 j k f := funext fun a => Fin.ext (by match a with | 0 => rfl | 1 => rfl | 2 => rfl)
  rw [hl, hr, rows_apply, weights_gate e P he]

theorem up_apply (j : Fin 42) (n : Fin 512) (f : Fin 7168) : val_main_v17 (F := Ideal) e X Q (ix3 j n f)
    = ∑ k : Fin 2048, X (ix2 (row j n) k) * Q (ix3 ⟨(e (ix1 j)).toNat, he _⟩ k f) := by
  rw [val_main_v17_apply]
  refine Finset.sum_congr rfl fun k _ => ?_
  have hl : (lidx_main_v17 (ix3 j n f) k : S42x512x2048.Idx) = ix3 j n k := funext fun a => Fin.ext (by match a with | 0 => rfl | 1 => rfl | 2 => rfl)
  have hr : (ridx_main_v17 (ix3 j n f) k : S42x2048x7168.Idx) = ix3 j k f := funext fun a => Fin.ext (by match a with | 0 => rfl | 1 => rfl | 2 => rfl)
  rw [hl, hr, rows_apply, weights_up e Q he]

theorem unit_apply (j : Fin 42) (n : Fin 512) (f : Fin 7168) : val_main_v22 (F := Ideal) e X P Q (ix3 j n f)
    = unit (fun k => X (ix2 (row j n) k)) (fun k => P (ix3 ⟨(e (ix1 j)).toNat, he _⟩ k f)) (fun k => Q (ix3 ⟨(e (ix1 j)).toNat, he _⟩ k f)) := by
  have h : (val_main_v9 (F := Ideal) e X P (ix3 j n f) : EReal) = _ := gate_apply e X P he j n f
  have h' : (val_main_v17 (F := Ideal) e X Q (ix3 j n f) : EReal) = _ := up_apply e X Q he j n f
  unfold val_main_v22 val_main_v21 val_main_call0_v5 val_main_call0_v3 val_main_call0_v1 val_main_call0_v0
  generalize val_main_v9 (F := Ideal) e X P = M at h
  generalize val_main_v17 (F := Ideal) e X Q = N at h'
  pointwise [val_main_call0_v4, val_main_call0_v2, val_main_call0_cst, val_main_call0_cst_0]
  rw [h, h']
  rfl

theorem tile_apply (j : Fin 42) (n : Fin 512) (f : Fin 7168) : val_main_v23 (F := Ideal) e u X P Q (ix3 j n f)
    = if u (ix1 j) = 1#32 then
        unit (fun k => X (ix2 (row j n) k)) (fun k => P (ix3 ⟨(e (ix1 j)).toNat, he _⟩ k f)) (fun k => Q (ix3 ⟨(e (ix1 j)).toNat, he _⟩ k f))
      else 0 := by
  rw [val_main_v23_apply, unit_apply e X P Q he]
  have hw : val_main_call1_v1 (F := Ideal) u (ix3 j n f) = BitVec.ofBool (u (ix1 j) == 1#32) := by
    rw [val_main_call1_v1_apply, val_main_v20_apply]
    have h : (idx_main_v20 (idx_main_call1_v1 (ix3 j n f)) : S42.Idx) = ix1 j := funext fun a => Fin.ext (by match a with | 0 => rfl)
    rw [h]
    rfl
  have hz : (val_main_call1_v2 (F := Ideal) (ix3 j n f) : EReal) = 0 := by
    pointwise [val_main_call1_v2, val_main_call1_v0, val_main_cst]
    show (constant (F := Ideal) S_ .f32 0x00000000#32 ix0 : EReal) = 0
    pointwise
  rw [hw, hz]
  by_cases h : u (ix1 j) = 1#32
  · rw [if_pos h, h]; rfl
  · rw [if_neg h, beq_false_of_ne h]; rfl

theorem result_apply (i : Fin 21504) (f : Fin 7168) : val_main_v25 (F := Ideal) e u X P Q (ix2 i f)
    = if u (ix1 ⟨i.val / 512, by omega⟩) = 1#32 then
        unit (fun k => X (ix2 i k)) (fun k => P (ix3 ⟨(e (ix1 ⟨i.val / 512, by omega⟩)).toNat, he _⟩ k f)) (fun k => Q (ix3 ⟨(e (ix1 ⟨i.val / 512, by omega⟩)).toNat, he _⟩ k f))
      else 0 := by
  refine (show _ = val_main_v24 (F := Ideal) e u X P Q (ix2 i f) from rfl).trans ?_
  rw [val_main_v24_apply]
  have h : (idx_main_v24 (ix2 i f) : S42x512x7168.Idx) = ix3 ⟨i.val / 512, by omega⟩ ⟨i.val % 512, by omega⟩ f := funext fun a => Fin.ext (by
    match a with
    | 0 => show (i.val * 7168 + f.val) / 3670016 = i.val / 512; omega
    | 1 => show (i.val * 7168 + f.val) / 7168 % 512 = i.val % 512; omega
    | 2 => show (i.val * 7168 + f.val) % 7168 = f.val; omega)
  rw [h, tile_apply e u X P Q he]
  have hi : row ⟨i.val / 512, by omega⟩ ⟨i.val % 512, by omega⟩ = i := Fin.ext (by show i.val / 512 * 512 + i.val % 512 = i.val; omega)
  rw [hi]

end

end Cert.UpRefIdeal.Hand
end
-- ==== Proof.UpEquation.lean ====
module

public import proofs.«01_k».proof.Defs
public import proofs.«01_k».proof.Proof.UpTables
public import proofs.«01_k».proof.Proof.UpTile
public import proofs.«01_k».proof.Proof.UpRefRead
public import proofs.«01_k».proof.Proof.Gen.UpRefIdeal.Run

@[expose] public section

set_option maxRecDepth 16384

/-! The experts' first product computes the reference's gated product of each row with its tile's expert. -/

noncomputable section

namespace Cert.Up.Hand

open Idealize.ShloMosaic Idealize.ShloMosaic.TcCoe Idealize.SL.Sem

theorem named_ideal (m : (ℓ : Loc Cert.UpIdeal.nD Cert.UpIdeal.τ Cert.UpIdeal.sig) → Buf (Elt Ideal) ℓ) (h : Cert.Pre_UpIdeal m) : Cert.UpIdeal.Hand.Named m where
  expert := Cert.Pre_tiles_named.Hand.expert _ _ _ _ _ _ (h Cert.UpIdeal.Hand.dev)
  used := Cert.Pre_tiles_named.Hand.used _ _ _ _ _ _ (h Cert.UpIdeal.Hand.dev)
  first := Cert.Pre_tiles_named.Hand.first _ _ _ _ _ _ (h Cert.UpIdeal.Hand.dev)

theorem algebraic : Cert.algebraic_UpIdeal_UpRefIdeal := by
  intro m g m' g' hp hargs
  have hm := named_ideal m hp
  refine ⟨fun c => (Cert.UpIdeal.Hand.dats m hm 0 c).arrAt (3 : Fin 4) (Cert.UpIdeal.Hand.cfgA m hm).N,
    (θ_run _ _ _).mono (fun r h => h.1) (Cert.UpIdeal.Hand.run_both m g hm), (θ_run _ _ _).mono (fun r h c => ?_) (Cert.UpRefIdeal.Value.run m' g')⟩
  obtain ⟨h1, h2⟩ := h c
  obtain ⟨a0, a1, a2, a3, a4, a5⟩ := hargs c
  refine ⟨h1.trans ?_, h2⟩
  beta_reduce
  rw [Cert.UpIdeal.Hand.final, Cert.UpRefIdeal.Read.val_main_v25_eq, a0, a2, a3, a4, a5]
  obtain rfl := Cert.UpIdeal.Hand.dev_eq c
  funext i
  rw [eq_ix2 i]
  refine (Cert.UpRefIdeal.Hand.result_apply _ _ _ _ _ hm.expert (i 0) (i 1)).trans ?_
  have hi : ∀ n h, (ix1 ⟨n, h⟩ : Cert.UpIdeal.S42.Idx) = Cert.UpIdeal.Hand.at42 n h := fun n h => funext fun a => Fin.ext (by fin_cases a; rfl)
  show _ = Cert.UpIdeal.Hand.value m hm Cert.UpIdeal.Hand.dev (i 0) (i 1)
  unfold Cert.UpIdeal.Hand.value Cert.UpIdeal.Hand.expertOf
  simp only [← hi]

end Cert.Up.Hand

namespace Cert.UpRefIdeal.Hand

open Cert.UpRefIdeal Idealize.ShloMosaic Idealize.SL.Sem

/-- The reference keeps its arguments, and has no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2, sem_eq_zero_of_no_sems (by decide) r.2⟩) (Value.run m ρ)

end Cert.UpRefIdeal.Hand
end
-- ==== Proof.lean ====
module

public import proofs.«01_k».proof.Defs
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectRefIdeal
public import proofs.«01_k».proof.Proof.Gen.Pre_finite
public import proofs.«01_k».proof.Proof.Gen.SelectIdeal.Value
public import proofs.«01_k».proof.Proof.Gen.SelectRefIdeal.Run
public import proofs.«01_k».proof.Proof.Gen.SelectRefIdeal.Read
public import proofs.«01_k».proof.Proof.SelectEquation
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.OutEquation
public import proofs.«01_k».proof.Proof.Gen.Ffn
public import proofs.«01_k».proof.Proof.Gen.Ffn.Launch
public import proofs.«01_k».proof.Proof.Gen.Ffn.Points
public import proofs.«01_k».proof.Proof.Gen.Ffn.Skeleton
public import proofs.«01_k».proof.Proof.Gen.FfnIdeal
public import proofs.«01_k».proof.Proof.Gen.FfnIdeal.Launch
public import proofs.«01_k».proof.Proof.Gen.FfnIdeal.Points
public import proofs.«01_k».proof.Proof.Gen.FfnIdeal.Skeleton
public import proofs.«01_k».proof.Proof.Gen.FfnIdeal.Frame
public import proofs.«01_k».proof.Proof.Gen.Ffn.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.FfnRun
public import proofs.«01_k».proof.Proof.FfnEquation
public import proofs.«01_k».proof.Proof.Gen.Proj
public import proofs.«01_k».proof.Proof.Gen.Proj.Launch
public import proofs.«01_k».proof.Proof.Gen.Proj.Points
public import proofs.«01_k».proof.Proof.Gen.Proj.Skeleton
public import proofs.«01_k».proof.Proof.Gen.Proj.Frame
public import proofs.«01_k».proof.Proof.Gen.ProjIdeal
public import proofs.«01_k».proof.Proof.Gen.ProjIdeal.Launch
public import proofs.«01_k».proof.Proof.Gen.ProjIdeal.Points
public import proofs.«01_k».proof.Proof.Gen.ProjIdeal.Skeleton
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.ProjRun
public import proofs.«01_k».proof.Proof.ProjEquation
public import proofs.«01_k».proof.Proof.Gen.Up
public import proofs.«01_k».proof.Proof.Gen.Up.Launch
public import proofs.«01_k».proof.Proof.Gen.Up.Skeleton
public import proofs.«01_k».proof.Proof.Gen.UpIdeal
public import proofs.«01_k».proof.Proof.Gen.UpIdeal.Launch
public import proofs.«01_k».proof.Proof.Gen.UpIdeal.Skeleton
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_tiles_named
public import proofs.«01_k».proof.Proof.UpResult
public import proofs.«01_k».proof.Proof.UpEquation
public import Idealize.ShloMosaic.Adequacy
public import Idealize.ShloMosaic.Init

@[expose] public section

noncomputable section

namespace Cert.Proof

open Idealize.ShloMosaic Idealize.SL.Sem Cert.Select

theorem named (m : (ℓ : Loc Cert.Up.nD Cert.Up.τ Cert.Up.sig) → Buf (Elt Bits) ℓ) (h : Cert.Pre_Up m) : Cert.Up.Hand.Named m where
  expert := Cert.Pre_tiles_named.Hand.expert _ _ _ _ _ _ (h Cert.Up.Hand.dev)
  used := Cert.Pre_tiles_named.Hand.used _ _ _ _ _ _ (h Cert.Up.Hand.dev)
  first := Cert.Pre_tiles_named.Hand.first _ _ _ _ _ _ (h Cert.Up.Hand.dev)

theorem claim : Cert.Claim := ⟨Cert.Select.Gen.facts, Cert.SelectIdeal.Gen.facts, Cert.SelectRefIdeal.Gen.facts,
  Cert.Out.Gen.facts, Cert.OutIdeal.Gen.facts, Cert.OutRefIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts,
  Cert.Up.Gen.facts, Cert.UpIdeal.Gen.facts, Cert.UpRefIdeal.Gen.facts, Cert.Pre_finite.Gen.facts, Cert.Pre_tiles_named.Gen.facts, by
  exact ⟨fun m ρ _ => Cert.Select.Gen.frame m ρ, fun m ρ _ => Cert.SelectIdeal.Gen.frame m ρ, fun m ρ _ => Cert.SelectIdeal.Gen.frame m ρ,
    fun m ρ _ => Cert.SelectRefIdeal.Hand.frame m ρ, fun m ρ _ => Cert.SelectRefIdeal.Hand.frame m ρ,
    fun m ρ _ => Cert.Out.Gen.frame m ρ, fun m ρ _ => Cert.OutIdeal.Gen.frame m ρ, fun m ρ _ => Cert.OutRefIdeal.Hand.frame m ρ,
    fun m ρ _ => Cert.Ffn.Hand.frame m ρ, fun m ρ _ => Cert.FfnIdeal.Hand.frame m ρ, fun m ρ _ => Cert.FfnRefIdeal.Hand.frame m ρ,
    fun m ρ _ => Cert.Proj.Hand.frame m ρ, fun m ρ _ => Cert.ProjIdeal.Hand.frame m ρ, fun m ρ _ => Cert.ProjRefIdeal.Hand.frame m ρ,
    fun m ρ h => Cert.Up.Hand.frame m ρ (named m h), fun m ρ h => Cert.UpIdeal.Hand.frame m ρ (Cert.Up.Hand.named_ideal m h),
    fun m ρ _ => Cert.UpRefIdeal.Hand.frame m ρ, fun m ρ _ => Cert.UpRefIdeal.Hand.frame m ρ,
    trivial, Cert.Select.Hand.algebraic, Cert.Out.Hand.preserves, Cert.Out.Hand.algebraic,
    Cert.Ffn.Hand.preserves, Cert.Ffn.Hand.algebraic,
    trivial, Cert.Proj.Hand.algebraic,
    trivial, Cert.Up.Hand.algebraic⟩⟩

end Cert.Proof

end
